-- ==== Defs.lean ====
def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdRefIdeal (m : (ℓ : Loc Cert.RetFwdRefIdeal.nD Cert.RetFwdRefIdeal.τ Cert.RetFwdRefIdeal.sig) → Buf (Elt Ideal) ℓ) : Prop :=
  True

def Pre_RetBwd (m : (ℓ : Loc Cert.RetBwd.nD Cert.RetBwd.τ Cert.RetBwd.sig) → Buf (Elt Bits) ℓ) : Prop :=
  True

def Pre_RetBwdIdeal (m : (ℓ : Loc Cert.RetBwdIdeal.nD Cert.RetBwdIdeal.τ Cert.RetBwdIdeal.sig) → Buf (Elt Ideal) ℓ) : Prop :=
  True

def Pre_RetBwdRefIdeal (m : (ℓ : Loc Cert.RetBwdRefIdeal.nD Cert.RetBwdRefIdeal.τ Cert.RetBwdRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_gains_and_weights_finite [hPre_gains_and_weights_finite : Cert.Pre_gains_and_weights_finite.Facts] (m : (ℓ : Loc Cert.RouterIdeal.nD Cert.RouterIdeal.τ Cert.RouterIdeal.sig) → Buf (Elt Ideal) ℓ) : Prop :=
  ∀ c : Dev Cert.RouterIdeal.nD,
    (Cert.Pre_gains_and_weights_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).1 = (fun _ => 1#1)
    ∧ (Cert.Pre_gains_and_weights_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_gains_and_weights_finite [hPre_gains_and_weights_finite : Cert.Pre_gains_and_weights_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_gains_and_weights_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).1 = (fun _ => 1#1)
    ∧ (Cert.Pre_gains_and_weights_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).2 = (fun _ => 1#1)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0)
      ∧ r.2.mem ((c.tc : Thread Cert.RetFwd.nD Cert.RetFwd.τ).loc Cert.RetFwd.main_arg1) = m ((c.tc : Thread Cert.RetFwd.nD Cert.RetFwd.τ).loc Cert.RetFwd.main_arg1)
      ∧ r.2.mem ((c.tc : Thread Cert.RetFwd.nD Cert.RetFwd.τ).loc Cert.RetFwd.main_arg2) = m ((c.tc : Thread Cert.RetFwd.nD Cert.RetFwd.τ).loc Cert.RetFwd.main_arg2))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1)
      ∧ r.2.mem ((c.tc : Thread Cert.RetFwdIdeal.nD Cert.RetFwdIdeal.τ).loc Cert.RetFwdIdeal.main_arg2) = m ((c.tc : Thread Cert.RetFwdIdeal.nD Cert.RetFwdIdeal.τ).loc Cert.RetFwdIdeal.main_arg2))
      ∧ r.2.sem = fun _ => 0)

def quiescent_RetFwdRefIdeal [hRetFwdRefIdeal : Cert.RetFwdRefIdeal.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0)
      ∧ r.2.mem ((c.tc : Thread Cert.RetFwdRefIdeal.nD Cert.RetFwdRefIdeal.τ).loc Cert.RetFwdRefIdeal.main_arg1) = m ((c.tc : Thread Cert.RetFwdRefIdeal.nD Cert.RetFwdRefIdeal.τ).loc Cert.RetFwdRefIdeal.main_arg1)
      ∧ r.2.mem ((c.tc : Thread Cert.RetFwdRefIdeal.nD Cert.RetFwdRefIdeal.τ).loc Cert.RetFwdRefIdeal.main_arg2) = m ((c.tc : Thread Cert.RetFwdRefIdeal.nD Cert.RetFwdRefIdeal.τ).loc Cert.RetFwdRefIdeal.main_arg2))
      ∧ r.2.sem = fun _ => 0)

def quiescent_RetBwd [hRetBwd : Cert.RetBwd.Facts] : Prop :=
  ∀ (m : (ℓ : Loc Cert.RetBwd.nD Cert.RetBwd.τ Cert.RetBwd.sig) → Buf (Elt Bits) ℓ) (g : Dev Cert.RetBwd.nD → PrngReg), Pre_RetBwd m →
    θ_run (Cert.RetBwd.defs (F := Bits)) (onTc (τ := Cert.RetBwd.τ) (Cert.RetBwd.main (F := Bits))) ⟨m, fun _ => 0, g⟩ (fun r => (∀ c : Dev Cert.RetBwd.nD,
      r.2.mem ((c.tc : Thread Cert.RetBwd.nD Cert.RetBwd.τ).loc Cert.RetBwd.main_arg0) = m ((c.tc : Thread Cert.RetBwd.nD Cert.RetBwd.τ).loc Cert.RetBwd.main_arg0)
      ∧ r.2.mem ((c.tc : Thread Cert.RetBwd.nD Cert.RetBwd.τ).loc Cert.RetBwd.main_arg1) = m ((c.tc : Thread Cert.RetBwd.nD Cert.RetBwd.τ).loc Cert.RetBwd.main_arg1)
      ∧ r.2.mem ((c.tc : Thread Cert.RetBwd.nD Cert.RetBwd.τ).loc Cert.RetBwd.main_arg2) = m ((c.tc : Thread Cert.RetBwd.nD Cert.RetBwd.τ).loc Cert.RetBwd.main_arg2)
      ∧ r.2.mem ((c.tc : Thread Cert.RetBwd.nD Cert.RetBwd.τ).loc Cert.RetBwd.main_arg3) = m ((c.tc : Thread Cert.RetBwd.nD Cert.RetBwd.τ).loc Cert.RetBwd.main_arg3))
      ∧ r.2.sem = fun _ => 0)

def quiescent_RetBwdIdeal [hRetBwdIdeal : Cert.RetBwdIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
      ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2)
      ∧ r.2.mem ((c.tc : Thread Cert.RetBwdIdeal.nD Cert.RetBwdIdeal.τ).loc Cert.RetBwdIdeal.main_arg3) = m ((c.tc : Thread Cert.RetBwdIdeal.nD Cert.RetBwdIdeal.τ).loc Cert.RetBwdIdeal.main_arg3))
      ∧ r.2.sem = fun _ => 0)

def quiescent_RetBwdRefIdeal [hRetBwdRefIdeal : Cert.RetBwdRefIdeal.Facts] : Prop :=
  ∀ (m : (ℓ : Loc Cert.RetBwdRefIdeal.nD Cert.RetBwdRefIdeal.τ Cert.RetBwdRefIdeal.sig) → Buf (Elt Ideal) ℓ) (g : Dev Cert.RetBwdRefIdeal.nD → PrngReg), Pre_RetBwdRefIdeal m →
    θ_run (Cert.RetBwdRefIdeal.defs (F := Ideal)) (onTc (τ := Cert.RetBwdRefIdeal.τ) (Cert.RetBwdRefIdeal.main (F := Ideal))) ⟨m, fun _ => 0, g⟩ (fun r => (∀ c : Dev Cert.RetBwdRefIdeal.nD,
      r.2.mem ((c.tc : Thread Cert.RetBwdRefIdeal.nD Cert.RetBwdRefIdeal.τ).loc Cert.RetBwdRefIdeal.main_arg0) = m ((c.tc : Thread Cert.RetBwdRefIdeal.nD Cert.RetBwdRefIdeal.τ).loc Cert.RetBwdRefIdeal.main_arg0)
      ∧ r.2.mem ((c.tc : Thread Cert.RetBwdRefIdeal.nD Cert.RetBwdRefIdeal.τ).loc Cert.RetBwdRefIdeal.main_arg1) = m ((c.tc : Thread Cert.RetBwdRefIdeal.nD Cert.RetBwdRefIdeal.τ).loc Cert.RetBwdRefIdeal.main_arg1)
      ∧ r.2.mem ((c.tc : Thread Cert.RetBwdRefIdeal.nD Cert.RetBwdRefIdeal.τ).loc Cert.RetBwdRefIdeal.main_arg2) = m ((c.tc : Thread Cert.RetBwdRefIdeal.nD Cert.RetBwdRefIdeal.τ).loc Cert.RetBwdRefIdeal.main_arg2)
      ∧ r.2.mem ((c.tc : Thread Cert.RetBwdRefIdeal.nD Cert.RetBwdRefIdeal.τ).loc Cert.RetBwdRefIdeal.main_arg3) = m ((c.tc : Thread Cert.RetBwdRefIdeal.nD Cert.RetBwdRefIdeal.τ).loc Cert.RetBwdRefIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_gains_and_weights_finite [hRouterIdeal : Cert.RouterIdeal.Facts] [hPre_gains_and_weights_finite : Cert.Pre_gains_and_weights_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_gains_and_weights_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_gains_and_weights_finite [hRouterRefIdeal : Cert.RouterRefIdeal.Facts] [hPre_gains_and_weights_finite : Cert.Pre_gains_and_weights_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_gains_and_weights_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def preserves_RetFwd_RetFwdIdeal : Prop :=
  True

def algebraic_RetFwdIdeal_RetFwdRefIdeal [hRetFwdIdeal : Cert.RetFwdIdeal.Facts] [hRetFwdRefIdeal : Cert.RetFwdRefIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdRefIdeal.nD Cert.RetFwdRefIdeal.τ Cert.RetFwdRefIdeal.sig) → Buf (Elt Ideal) ℓ) (g' : Dev Cert.RetFwdRefIdeal.nD → PrngReg), Pre_RetFwdIdeal m →
    (∀ c : Dev Cert.RetFwdIdeal.nD,
      m' ((c.tc : Thread Cert.RetFwdRefIdeal.nD Cert.RetFwdRefIdeal.τ).loc Cert.RetFwdRefIdeal.main_arg0) = m ((c.tc : Thread Cert.RetFwdIdeal.nD Cert.RetFwdIdeal.τ).loc Cert.RetFwdIdeal.main_arg0)
      ∧ m' ((c.tc : Thread Cert.RetFwdRefIdeal.nD Cert.RetFwdRefIdeal.τ).loc Cert.RetFwdRefIdeal.main_arg1) = m ((c.tc : Thread Cert.RetFwdIdeal.nD Cert.RetFwdIdeal.τ).loc Cert.RetFwdIdeal.main_arg1)
      ∧ m' ((c.tc : Thread Cert.RetFwdRefIdeal.nD Cert.RetFwdRefIdeal.τ).loc Cert.RetFwdRefIdeal.main_arg2) = m ((c.tc : Thread Cert.RetFwdIdeal.nD Cert.RetFwdIdeal.τ).loc Cert.RetFwdIdeal.main_arg2)) →
    ∃ (v0 : (c : Dev Cert.RetFwdIdeal.nD) → Buf (Elt Ideal) ((c.tc : Thread Cert.RetFwdIdeal.nD Cert.RetFwdIdeal.τ).loc Cert.RetFwdIdeal.main_v12)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v12) = v0 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
          ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1)
          ∧ r.2.mem ((c.tc : Thread Cert.RetFwdIdeal.nD Cert.RetFwdIdeal.τ).loc Cert.RetFwdIdeal.main_arg2) = m ((c.tc : Thread Cert.RetFwdIdeal.nD Cert.RetFwdIdeal.τ).loc Cert.RetFwdIdeal.main_arg2))
      ∧ θ_run (Cert.RetFwdRefIdeal.defs (F := Ideal)) (onTc (τ := Cert.RetFwdRefIdeal.τ) (Cert.RetFwdRefIdeal.main (F := Ideal))) ⟨m', fun _ => 0, g'⟩ (fun r => ∀ c : Dev Cert.RetFwdRefIdeal.nD,
          r.2.mem ((c.tc : Thread Cert.RetFwdRefIdeal.nD Cert.RetFwdRefIdeal.τ).loc Cert.RetFwdRefIdeal.main_v144) = v0 c
          ∧ r.2.mem ((c.tc : Thread Cert.RetFwdRefIdeal.nD Cert.RetFwdRefIdeal.τ).loc Cert.RetFwdRefIdeal.main_arg0) = m' ((c.tc : Thread Cert.RetFwdRefIdeal.nD Cert.RetFwdRefIdeal.τ).loc Cert.RetFwdRefIdeal.main_arg0)
          ∧ r.2.mem ((c.tc : Thread Cert.RetFwdRefIdeal.nD Cert.RetFwdRefIdeal.τ).loc Cert.RetFwdRefIdeal.main_arg1) = m' ((c.tc : Thread Cert.RetFwdRefIdeal.nD Cert.RetFwdRefIdeal.τ).loc Cert.RetFwdRefIdeal.main_arg1)
          ∧ r.2.mem ((c.tc : Thread Cert.RetFwdRefIdeal.nD Cert.RetFwdRefIdeal.τ).loc Cert.RetFwdRefIdeal.main_arg2) = m' ((c.tc : Thread Cert.RetFwdRefIdeal.nD Cert.RetFwdRefIdeal.τ).loc Cert.RetFwdRefIdeal.main_arg2))

def preserves_RetBwd_RetBwdIdeal : Prop :=
  True

def algebraic_RetBwdIdeal_RetBwdRefIdeal [hRetBwdIdeal : Cert.RetBwdIdeal.Facts] [hRetBwdRefIdeal : Cert.RetBwdRefIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg)
    (m' : (ℓ : Loc Cert.RetBwdRefIdeal.nD Cert.RetBwdRefIdeal.τ Cert.RetBwdRefIdeal.sig) → Buf (Elt Ideal) ℓ) (g' : Dev Cert.RetBwdRefIdeal.nD → PrngReg), Pre_RetBwdIdeal m →
    (∀ c : Dev Cert.RetBwdIdeal.nD,
      m' ((c.tc : Thread Cert.RetBwdRefIdeal.nD Cert.RetBwdRefIdeal.τ).loc Cert.RetBwdRefIdeal.main_arg0) = m ((c.tc : Thread Cert.RetBwdIdeal.nD Cert.RetBwdIdeal.τ).loc Cert.RetBwdIdeal.main_arg0)
      ∧ m' ((c.tc : Thread Cert.RetBwdRefIdeal.nD Cert.RetBwdRefIdeal.τ).loc Cert.RetBwdRefIdeal.main_arg1) = m ((c.tc : Thread Cert.RetBwdIdeal.nD Cert.RetBwdIdeal.τ).loc Cert.RetBwdIdeal.main_arg1)
      ∧ m' ((c.tc : Thread Cert.RetBwdRefIdeal.nD Cert.RetBwdRefIdeal.τ).loc Cert.RetBwdRefIdeal.main_arg2) = m ((c.tc : Thread Cert.RetBwdIdeal.nD Cert.RetBwdIdeal.τ).loc Cert.RetBwdIdeal.main_arg2)
      ∧ m' ((c.tc : Thread Cert.RetBwdRefIdeal.nD Cert.RetBwdRefIdeal.τ).loc Cert.RetBwdRefIdeal.main_arg3) = m ((c.tc : Thread Cert.RetBwdIdeal.nD Cert.RetBwdIdeal.τ).loc Cert.RetBwdIdeal.main_arg3)) →
    ∃ (v0 : (c : Dev Cert.RetBwdIdeal.nD) → Buf (Elt Ideal) ((c.tc : Thread Cert.RetBwdIdeal.nD Cert.RetBwdIdeal.τ).loc Cert.RetBwdIdeal.main_v7)),
      θ_run (Cert.RetBwdIdeal.defs (F := Ideal)) (onTc (τ := Cert.RetBwdIdeal.τ) (Cert.RetBwdIdeal.main (F := Ideal))) ⟨m, fun _ => 0, g⟩ (fun r => ∀ c : Dev Cert.RetBwdIdeal.nD,
          r.2.mem ((c.tc : Thread Cert.RetBwdIdeal.nD Cert.RetBwdIdeal.τ).loc Cert.RetBwdIdeal.main_v7) = v0 c
          ∧ r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
          ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
          ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2)
          ∧ r.2.mem ((c.tc : Thread Cert.RetBwdIdeal.nD Cert.RetBwdIdeal.τ).loc Cert.RetBwdIdeal.main_arg3) = m ((c.tc : Thread Cert.RetBwdIdeal.nD Cert.RetBwdIdeal.τ).loc Cert.RetBwdIdeal.main_arg3))
      ∧ θ_run (Cert.RetBwdRefIdeal.defs (F := Ideal)) (onTc (τ := Cert.RetBwdRefIdeal.τ) (Cert.RetBwdRefIdeal.main (F := Ideal))) ⟨m', fun _ => 0, g'⟩ (fun r => ∀ c : Dev Cert.RetBwdRefIdeal.nD,
          r.2.mem ((c.tc : Thread Cert.RetBwdRefIdeal.nD Cert.RetBwdRefIdeal.τ).loc Cert.RetBwdRefIdeal.main_v101) = v0 c
          ∧ r.2.mem ((c.tc : Thread Cert.RetBwdRefIdeal.nD Cert.RetBwdRefIdeal.τ).loc Cert.RetBwdRefIdeal.main_arg0) = m' ((c.tc : Thread Cert.RetBwdRefIdeal.nD Cert.RetBwdRefIdeal.τ).loc Cert.RetBwdRefIdeal.main_arg0)
          ∧ r.2.mem ((c.tc : Thread Cert.RetBwdRefIdeal.nD Cert.RetBwdRefIdeal.τ).loc Cert.RetBwdRefIdeal.main_arg1) = m' ((c.tc : Thread Cert.RetBwdRefIdeal.nD Cert.RetBwdRefIdeal.τ).loc Cert.RetBwdRefIdeal.main_arg1)
          ∧ r.2.mem ((c.tc : Thread Cert.RetBwdRefIdeal.nD Cert.RetBwdRefIdeal.τ).loc Cert.RetBwdRefIdeal.main_arg2) = m' ((c.tc : Thread Cert.RetBwdRefIdeal.nD Cert.RetBwdRefIdeal.τ).loc Cert.RetBwdRefIdeal.main_arg2)
          ∧ r.2.mem ((c.tc : Thread Cert.RetBwdRefIdeal.nD Cert.RetBwdRefIdeal.τ).loc Cert.RetBwdRefIdeal.main_arg3) = m' ((c.tc : Thread Cert.RetBwdRefIdeal.nD Cert.RetBwdRefIdeal.τ).loc Cert.RetBwdRefIdeal.main_arg3))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v8) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v42) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v29) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v17) = v0 c
          ∧ r.2.mem ((c.tc : Thread Cert.OutProjRefIdeal.nD Cert.OutProjRefIdeal.τ).loc Cert.OutProjRefIdeal.main_v20) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Router_RouterIdeal : Prop :=
  True

def algebraic_RouterIdeal_RouterRefIdeal_pre_gains_and_weights_finite [hRouterIdeal : Cert.RouterIdeal.Facts] [hRouterRefIdeal : Cert.RouterRefIdeal.Facts] [hPre_gains_and_weights_finite : Cert.Pre_gains_and_weights_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_gains_and_weights_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v13) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def Claim : Prop :=
  ∃ (hRetFwd : Cert.RetFwd.Facts) (hRetFwdIdeal : Cert.RetFwdIdeal.Facts) (hRetFwdRefIdeal : Cert.RetFwdRefIdeal.Facts) (hRetBwd : Cert.RetBwd.Facts) (hRetBwdIdeal : Cert.RetBwdIdeal.Facts) (hRetBwdRefIdeal : Cert.RetBwdRefIdeal.Facts) (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hNorm : Cert.Norm.Facts) (hNormIdeal : Cert.NormIdeal.Facts) (hNormRefIdeal : Cert.NormRefIdeal.Facts) (hOutProj : Cert.OutProj.Facts) (hOutProjIdeal : Cert.OutProjIdeal.Facts) (hOutProjRefIdeal : Cert.OutProjRefIdeal.Facts) (hRouter : Cert.Router.Facts) (hRouterIdeal : Cert.RouterIdeal.Facts) (hRouterRefIdeal : Cert.RouterRefIdeal.Facts) (hPre_gains_and_weights_finite : Cert.Pre_gains_and_weights_finite.Facts),
    quiescent_RetFwd (hRetFwd := hRetFwd)
    ∧ quiescent_RetFwdIdeal (hRetFwdIdeal := hRetFwdIdeal)
    ∧ quiescent_RetFwdRefIdeal (hRetFwdRefIdeal := hRetFwdRefIdeal)
    ∧ quiescent_RetBwd (hRetBwd := hRetBwd)
    ∧ quiescent_RetBwdIdeal (hRetBwdIdeal := hRetBwdIdeal)
    ∧ quiescent_RetBwdRefIdeal (hRetBwdRefIdeal := hRetBwdRefIdeal)
    ∧ quiescent_Moe (hMoe := hMoe)
    ∧ quiescent_MoeIdeal (hMoeIdeal := hMoeIdeal)
    ∧ quiescent_MoeRefIdeal (hMoeRefIdeal := hMoeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Norm (hNorm := hNorm)
    ∧ quiescent_NormIdeal (hNormIdeal := hNormIdeal)
    ∧ quiescent_NormRefIdeal (hNormRefIdeal := hNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Router (hRouter := hRouter)
    ∧ quiescent_RouterIdeal (hRouterIdeal := hRouterIdeal)
    ∧ quiescent_RouterIdeal_pre_gains_and_weights_finite (hRouterIdeal := hRouterIdeal) (hPre_gains_and_weights_finite := hPre_gains_and_weights_finite)
    ∧ quiescent_RouterRefIdeal (hRouterRefIdeal := hRouterRefIdeal)
    ∧ quiescent_RouterRefIdeal_pre_gains_and_weights_finite (hRouterRefIdeal := hRouterRefIdeal) (hPre_gains_and_weights_finite := hPre_gains_and_weights_finite)
    ∧ preserves_RetFwd_RetFwdIdeal
    ∧ algebraic_RetFwdIdeal_RetFwdRefIdeal (hRetFwdIdeal := hRetFwdIdeal) (hRetFwdRefIdeal := hRetFwdRefIdeal)
    ∧ preserves_RetBwd_RetBwdIdeal
    ∧ algebraic_RetBwdIdeal_RetBwdRefIdeal (hRetBwdIdeal := hRetBwdIdeal) (hRetBwdRefIdeal := hRetBwdRefIdeal)
    ∧ preserves_Moe_MoeIdeal
    ∧ algebraic_MoeIdeal_MoeRefIdeal (hMoeIdeal := hMoeIdeal) (hMoeRefIdeal := hMoeRefIdeal)
    ∧ preserves_InProj_InProjIdeal
    ∧ algebraic_InProjIdeal_InProjRefIdeal (hInProjIdeal := hInProjIdeal) (hInProjRefIdeal := hInProjRefIdeal)
    ∧ preserves_Norm_NormIdeal
    ∧ algebraic_NormIdeal_NormRefIdeal (hNormIdeal := hNormIdeal) (hNormRefIdeal := hNormRefIdeal)
    ∧ preserves_OutProj_OutProjIdeal
    ∧ algebraic_OutProjIdeal_OutProjRefIdeal (hOutProjIdeal := hOutProjIdeal) (hOutProjRefIdeal := hOutProjRefIdeal)
    ∧ preserves_Router_RouterIdeal
    ∧ algebraic_RouterIdeal_RouterRefIdeal_pre_gains_and_weights_finite (hRouterIdeal := hRouterIdeal) (hRouterRefIdeal := hRouterRefIdeal) (hPre_gains_and_weights_finite := hPre_gains_and_weights_finite)
-- ==== Pre_gains_and_weights_finite.lean ====
abbrev S16384x4096 : Shape := ⟨2, ![16384, 4096]⟩
abbrev S4096 : Shape := ⟨1, ![4096]⟩
abbrev S4096x16 : Shape := ⟨2, ![4096, 16]⟩
abbrev S_ : Shape := ⟨0, ![]⟩

class Facts : Prop where
  bcast_S_S4096 : S_.BroadcastsInDim S4096 (![] : Fin 0 → Fin S4096.rank)
  bcast_S_S4096x16 : S_.BroadcastsInDim S4096x16 (![] : Fin 0 → Fin S4096x16.rank)

variable [Facts]

def fn {F : FTy → Type} [FloatOps F] (main_arg0 : FVec F S16384x4096 .f32) (main_arg1 : FVec F S4096 .f32) (main_arg2 : FVec F S4096x16 .f32) : IVec S4096 1 × IVec S4096x16 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_v3 : FVec F S4096x16 .f32 := Host.absf main_arg2
  let main_cst_0 : FVec F S_ .f32 := constant S_ .f32 0x7F800000#32
  let main_v4 : FVec F S4096x16 .f32 := broadcastInDim S4096x16 ![] bcast_S_S4096x16 main_cst_0
  let main_v5 : IVec S4096x16 1 := cmpf .olt main_v3 main_v4
  (main_v2, main_v5)
-- ==== RetFwd.lean ====
abbrev S24576x12288 : Shape := ⟨2, ![24576, 12288]⟩
abbrev S8 : Shape := ⟨1, ![8]⟩
abbrev S_ : Shape := ⟨0, ![]⟩
abbrev S24576x2048 : Shape := ⟨2, ![24576, 2048]⟩
abbrev S128x1024 : Shape := ⟨2, ![128, 1024]⟩
abbrev S128x2048 : Shape := ⟨2, ![128, 2048]⟩
abbrev S8x128x128 : Shape := ⟨3, ![8, 128, 128]⟩
abbrev S8x128x256 : Shape := ⟨3, ![8, 128, 256]⟩
abbrev S128x128 : Shape := ⟨2, ![128, 128]⟩
abbrev S1 : Shape := ⟨1, ![1]⟩
abbrev S1x128x128 : Shape := ⟨3, ![1, 128, 128]⟩
abbrev S128x1 : Shape := ⟨2, ![128, 1]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 18
  | .vmem => 10
  | .smem => 2
  | _ => 0

abbrev bufTy : (tb : Table) → Fin (tcTables nBuf tb) → BufTy
  | .hbm, ⟨0, _⟩ => ⟨S24576x12288, .f32⟩
  | .hbm, ⟨1, _⟩ => ⟨S8, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S24576x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128x128, .f32⟩
  | .local _ .vmem, ⟨9, _⟩ => ⟨S8x128x256, .f32⟩
  | .local _ .smem, ⟨0, _⟩ => ⟨S8, .f32⟩
  | .local _ .smem, ⟨1, _⟩ => ⟨S8, .f32⟩
  | _, _ => ⟨S24576x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![192], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RetFwdRefIdeal.lean ====
abbrev S24576x12288 : Shape := ⟨2, ![24576, 12288]⟩
abbrev S8 : Shape := ⟨1, ![8]⟩
abbrev S24576x1024 : Shape := ⟨2, ![24576, 1024]⟩
abbrev S192x128x8x128 : Shape := ⟨4, ![192, 128, 8, 128]⟩
abbrev S24576x2048 : Shape := ⟨2, ![24576, 2048]⟩
abbrev S192x128x8x256 : Shape := ⟨4, ![192, 128, 8, 256]⟩
abbrev S_ : Shape := ⟨0, ![]⟩
abbrev S128 : Shape := ⟨1, ![128]⟩
abbrev S128x1 : Shape := ⟨2, ![128, 1]⟩
abbrev S1x8 : Shape := ⟨2, ![1, 8]⟩
abbrev S128x8 : Shape := ⟨2, ![128, 8]⟩
abbrev S1x128x8x1 : Shape := ⟨4, ![1, 128, 8, 1]⟩
abbrev S192x8x128x256 : Shape := ⟨4, ![192, 8, 128, 256]⟩
abbrev S1x8x1x1 : Shape := ⟨4, ![1, 8, 1, 1]⟩
abbrev S128x8x128x256 : Shape := ⟨4, ![128, 8, 128, 256]⟩
abbrev S32x8x128x256 : Shape := ⟨4, ![32, 8, 128, 256]⟩
abbrev S3x8x128x256 : Shape := ⟨4, ![3, 8, 128, 256]⟩
abbrev S128x1x8x128x256 : Shape := ⟨5, ![128, 1, 8, 128, 256]⟩
abbrev S128x3x8x128x256 : Shape := ⟨5, ![128, 3, 8, 128, 256]⟩
abbrev S1x3x8x128x256 : Shape := ⟨5, ![1, 3, 8, 128, 256]⟩
abbrev S32x1x8x128x256 : Shape := ⟨5, ![32, 1, 8, 128, 256]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S192x8x128x128 : Shape := ⟨4, ![192, 8, 128, 128]⟩
abbrev S1x8x128x128 : Shape := ⟨4, ![1, 8, 128, 128]⟩
abbrev S192x8x256x128 : Shape := ⟨4, ![192, 8, 256, 128]⟩

abbrev nBuf : Space → Nat
  | .hbm => 195
  | .vmem => 0
  | .smem => 0
  | _ => 0

abbrev hbmTy0_0 (i : Nat) : BufTy := match i % 128 with
  | 0 => ⟨S24576x12288, .f32⟩
  | 1 => ⟨S8, .f32⟩
  | 2 => ⟨S8, .f32⟩
  | 3 => ⟨S24576x1024, .f32⟩
  | 4 => ⟨S192x128x8x128, .f32⟩
  | 5 => ⟨S24576x1024, .f32⟩
  | 6 => ⟨S192x128x8x128, .f32⟩
  | 7 => ⟨S24576x2048, .f32⟩
  | 8 => ⟨S192x128x8x256, .f32⟩
  | 9 => ⟨S8, .f32⟩
  | 10 => ⟨S_, .f32⟩
  | 11 => ⟨S8, .f32⟩
  | 12 => ⟨S8, .f32⟩
  | 13 => ⟨S8, .f32⟩
  | 14 => ⟨S8, .f32⟩
  | 15 => ⟨S8, .f32⟩
  | 16 => ⟨S128, .i32⟩
  | 17 => ⟨S128, .f32⟩
  | 18 => ⟨S_, .f32⟩
  | 19 => ⟨S128, .f32⟩
  | 20 => ⟨S128, .f32⟩
  | 21 => ⟨S128x1, .f32⟩
  | 22 => ⟨S1x8, .f32⟩
  | 23 => ⟨S128x8, .f32⟩
  | 24 => ⟨S128x8, .f32⟩
  | 25 => ⟨S128x8, .f32⟩
  | 26 => ⟨S128x8, .f32⟩
  | 27 => ⟨S1x128x8x1, .f32⟩
  | 28 => ⟨S192x128x8x128, .f32⟩
  | 29 => ⟨S192x128x8x128, .f32⟩
  | 30 => ⟨S192x8x128x256, .f32⟩
  | 31 => ⟨S_, .f32⟩
  | 32 => ⟨S8, .f32⟩
  | 33 => ⟨S8, .f32⟩
  | 34 => ⟨S8, .f32⟩
  | 35 => ⟨S1x8x1x1, .f32⟩
  | 36 => ⟨S128x8x128x256, .f32⟩
  | 37 => ⟨S_, .f32⟩
  | 38 => ⟨S128x8x128x256, .f32⟩
  | 39 => ⟨S32x8x128x256, .f32⟩
  | 40 => ⟨S_, .f32⟩
  | 41 => ⟨S128x8x128x256, .f32⟩
  | 42 => ⟨S32x8x128x256, .f32⟩
  | 43 => ⟨S_, .f32⟩
  | 44 => ⟨S128x8x128x256, .f32⟩
  | 45 => ⟨S_, .f32⟩
  | 46 => ⟨S3x8x128x256, .f32⟩
  | 47 => ⟨S128x1x8x128x256, .f32⟩
  | 48 => ⟨S128x1x8x128x256, .f32⟩
  | 49 => ⟨S128x1x8x128x256, .f32⟩
  | 50 => ⟨S128x3x8x128x256, .f32⟩
  | 51 => ⟨S_, .f32⟩
  | 52 => ⟨S128x3x8x128x256, .f32⟩
  | 53 => ⟨S_, .i32⟩
  | 54 => ⟨S128x3x8x128x256, .f32⟩
  | 55 => ⟨S1x8x1x1, .f32⟩
  | 56 => ⟨S_, .i32⟩
  | 57 => ⟨S3x8x128x256, .f32⟩
  | 58 => ⟨S128x3x8x128x256, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S1x3x8x128x256, .f32⟩
  | 66 => ⟨S3x8x128x256, .f32⟩
  | 67 => ⟨S3x8x128x256, .f32⟩
  | 68 => ⟨S3x8x128x256, .f32⟩
  | 69 => ⟨S3x8x128x256, .f32⟩
  | 70 => ⟨S1x3x8x128x256, .f32⟩
  | 71 => ⟨S_, .i32⟩
  | 72 => ⟨S_, .i32⟩
  | 73 => ⟨S_, .i32⟩
  | 74 => ⟨S_, .i32⟩
  | 75 => ⟨S128x3x8x128x256, .f32⟩
  | 76 => ⟨S_, .i32⟩
  | 77 => ⟨S_, .i32⟩
  | 78 => ⟨S128x1x8x128x256, .f32⟩
  | 79 => ⟨S128x8x128x256, .f32⟩
  | 80 => ⟨S32x1x8x128x256, .f32⟩
  | 81 => ⟨S32x8x128x256, .f32⟩
  | 82 => ⟨S32x1x8x128x256, .f32⟩
  | 83 => ⟨S32x8x128x256, .f32⟩
  | 84 => ⟨S192x8x128x256, .f32⟩
  | 85 => ⟨S24576x1024, .f32⟩
  | 86 => ⟨S192x128x8x128, .f32⟩
  | 87 => ⟨S24576x1024, .f32⟩
  | 88 => ⟨S192x128x8x128, .f32⟩
  | 89 => ⟨S24576x2048, .f32⟩
  | 90 => ⟨S192x128x8x256, .f32⟩
  | 91 => ⟨S8, .f32⟩
  | 92 => ⟨S_, .f32⟩
  | 93 => ⟨S8, .f32⟩
  | 94 => ⟨S8, .f32⟩
  | 95 => ⟨S8, .f32⟩
  | 96 => ⟨S8, .f32⟩
  | 97 => ⟨S8, .f32⟩
  | 98 => ⟨S128, .i32⟩
  | 99 => ⟨S128x1, .i32⟩
  | 100 => ⟨S1x128, .i32⟩
  | 101 => ⟨S128x128, .i32⟩
  | 102 => ⟨S128x128, .i32⟩
  | 103 => ⟨S128x128, .i32⟩
  | 104 => ⟨S_, .i32⟩
  | 105 => ⟨S128x128, .i32⟩
  | 106 => ⟨S128x128, .i1⟩
  | 107 => ⟨S1x128x128, .i1⟩
  | 108 => ⟨S128x128, .f32⟩
  | 109 => ⟨S_, .f32⟩
  | 110 => ⟨S128x128, .f32⟩
  | 111 => ⟨S128x128, .f32⟩
  | 112 => ⟨S1x128x128, .f32⟩
  | 113 => ⟨S8x1x1, .f32⟩
  | 114 => ⟨S8x128x128, .f32⟩
  | 115 => ⟨S8x128x128, .f32⟩
  | 116 => ⟨S8x128x128, .f32⟩
  | 117 => ⟨S8x128x128, .f32⟩
  | 118 => ⟨S_, .f32⟩
  | 119 => ⟨S_, .f32⟩
  | 120 => ⟨S8x128x128, .i1⟩
  | 121 => ⟨S8x128x128, .f32⟩
  | 122 => ⟨S8x128x128, .f32⟩
  | 123 => ⟨S192x8x128x128, .f32⟩
  | 124 => ⟨S1x8x128x128, .f32⟩
  | 125 => ⟨S192x8x128x128, .f32⟩
  | 126 => ⟨S192x8x128x128, .f32⟩
  | 127 => ⟨S192x8x256x128, .f32⟩
  | _ => ⟨S24576x12288, .f32⟩

abbrev hbmTy0_1 (i : Nat) : BufTy := match i % 128 with
  | 0 => ⟨S192x128x8x256, .f32⟩
  | 1 => ⟨S128, .i32⟩
  | 2 => ⟨S128, .f32⟩
  | 3 => ⟨S_, .f32⟩
  | 4 => ⟨S128, .f32⟩
  | 5 => ⟨S128, .f32⟩
  | 6 => ⟨S128x1, .f32⟩
  | 7 => ⟨S1x8, .f32⟩
  | 8 => ⟨S128x8, .f32⟩
  | 9 => ⟨S128x8, .f32⟩
  | 10 => ⟨S128x8, .f32⟩
  | 11 => ⟨S128x8, .f32⟩
  | 12 => ⟨S192x8x256x128, .f32⟩
  | 13 => ⟨S192x128x8x256, .f32⟩
  | 14 => ⟨S1x128x8x1, .f32⟩
  | 15 => ⟨S192x128x8x256, .f32⟩
  | 16 => ⟨S192x128x8x256, .f32⟩
  | 17 => ⟨S192x128x8x256, .f32⟩
  | 18 => ⟨S24576x2048, .f32⟩
  | 19 => ⟨S24576x12288, .f32⟩
  | 20 => ⟨S24576x1024, .f32⟩
  | 21 => ⟨S192x128x8x128, .f32⟩
  | 22 => ⟨S24576x1024, .f32⟩
  | 23 => ⟨S192x128x8x128, .f32⟩
  | 24 => ⟨S24576x2048, .f32⟩
  | 25 => ⟨S192x128x8x256, .f32⟩
  | 26 => ⟨S8, .f32⟩
  | 27 => ⟨S_, .f32⟩
  | 28 => ⟨S8, .f32⟩
  | 29 => ⟨S8, .f32⟩
  | 30 => ⟨S8, .f32⟩
  | 31 => ⟨S8, .f32⟩
  | 32 => ⟨S8, .f32⟩
  | 33 => ⟨S128, .i32⟩
  | 34 => ⟨S128x1, .i32⟩
  | 35 => ⟨S1x128, .i32⟩
  | 36 => ⟨S128x128, .i32⟩
  | 37 => ⟨S128x128, .i32⟩
  | 38 => ⟨S128x128, .i32⟩
  | 39 => ⟨S_, .i32⟩
  | 40 => ⟨S128x128, .i32⟩
  | 41 => ⟨S128x128, .i1⟩
  | 42 => ⟨S1x128x128, .i1⟩
  | 43 => ⟨S128x128, .f32⟩
  | 44 => ⟨S_, .f32⟩
  | 45 => ⟨S128x128, .f32⟩
  | 46 => ⟨S128x128, .f32⟩
  | 47 => ⟨S1x128x128, .f32⟩
  | 48 => ⟨S8x1x1, .f32⟩
  | 49 => ⟨S8x128x128, .f32⟩
  | 50 => ⟨S8x128x128, .f32⟩
  | 51 => ⟨S8x128x128, .f32⟩
  | 52 => ⟨S8x128x128, .f32⟩
  | 53 => ⟨S_, .f32⟩
  | 54 => ⟨S_, .f32⟩
  | 55 => ⟨S8x128x128, .i1⟩
  | 56 => ⟨S8x128x128, .f32⟩
  | 57 => ⟨S8x128x128, .f32⟩
  | 58 => ⟨S192x8x128x128, .f32⟩
  | 59 => ⟨S1x8x128x128, .f32⟩
  | 60 => ⟨S192x8x128x128, .f32⟩
  | 61 => ⟨S192x8x128x128, .f32⟩
  | 62 => ⟨S192x8x256x128, .f32⟩
  | 63 => ⟨S192x128x8x256, .f32⟩
  | 64 => ⟨S24576x2048, .f32⟩
  | 65 => ⟨S24576x2048, .f32⟩
  | 66 => ⟨S24576x2048, .f32⟩
  | _ => ⟨S24576x12288, .f32⟩

abbrev hbmTy (i : Nat) : BufTy := match i / 128 with
  | 0 => hbmTy0_0 i
  | 1 => hbmTy0_1 i
  | _ => ⟨S24576x12288, .f32⟩

abbrev bufTy : (tb : Table) → Fin (tcTables nBuf tb) → BufTy
  | .hbm, ⟨i, _⟩ => hbmTy i
  | _, _ => ⟨S24576x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_c : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev main_while0c_c_20 : Ref sig .tc := ⟨.hbm, 59, rfl⟩
abbrev main_while0c_v145 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_c_2 : Ref sig .tc := ⟨.hbm, 64, rfl⟩
abbrev main_while0b_call0_v0 : Ref sig .tc := ⟨.hbm, 65, rfl⟩
abbrev main_while0b_v145 : Ref sig .tc := ⟨.hbm, 66, rfl⟩
abbrev main_while0b_v146 : Ref sig .tc := ⟨.hbm, 67, rfl⟩
abbrev main_while0b_v147 : Ref sig .tc := ⟨.hbm, 68, rfl⟩
abbrev main_while0b_v148 : Ref sig .tc := ⟨.hbm, 69, rfl⟩
abbrev main_while0b_call1_v0 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_v149 : Ref sig .tc := ⟨.hbm, 75, rfl⟩
abbrev main_while0b_c_20 : Ref sig .tc := ⟨.hbm, 76, rfl⟩
abbrev main_while0b_v150 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_7 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_8 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_9 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_10 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_11 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_12 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_c_13 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_14 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_15 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩

abbrev nD : Nat := 1
abbrev τ : Topo := Topo.v7x

variable {F : FTy → Type} [FloatOps F]

abbrev main_while0_count : Scf.Loop 32 := ⟨0#32, 128#32, 1#32⟩
-- ==== RetBwd.lean ====
abbrev S24576x12288 : Shape := ⟨2, ![24576, 12288]⟩
abbrev S8 : Shape := ⟨1, ![8]⟩
abbrev S24576x2048 : Shape := ⟨2, ![24576, 2048]⟩
abbrev S2048 : Shape := ⟨1, ![2048]⟩
abbrev S_ : Shape := ⟨0, ![]⟩
abbrev S1x2048 : Shape := ⟨2, ![1, 2048]⟩
abbrev S128x1024 : Shape := ⟨2, ![128, 1024]⟩
abbrev S128x2048 : Shape := ⟨2, ![128, 2048]⟩
abbrev S8x128x256 : Shape := ⟨3, ![8, 128, 256]⟩
abbrev S128x1 : Shape := ⟨2, ![128, 1]⟩
abbrev S1 : Shape := ⟨1, ![1]⟩
abbrev S128x128 : Shape := ⟨2, ![128, 128]⟩
abbrev S128x256 : Shape := ⟨2, ![128, 256]⟩
abbrev S1x128x256 : Shape := ⟨3, ![1, 128, 256]⟩
abbrev S128 : Shape := ⟨1, ![128]⟩
abbrev S1x256 : Shape := ⟨2, ![1, 256]⟩

abbrev nBuf : Space → Nat
  | .hbm => 13
  | .vmem => 14
  | .smem => 1
  | _ => 0

abbrev bufTy : (tb : Table) → Fin (tcTables nBuf tb) → BufTy
  | .hbm, ⟨0, _⟩ => ⟨S24576x12288, .f32⟩
  | .hbm, ⟨1, _⟩ => ⟨S8, .f32⟩
  | .hbm, ⟨2, _⟩ => ⟨S24576x2048, .f32⟩
  | .hbm, ⟨3, _⟩ => ⟨S2048, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S1x2048, .f32⟩
  | .hbm, ⟨12, _⟩ => ⟨S24576x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S128x2048, .bf16⟩
  | .local _ .vmem, ⟨12, _⟩ => ⟨S128x2048, .bf16⟩
  | .local _ .vmem, ⟨13, _⟩ => ⟨S8x128x256, .f32⟩
  | .local _ .smem, ⟨0, _⟩ => ⟨S8, .f32⟩
  | _, _ => ⟨S24576x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![192], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c191_i32 : BitVec 32 := 191#32
  let v0 : BitVec 32 := Scalar.subi c191_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c191_i32 : BitVec 32 := 191#32
  let v0 : BitVec 32 := Scalar.subi c191_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c191_i32 : BitVec 32 := 191#32
  let v0 : BitVec 32 := Scalar.subi c191_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c191_i32 : BitVec 32 := 191#32
  let v0 : BitVec 32 := Scalar.subi c191_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c191_i32 : BitVec 32 := 191#32
  let v0 : BitVec 32 := Scalar.subi c191_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c191_i32 : BitVec 32 := 191#32
  let v0 : BitVec 32 := Scalar.subi c191_i32 arg0
  let c0_i32 : BitVec 32 := 0#32
  let c0_i32_0 : BitVec 32 := 0#32
  ![v0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RetBwdRefIdeal.lean ====
abbrev S24576x12288 : Shape := ⟨2, ![24576, 12288]⟩
abbrev S8 : Shape := ⟨1, ![8]⟩
abbrev S24576x2048 : Shape := ⟨2, ![24576, 2048]⟩
abbrev S2048 : Shape := ⟨1, ![2048]⟩
abbrev S24576x1024 : Shape := ⟨2, ![24576, 1024]⟩
abbrev S192x128x8x128 : Shape := ⟨4, ![192, 128, 8, 128]⟩
abbrev S192x128x8x256 : Shape := ⟨4, ![192, 128, 8, 256]⟩
abbrev S_ : Shape := ⟨0, ![]⟩
abbrev S128 : Shape := ⟨1, ![128]⟩
abbrev S128x1 : Shape := ⟨2, ![128, 1]⟩
abbrev S1x8 : Shape := ⟨2, ![1, 8]⟩
abbrev S128x8 : Shape := ⟨2, ![128, 8]⟩
abbrev S1x128x8x1 : Shape := ⟨4, ![1, 128, 8, 1]⟩
abbrev S192x8x128x256 : Shape := ⟨4, ![192, 8, 128, 256]⟩
abbrev S1x8x1x1 : Shape := ⟨4, ![1, 8, 1, 1]⟩
abbrev S32x8x128x256 : Shape := ⟨4, ![32, 8, 128, 256]⟩
abbrev S128x8x128x256 : Shape := ⟨4, ![128, 8, 128, 256]⟩
abbrev S3x8x128x256 : Shape := ⟨4, ![3, 8, 128, 256]⟩
abbrev S128x1x8x128x256 : Shape := ⟨5, ![128, 1, 8, 128, 256]⟩
abbrev S128x3x8x128x256 : Shape := ⟨5, ![128, 3, 8, 128, 256]⟩
abbrev S1x3x8x128x256 : Shape := ⟨5, ![1, 3, 8, 128, 256]⟩
abbrev S32x1x8x128x256 : Shape := ⟨5, ![32, 1, 8, 128, 256]⟩
abbrev S192x8x256x128 : Shape := ⟨4, ![192, 8, 256, 128]⟩
abbrev S24576x8x256 : Shape := ⟨3, ![24576, 8, 256]⟩
abbrev S24576x8 : Shape := ⟨2, ![24576, 8]⟩
abbrev S24576x8x1 : Shape := ⟨3, ![24576, 8, 1]⟩
abbrev S8x256 : Shape := ⟨2, ![8, 256]⟩
abbrev S1x8x256 : Shape := ⟨3, ![1, 8, 256]⟩

abbrev nBuf : Space → Nat
  | .hbm => 151
  | .vmem => 0
  | .smem => 0
  | _ => 0

abbrev hbmTy0_0 (i : Nat) : BufTy := match i % 128 with
  | 0 => ⟨S24576x12288, .f32⟩
  | 1 => ⟨S8, .f32⟩
  | 2 => ⟨S24576x2048, .f32⟩
  | 3 => ⟨S2048, .f32⟩
  | 4 => ⟨S24576x12288, .f32⟩
  | 5 => ⟨S24576x1024, .f32⟩
  | 6 => ⟨S192x128x8x128, .f32⟩
  | 7 => ⟨S24576x1024, .f32⟩
  | 8 => ⟨S192x128x8x128, .f32⟩
  | 9 => ⟨S24576x2048, .f32⟩
  | 10 => ⟨S192x128x8x256, .f32⟩
  | 11 => ⟨S8, .f32⟩
  | 12 => ⟨S_, .f32⟩
  | 13 => ⟨S8, .f32⟩
  | 14 => ⟨S8, .f32⟩
  | 15 => ⟨S8, .f32⟩
  | 16 => ⟨S8, .f32⟩
  | 17 => ⟨S8, .f32⟩
  | 18 => ⟨S128, .i32⟩
  | 19 => ⟨S128, .f32⟩
  | 20 => ⟨S_, .f32⟩
  | 21 => ⟨S128, .f32⟩
  | 22 => ⟨S128, .f32⟩
  | 23 => ⟨S128x1, .f32⟩
  | 24 => ⟨S1x8, .f32⟩
  | 25 => ⟨S128x8, .f32⟩
  | 26 => ⟨S128x8, .f32⟩
  | 27 => ⟨S128x8, .f32⟩
  | 28 => ⟨S128x8, .f32⟩
  | 29 => ⟨S1x128x8x1, .f32⟩
  | 30 => ⟨S192x128x8x128, .f32⟩
  | 31 => ⟨S192x128x8x128, .f32⟩
  | 32 => ⟨S192x8x128x256, .f32⟩
  | 33 => ⟨S_, .f32⟩
  | 34 => ⟨S8, .f32⟩
  | 35 => ⟨S8, .f32⟩
  | 36 => ⟨S8, .f32⟩
  | 37 => ⟨S1x8x1x1, .f32⟩
  | 38 => ⟨S32x8x128x256, .f32⟩
  | 39 => ⟨S_, .f32⟩
  | 40 => ⟨S128x8x128x256, .f32⟩
  | 41 => ⟨S32x8x128x256, .f32⟩
  | 42 => ⟨S_, .f32⟩
  | 43 => ⟨S128x8x128x256, .f32⟩
  | 44 => ⟨S128x8x128x256, .f32⟩
  | 45 => ⟨S_, .f32⟩
  | 46 => ⟨S128x8x128x256, .f32⟩
  | 47 => ⟨S_, .f32⟩
  | 48 => ⟨S3x8x128x256, .f32⟩
  | 49 => ⟨S128x1x8x128x256, .f32⟩
  | 50 => ⟨S128x1x8x128x256, .f32⟩
  | 51 => ⟨S128x1x8x128x256, .f32⟩
  | 52 => ⟨S128x3x8x128x256, .f32⟩
  | 53 => ⟨S_, .f32⟩
  | 54 => ⟨S128x3x8x128x256, .f32⟩
  | 55 => ⟨S_, .i32⟩
  | 56 => ⟨S128x3x8x128x256, .f32⟩
  | 57 => ⟨S1x8x1x1, .f32⟩
  | 58 => ⟨S_, .i32⟩
  | 59 => ⟨S3x8x128x256, .f32⟩
  | 60 => ⟨S128x3x8x128x256, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x3x8x128x256, .f32⟩
  | 68 => ⟨S3x8x128x256, .f32⟩
  | 69 => ⟨S3x8x128x256, .f32⟩
  | 70 => ⟨S3x8x128x256, .f32⟩
  | 71 => ⟨S3x8x128x256, .f32⟩
  | 72 => ⟨S1x3x8x128x256, .f32⟩
  | 73 => ⟨S_, .i32⟩
  | 74 => ⟨S_, .i32⟩
  | 75 => ⟨S_, .i32⟩
  | 76 => ⟨S_, .i32⟩
  | 77 => ⟨S128x3x8x128x256, .f32⟩
  | 78 => ⟨S_, .i32⟩
  | 79 => ⟨S_, .i32⟩
  | 80 => ⟨S32x1x8x128x256, .f32⟩
  | 81 => ⟨S32x8x128x256, .f32⟩
  | 82 => ⟨S32x1x8x128x256, .f32⟩
  | 83 => ⟨S32x8x128x256, .f32⟩
  | 84 => ⟨S128x1x8x128x256, .f32⟩
  | 85 => ⟨S128x8x128x256, .f32⟩
  | 86 => ⟨S192x8x128x256, .f32⟩
  | 87 => ⟨S24576x12288, .f32⟩
  | 88 => ⟨S24576x1024, .f32⟩
  | 89 => ⟨S192x128x8x128, .f32⟩
  | 90 => ⟨S24576x1024, .f32⟩
  | 91 => ⟨S192x128x8x128, .f32⟩
  | 92 => ⟨S24576x2048, .f32⟩
  | 93 => ⟨S192x128x8x256, .f32⟩
  | 94 => ⟨S8, .f32⟩
  | 95 => ⟨S_, .f32⟩
  | 96 => ⟨S8, .f32⟩
  | 97 => ⟨S8, .f32⟩
  | 98 => ⟨S8, .f32⟩
  | 99 => ⟨S8, .f32⟩
  | 100 => ⟨S8, .f32⟩
  | 101 => ⟨S128, .i32⟩
  | 102 => ⟨S128, .f32⟩
  | 103 => ⟨S_, .f32⟩
  | 104 => ⟨S128, .f32⟩
  | 105 => ⟨S128, .f32⟩
  | 106 => ⟨S128x1, .f32⟩
  | 107 => ⟨S1x8, .f32⟩
  | 108 => ⟨S128x8, .f32⟩
  | 109 => ⟨S128x8, .f32⟩
  | 110 => ⟨S128x8, .f32⟩
  | 111 => ⟨S128x8, .f32⟩
  | 112 => ⟨S192x8x256x128, .f32⟩
  | 113 => ⟨S192x128x8x256, .f32⟩
  | 114 => ⟨S1x128x8x1, .f32⟩
  | 115 => ⟨S192x128x8x256, .f32⟩
  | 116 => ⟨S192x128x8x256, .f32⟩
  | 117 => ⟨S24576x2048, .f32⟩
  | 118 => ⟨S24576x2048, .f32⟩
  | 119 => ⟨S24576x2048, .f32⟩
  | 120 => ⟨S24576x8x256, .f32⟩
  | 121 => ⟨S24576x2048, .f32⟩
  | 122 => ⟨S24576x8x256, .f32⟩
  | 123 => ⟨S_, .f32⟩
  | 124 => ⟨S24576x8, .f32⟩
  | 125 => ⟨S24576x8x1, .f32⟩
  | 126 => ⟨S_, .f32⟩
  | 127 => ⟨S24576x8x1, .f32⟩
  | _ => ⟨S24576x12288, .f32⟩

abbrev hbmTy0_1 (i : Nat) : BufTy := match i % 128 with
  | 0 => ⟨S24576x8x1, .f32⟩
  | 1 => ⟨S_, .f32⟩
  | 2 => ⟨S24576x8x1, .f32⟩
  | 3 => ⟨S24576x8x1, .f32⟩
  | 4 => ⟨S24576x8x1, .f32⟩
  | 5 => ⟨S24576x8x256, .f32⟩
  | 6 => ⟨S24576x8x256, .f32⟩
  | 7 => ⟨S8x256, .f32⟩
  | 8 => ⟨S1x8x256, .f32⟩
  | 9 => ⟨S24576x8x256, .f32⟩
  | 10 => ⟨S24576x8x256, .f32⟩
  | 11 => ⟨S24576x2048, .f32⟩
  | 12 => ⟨S24576x2048, .f32⟩
  | 13 => ⟨S24576x2048, .f32⟩
  | 14 => ⟨S_, .f32⟩
  | 15 => ⟨S24576x2048, .f32⟩
  | 16 => ⟨S24576x2048, .f32⟩
  | 17 => ⟨S_, .f32⟩
  | 18 => ⟨S24576x2048, .f32⟩
  | 19 => ⟨S24576x2048, .f32⟩
  | 20 => ⟨S24576x2048, .f32⟩
  | 21 => ⟨S24576x2048, .f32⟩
  | 22 => ⟨S24576x2048, .bf16⟩
  | _ => ⟨S24576x12288, .f32⟩

abbrev hbmTy (i : Nat) : BufTy := match i / 128 with
  | 0 => hbmTy0_0 i
  | 1 => hbmTy0_1 i
  | _ => ⟨S24576x12288, .f32⟩

abbrev bufTy : (tb : Table) → Fin (tcTables nBuf tb) → BufTy
  | .hbm, ⟨i, _⟩ => hbmTy i
  | _, _ => ⟨S24576x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_c : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev main_v43_3 : Ref sig .tc := ⟨.hbm, 59, rfl⟩
abbrev main_v43_4 : Ref sig .tc := ⟨.hbm, 60, rfl⟩
abbrev main_while0c_c_16 : Ref sig .tc := ⟨.hbm, 61, rfl⟩
abbrev main_while0c_v102 : Ref sig .tc := ⟨.hbm, 62, rfl⟩
abbrev main_while0b_call0_c : Ref sig .tc := ⟨.hbm, 63, rfl⟩
abbrev main_while0b_call0_c_0 : Ref sig .tc := ⟨.hbm, 64, rfl⟩
abbrev main_while0b_call0_c_1 : Ref sig .tc := ⟨.hbm, 65, rfl⟩
abbrev main_while0b_call0_c_2 : Ref sig .tc := ⟨.hbm, 66, rfl⟩
abbrev main_while0b_call0_v0 : Ref sig .tc := ⟨.hbm, 67, rfl⟩
abbrev main_while0b_v102 : Ref sig .tc := ⟨.hbm, 68, rfl⟩
abbrev main_while0b_v103 : Ref sig .tc := ⟨.hbm, 69, rfl⟩
abbrev main_while0b_v104 : Ref sig .tc := ⟨.hbm, 70, rfl⟩
abbrev main_while0b_v105 : Ref sig .tc := ⟨.hbm, 71, rfl⟩
abbrev main_while0b_call1_v0 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_call1_c_1 : Ref sig .tc := ⟨.hbm, 75, rfl⟩
abbrev main_while0b_call1_c_2 : Ref sig .tc := ⟨.hbm, 76, rfl⟩
abbrev main_while0b_v106 : Ref sig .tc := ⟨.hbm, 77, rfl⟩
abbrev main_while0b_c_16 : Ref sig .tc := ⟨.hbm, 78, rfl⟩
abbrev main_while0b_v107 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_7 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_9 : Ref sig .tc := ⟨.hbm, 123, rfl⟩
abbrev main_v85 : Ref sig .tc := ⟨.hbm, 124, rfl⟩
abbrev main_v86 : Ref sig .tc := ⟨.hbm, 125, rfl⟩
abbrev main_cst_10 : Ref sig .tc := ⟨.hbm, 126, rfl⟩
abbrev main_v87 : Ref sig .tc := ⟨.hbm, 127, rfl⟩
abbrev main_v88 : Ref sig .tc := ⟨.hbm, 128, rfl⟩
abbrev main_cst_11 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call2_v0 : Ref sig .tc := ⟨.hbm, 140, rfl⟩
abbrev main_call2_v1 : Ref sig .tc := ⟨.hbm, 141, rfl⟩
abbrev main_call2_cst : Ref sig .tc := ⟨.hbm, 142, rfl⟩
abbrev main_call2_v2 : Ref sig .tc := ⟨.hbm, 143, rfl⟩
abbrev main_call2_v3 : Ref sig .tc := ⟨.hbm, 144, rfl⟩
abbrev main_call2_cst_0 : Ref sig .tc := ⟨.hbm, 145, rfl⟩
abbrev main_call2_v4 : Ref sig .tc := ⟨.hbm, 146, rfl⟩
abbrev main_call2_v5 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩

abbrev nD : Nat := 1
abbrev τ : Topo := Topo.v7x

variable {F : FTy → Type} [FloatOps F]

abbrev main_while0_count : Scf.Loop 32 := ⟨0#32, 128#32, 1#32⟩
-- ==== Moe.lean ====
abbrev S16x3072x4096 : Shape := ⟨3, ![16, 3072, 4096]⟩
abbrev S16x4096x11008 : Shape := ⟨3, ![16, 4096, 11008]⟩
abbrev S16x11008x4096 : Shape := ⟨3, ![16, 11008, 4096]⟩
abbrev S16x3072 : Shape := ⟨2, ![16, 3072]⟩
abbrev S49152x1 : Shape := ⟨2, ![49152, 1]⟩
abbrev S49152x128 : Shape := ⟨2, ![49152, 128]⟩
abbrev S49152x4096 : Shape := ⟨2, ![49152, 4096]⟩
abbrev S1024x4096 : Shape := ⟨2, ![1024, 4096]⟩
abbrev S1x4096x256 : Shape := ⟨3, ![1, 4096, 256]⟩
abbrev S1x256x4096 : Shape := ⟨3, ![1, 256, 4096]⟩
abbrev S1024x128 : Shape := ⟨2, ![1024, 128]⟩
abbrev S4096x256 : Shape := ⟨2, ![4096, 256]⟩
abbrev S1024x256 : Shape := ⟨2, ![1024, 256]⟩
abbrev S1024x512 : Shape := ⟨2, ![1024, 512]⟩
abbrev S1x256x512 : Shape := ⟨3, ![1, 256, 512]⟩
abbrev S256x512 : Shape := ⟨2, ![256, 512]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S16x3072x4096, .f32⟩
  | .hbm, ⟨1, _⟩ => ⟨S16x4096x11008, .f32⟩
  | .hbm, ⟨2, _⟩ => ⟨S16x4096x11008, .f32⟩
  | .hbm, ⟨3, _⟩ => ⟨S16x11008x4096, .f32⟩
  | .hbm, ⟨4, _⟩ => ⟨S16x3072, .f32⟩
  | .hbm, ⟨5, _⟩ => ⟨S49152x1, .f32⟩
  | .hbm, ⟨6, _⟩ => ⟨S49152x128, .f32⟩
  | .hbm, ⟨7, _⟩ => ⟨S49152x4096, .f32⟩
  | .hbm, ⟨8, _⟩ => ⟨S49152x4096, .bf16⟩
  | .hbm, ⟨9, _⟩ => ⟨S49152x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x256x4096, .f32⟩
  | .local _ .vmem, ⟨7, _⟩ => ⟨S1x256x4096, .f32⟩
  | .local _ .vmem, ⟨8, _⟩ => ⟨S1024x128, .f32⟩
  | .local _ .vmem, ⟨9, _⟩ => ⟨S1024x128, .f32⟩
  | .local _ .vmem, ⟨10, _⟩ => ⟨S1024x4096, .f32⟩
  | _, _ => ⟨S16x3072x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![16, 3, 43], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== MoeRefIdeal.lean ====
abbrev S16x3072x4096 : Shape := ⟨3, ![16, 3072, 4096]⟩
abbrev S16x4096x11008 : Shape := ⟨3, ![16, 4096, 11008]⟩
abbrev S16x11008x4096 : Shape := ⟨3, ![16, 11008, 4096]⟩
abbrev S16x3072 : Shape := ⟨2, ![16, 3072]⟩
abbrev S16x3072x11008 : Shape := ⟨3, ![16, 3072, 11008]⟩
abbrev S_ : Shape := ⟨0, ![]⟩
abbrev S16x3072x1 : Shape := ⟨3, ![16, 3072, 1]⟩
abbrev S49152x4096 : Shape := ⟨2, ![49152, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16x3072x4096, .f32⟩
  | .hbm, ⟨1, _⟩ => ⟨S16x4096x11008, .f32⟩
  | .hbm, ⟨2, _⟩ => ⟨S16x4096x11008, .f32⟩
  | .hbm, ⟨3, _⟩ => ⟨S16x11008x4096, .f32⟩
  | .hbm, ⟨4, _⟩ => ⟨S16x3072, .f32⟩
  | .hbm, ⟨5, _⟩ => ⟨S16x3072x11008, .f32⟩
  | .hbm, ⟨6, _⟩ => ⟨S16x3072x11008, .f32⟩
  | .hbm, ⟨7, _⟩ => ⟨S16x3072x11008, .f32⟩
  | .hbm, ⟨8, _⟩ => ⟨S_, .f32⟩
  | .hbm, ⟨9, _⟩ => ⟨S16x3072x11008, .f32⟩
  | .hbm, ⟨10, _⟩ => ⟨S16x3072x11008, .f32⟩
  | .hbm, ⟨11, _⟩ => ⟨S_, .f32⟩
  | .hbm, ⟨12, _⟩ => ⟨S16x3072x11008, .f32⟩
  | .hbm, ⟨13, _⟩ => ⟨S16x3072x11008, .f32⟩
  | .hbm, ⟨14, _⟩ => ⟨S16x3072x11008, .f32⟩
  | .hbm, ⟨15, _⟩ => ⟨S16x3072x11008, .f32⟩
  | .hbm, ⟨16, _⟩ => ⟨S16x3072x11008, .f32⟩
  | .hbm, ⟨17, _⟩ => ⟨S16x3072x4096, .f32⟩
  | .hbm, ⟨18, _⟩ => ⟨S16x3072x1, .f32⟩
  | .hbm, ⟨19, _⟩ => ⟨S16x3072x4096, .f32⟩
  | .hbm, ⟨20, _⟩ => ⟨S16x3072x4096, .f32⟩
  | .hbm, ⟨21, _⟩ => ⟨S49152x4096, .f32⟩
  | _, _ => ⟨S16x3072x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== InProj.lean ====
abbrev S24576x4096 : Shape := ⟨2, ![24576, 4096]⟩
abbrev S4096x12288 : Shape := ⟨2, ![4096, 12288]⟩
abbrev S128 : Shape := ⟨1, ![128]⟩
abbrev S1x128 : Shape := ⟨2, ![1, 128]⟩
abbrev S24576x12288 : Shape := ⟨2, ![24576, 12288]⟩
abbrev S1024x4096 : Shape := ⟨2, ![1024, 4096]⟩
abbrev S4096x1024 : Shape := ⟨2, ![4096, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S24576x4096, .f32⟩
  | .hbm, ⟨1, _⟩ => ⟨S4096x12288, .f32⟩
  | .hbm, ⟨2, _⟩ => ⟨S128, .f32⟩
  | .hbm, ⟨3, _⟩ => ⟨S128, .f32⟩
  | .hbm, ⟨4, _⟩ => ⟨S24576x4096, .bf16⟩
  | .hbm, ⟨5, _⟩ => ⟨S4096x12288, .bf16⟩
  | .hbm, ⟨6, _⟩ => ⟨S1x128, .f32⟩
  | .hbm, ⟨7, _⟩ => ⟨S1x128, .f32⟩
  | .hbm, ⟨8, _⟩ => ⟨S24576x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x128, .f32⟩
  | .local _ .vmem, ⟨5, _⟩ => ⟨S1x128, .f32⟩
  | .local _ .vmem, ⟨6, _⟩ => ⟨S1024x1024, .f32⟩
  | .local _ .vmem, ⟨7, _⟩ => ⟨S1024x1024, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![24, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S24576x4096 : Shape := ⟨2, ![24576, 4096]⟩
abbrev S4096x12288 : Shape := ⟨2, ![4096, 12288]⟩
abbrev S128 : Shape := ⟨1, ![128]⟩
abbrev S24576x12288 : Shape := ⟨2, ![24576, 12288]⟩
abbrev S24576x1024 : Shape := ⟨2, ![24576, 1024]⟩
abbrev S24576x2048 : Shape := ⟨2, ![24576, 2048]⟩
abbrev S_ : Shape := ⟨0, ![]⟩
abbrev S24576x16x128 : Shape := ⟨3, ![24576, 16, 128]⟩
abbrev S24576x16 : Shape := ⟨2, ![24576, 16]⟩
abbrev S24576x16x1 : Shape := ⟨3, ![24576, 16, 1]⟩
abbrev S1x1x128 : Shape := ⟨3, ![1, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096x12288, .f32⟩
  | .hbm, ⟨2, _⟩ => ⟨S128, .f32⟩
  | .hbm, ⟨3, _⟩ => ⟨S128, .f32⟩
  | .hbm, ⟨4, _⟩ => ⟨S24576x12288, .f32⟩
  | .hbm, ⟨5, _⟩ => ⟨S24576x1024, .f32⟩
  | .hbm, ⟨6, _⟩ => ⟨S24576x1024, .f32⟩
  | .hbm, ⟨7, _⟩ => ⟨S24576x2048, .f32⟩
  | .hbm, ⟨8, _⟩ => ⟨S24576x2048, .f32⟩
  | .hbm, ⟨9, _⟩ => ⟨S24576x2048, .f32⟩
  | .hbm, ⟨10, _⟩ => ⟨S24576x2048, .f32⟩
  | .hbm, ⟨11, _⟩ => ⟨S24576x2048, .f32⟩
  | .hbm, ⟨12, _⟩ => ⟨S_, .f32⟩
  | .hbm, ⟨13, _⟩ => ⟨S24576x1024, .f32⟩
  | .hbm, ⟨14, _⟩ => ⟨S24576x1024, .f32⟩
  | .hbm, ⟨15, _⟩ => ⟨S24576x16x128, .f32⟩
  | .hbm, ⟨16, _⟩ => ⟨S24576x16x128, .f32⟩
  | .hbm, ⟨17, _⟩ => ⟨S_, .f32⟩
  | .hbm, ⟨18, _⟩ => ⟨S24576x16, .f32⟩
  | .hbm, ⟨19, _⟩ => ⟨S24576x16x1, .f32⟩
  | .hbm, ⟨20, _⟩ => ⟨S_, .f32⟩
  | .hbm, ⟨21, _⟩ => ⟨S24576x16x1, .f32⟩
  | .hbm, ⟨22, _⟩ => ⟨S24576x16x1, .f32⟩
  | .hbm, ⟨23, _⟩ => ⟨S_, .f32⟩
  | .hbm, ⟨24, _⟩ => ⟨S24576x16x1, .f32⟩
  | .hbm, ⟨25, _⟩ => ⟨S24576x16x1, .f32⟩
  | .hbm, ⟨26, _⟩ => ⟨S24576x16x1, .f32⟩
  | .hbm, ⟨27, _⟩ => ⟨S24576x16x128, .f32⟩
  | .hbm, ⟨28, _⟩ => ⟨S24576x16x128, .f32⟩
  | .hbm, ⟨29, _⟩ => ⟨S1x1x128, .f32⟩
  | .hbm, ⟨30, _⟩ => ⟨S24576x16x128, .f32⟩
  | .hbm, ⟨31, _⟩ => ⟨S24576x16x128, .f32⟩
  | .hbm, ⟨32, _⟩ => ⟨S_, .f32⟩
  | .hbm, ⟨33, _⟩ => ⟨S24576x16x128, .f32⟩
  | .hbm, ⟨34, _⟩ => ⟨S24576x16x128, .f32⟩
  | .hbm, ⟨35, _⟩ => ⟨S24576x2048, .f32⟩
  | .hbm, ⟨36, _⟩ => ⟨S24576x16x128, .f32⟩
  | .hbm, ⟨37, _⟩ => ⟨S24576x16x128, .f32⟩
  | .hbm, ⟨38, _⟩ => ⟨S_, .f32⟩
  | .hbm, ⟨39, _⟩ => ⟨S24576x16, .f32⟩
  | .hbm, ⟨40, _⟩ => ⟨S24576x16x1, .f32⟩
  | .hbm, ⟨41, _⟩ => ⟨S_, .f32⟩
  | .hbm, ⟨42, _⟩ => ⟨S24576x16x1, .f32⟩
  | .hbm, ⟨43, _⟩ => ⟨S24576x16x1, .f32⟩
  | .hbm, ⟨44, _⟩ => ⟨S_, .f32⟩
  | .hbm, ⟨45, _⟩ => ⟨S24576x16x1, .f32⟩
  | .hbm, ⟨46, _⟩ => ⟨S24576x16x1, .f32⟩
  | .hbm, ⟨47, _⟩ => ⟨S24576x16x1, .f32⟩
  | .hbm, ⟨48, _⟩ => ⟨S24576x16x128, .f32⟩
  | .hbm, ⟨49, _⟩ => ⟨S24576x16x128, .f32⟩
  | .hbm, ⟨50, _⟩ => ⟨S1x1x128, .f32⟩
  | .hbm, ⟨51, _⟩ => ⟨S24576x16x128, .f32⟩
  | .hbm, ⟨52, _⟩ => ⟨S24576x16x128, .f32⟩
  | .hbm, ⟨53, _⟩ => ⟨S24576x2048, .f32⟩
  | .hbm, ⟨54, _⟩ => ⟨S24576x12288, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Norm.lean ====
abbrev S1x16384x4096 : Shape := ⟨3, ![1, 16384, 4096]⟩
abbrev S2x4096x4096 : Shape := ⟨3, ![2, 4096, 4096]⟩
abbrev S4096 : Shape := ⟨1, ![4096]⟩
abbrev S16384x4096 : Shape := ⟨2, ![16384, 4096]⟩
abbrev S8192x4096 : Shape := ⟨2, ![8192, 4096]⟩
abbrev S1x4096 : Shape := ⟨2, ![1, 4096]⟩
abbrev S24576x4096 : Shape := ⟨2, ![24576, 4096]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S1x16384x4096, .f32⟩
  | .hbm, ⟨1, _⟩ => ⟨S2x4096x4096, .f32⟩
  | .hbm, ⟨2, _⟩ => ⟨S4096, .f32⟩
  | .hbm, ⟨3, _⟩ => ⟨S16384x4096, .f32⟩
  | .hbm, ⟨4, _⟩ => ⟨S8192x4096, .f32⟩
  | .hbm, ⟨5, _⟩ => ⟨S1x4096, .f32⟩
  | .hbm, ⟨6, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S1x16384x4096 : Shape := ⟨3, ![1, 16384, 4096]⟩
abbrev S2x4096x4096 : Shape := ⟨3, ![2, 4096, 4096]⟩
abbrev S4096 : Shape := ⟨1, ![4096]⟩
abbrev S_ : Shape := ⟨0, ![]⟩
abbrev S1x16384 : Shape := ⟨2, ![1, 16384]⟩
abbrev S1x16384x1 : Shape := ⟨3, ![1, 16384, 1]⟩
abbrev S1x1x4096 : Shape := ⟨3, ![1, 1, 4096]⟩
abbrev S16384x4096 : Shape := ⟨2, ![16384, 4096]⟩
abbrev S2x4096 : Shape := ⟨2, ![2, 4096]⟩
abbrev S2x4096x1 : Shape := ⟨3, ![2, 4096, 1]⟩
abbrev S8192x4096 : Shape := ⟨2, ![8192, 4096]⟩
abbrev S24576x4096 : Shape := ⟨2, ![24576, 4096]⟩

abbrev nBuf : Space → Nat
  | .hbm => 39
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S2x4096x4096, .f32⟩
  | .hbm, ⟨2, _⟩ => ⟨S4096, .f32⟩
  | .hbm, ⟨3, _⟩ => ⟨S1x16384x4096, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x4096, .f32⟩
  | .hbm, ⟨15, _⟩ => ⟨S1x16384x4096, .f32⟩
  | .hbm, ⟨16, _⟩ => ⟨S1x1x4096, .f32⟩
  | .hbm, ⟨17, _⟩ => ⟨S1x16384x4096, .f32⟩
  | .hbm, ⟨18, _⟩ => ⟨S1x16384x4096, .f32⟩
  | .hbm, ⟨19, _⟩ => ⟨S16384x4096, .f32⟩
  | .hbm, ⟨20, _⟩ => ⟨S2x4096x4096, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S1x1x4096, .f32⟩
  | .hbm, ⟨34, _⟩ => ⟨S2x4096x4096, .f32⟩
  | .hbm, ⟨35, _⟩ => ⟨S2x4096x4096, .f32⟩
  | .hbm, ⟨36, _⟩ => ⟨S8192x4096, .f32⟩
  | .hbm, ⟨37, _⟩ => ⟨S24576x4096, .f32⟩
  | .hbm, ⟨38, _⟩ => ⟨S24576x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== OutProj.lean ====
abbrev S24576x2048 : Shape := ⟨2, ![24576, 2048]⟩
abbrev S2048 : Shape := ⟨1, ![2048]⟩
abbrev S4096x4096 : Shape := ⟨2, ![4096, 4096]⟩
abbrev S1x16384x4096 : Shape := ⟨3, ![1, 16384, 4096]⟩
abbrev S2x4096x4096 : Shape := ⟨3, ![2, 4096, 4096]⟩
abbrev S16384x4096 : Shape := ⟨2, ![16384, 4096]⟩
abbrev S8192x4096 : Shape := ⟨2, ![8192, 4096]⟩
abbrev S1x2048 : Shape := ⟨2, ![1, 2048]⟩
abbrev S512x2048 : Shape := ⟨2, ![512, 2048]⟩
abbrev S4096x1024 : Shape := ⟨2, ![4096, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S24576x2048, .f32⟩
  | .hbm, ⟨1, _⟩ => ⟨S24576x2048, .f32⟩
  | .hbm, ⟨2, _⟩ => ⟨S2048, .f32⟩
  | .hbm, ⟨3, _⟩ => ⟨S4096x4096, .f32⟩
  | .hbm, ⟨4, _⟩ => ⟨S1x16384x4096, .f32⟩
  | .hbm, ⟨5, _⟩ => ⟨S2x4096x4096, .f32⟩
  | .hbm, ⟨6, _⟩ => ⟨S24576x2048, .bf16⟩
  | .hbm, ⟨7, _⟩ => ⟨S4096x4096, .bf16⟩
  | .hbm, ⟨8, _⟩ => ⟨S16384x4096, .f32⟩
  | .hbm, ⟨9, _⟩ => ⟨S8192x4096, .f32⟩
  | .hbm, ⟨10, _⟩ => ⟨S1x2048, .f32⟩
  | .hbm, ⟨11, _⟩ => ⟨S16384x4096, .f32⟩
  | .hbm, ⟨12, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S4096x1024, .bf16⟩
  | .local _ .vmem, ⟨6, _⟩ => ⟨S4096x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![48, 4], ![false, false]⟩

def k0_cond2 (i : grid0.Coords) : BitVec 1 :=
  let arg0 : BitVec 32 := BitVec.ofNat 32 (i 0).val
  let c32_i32 : BitVec 32 := 32#32
  let v7 : BitVec 1 := Scalar.cmpi .slt arg0 c32_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c32_i32_5 : BitVec 32 := 32#32
  let v10 : BitVec 1 := Scalar.cmpi .sge arg0 c32_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c3_i32 : BitVec 32 := 3#32
  let v2 : BitVec 32 := Scalar.select v1 arg1 c3_i32
  let c0_i32 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c32_i32_0 : BitVec 32 := 32#32
  let v2 : BitVec 1 := Scalar.cmpi .sge arg0 c32_i32_0
  let c0_i32_1 : BitVec 32 := 0#32
  let v3 : BitVec 32 := Scalar.select v2 arg1 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c3_i32 : BitVec 32 := 3#32
  let v2 : BitVec 32 := Scalar.select v1 arg1 c3_i32
  let c0_i32 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c32_i32_0 : BitVec 32 := 32#32
  let v2 : BitVec 1 := Scalar.cmpi .sge arg0 c32_i32_0
  let c0_i32_1 : BitVec 32 := 0#32
  let v3 : BitVec 32 := Scalar.select v2 arg1 c0_i32_1
  let c0_i32_2 : BitVec 32 := 0#32
  ![v1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S24576x2048 : Shape := ⟨2, ![24576, 2048]⟩
abbrev S2048 : Shape := ⟨1, ![2048]⟩
abbrev S4096x4096 : Shape := ⟨2, ![4096, 4096]⟩
abbrev S1x16384x4096 : Shape := ⟨3, ![1, 16384, 4096]⟩
abbrev S2x4096x4096 : Shape := ⟨3, ![2, 4096, 4096]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S24576x4096 : Shape := ⟨2, ![24576, 4096]⟩
abbrev S16384x4096 : Shape := ⟨2, ![16384, 4096]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S24576x2048, .f32⟩
  | .hbm, ⟨2, _⟩ => ⟨S2048, .f32⟩
  | .hbm, ⟨3, _⟩ => ⟨S4096x4096, .f32⟩
  | .hbm, ⟨4, _⟩ => ⟨S1x16384x4096, .f32⟩
  | .hbm, ⟨5, _⟩ => ⟨S2x4096x4096, .f32⟩
  | .hbm, ⟨6, _⟩ => ⟨S24576x2048, .f32⟩
  | .hbm, ⟨7, _⟩ => ⟨S_, .f32⟩
  | .hbm, ⟨8, _⟩ => ⟨S24576, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S_, .f32⟩
  | .hbm, ⟨14, _⟩ => ⟨S24576x1, .f32⟩
  | .hbm, ⟨15, _⟩ => ⟨S24576x1, .f32⟩
  | .hbm, ⟨16, _⟩ => ⟨S24576x1, .f32⟩
  | .hbm, ⟨17, _⟩ => ⟨S24576x2048, .f32⟩
  | .hbm, ⟨18, _⟩ => ⟨S24576x2048, .f32⟩
  | .hbm, ⟨19, _⟩ => ⟨S1x2048, .f32⟩
  | .hbm, ⟨20, _⟩ => ⟨S24576x2048, .f32⟩
  | .hbm, ⟨21, _⟩ => ⟨S24576x2048, .f32⟩
  | .hbm, ⟨22, _⟩ => ⟨S24576x4096, .f32⟩
  | .hbm, ⟨23, _⟩ => ⟨S24576x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S8192x4096, .f32⟩
  | .hbm, ⟨28, _⟩ => ⟨S8192x4096, .f32⟩
  | .hbm, ⟨29, _⟩ => ⟨S8192x4096, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Router.lean ====
abbrev S16384x4096 : Shape := ⟨2, ![16384, 4096]⟩
abbrev S4096 : Shape := ⟨1, ![4096]⟩
abbrev S4096x16 : Shape := ⟨2, ![4096, 16]⟩
abbrev S1x4096 : Shape := ⟨2, ![1, 4096]⟩
abbrev S16384x16 : Shape := ⟨2, ![16384, 16]⟩
abbrev S512x4096 : Shape := ⟨2, ![512, 4096]⟩
abbrev S512x16 : Shape := ⟨2, ![512, 16]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16, .f32⟩
  | .hbm, ⟨3, _⟩ => ⟨S1x4096, .f32⟩
  | .hbm, ⟨4, _⟩ => ⟨S16384x16, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x16, .f32⟩
  | .local _ .vmem, ⟨4, _⟩ => ⟨S512x16, .f32⟩
  | .local _ .vmem, ⟨5, _⟩ => ⟨S512x16, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RouterRefIdeal.lean ====
abbrev S16384x4096 : Shape := ⟨2, ![16384, 4096]⟩
abbrev S4096 : Shape := ⟨1, ![4096]⟩
abbrev S4096x16 : Shape := ⟨2, ![4096, 16]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x16 : Shape := ⟨2, ![16384, 16]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x16, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Frames.lean ====
/- Every program's run ends, leaves its arguments as they were and every semaphore at zero. -/
module

public import proofs.«01_k».proof.Defs
public import proofs.«01_k».proof.Proof.Gen.RetFwd.Frame
public import proofs.«01_k».proof.Proof.Gen.RetFwdIdeal.Frame
public import proofs.«01_k».proof.Proof.Gen.RetFwdRefIdeal.Run
public import proofs.«01_k».proof.Proof.Gen.RetBwd.Frame
public import proofs.«01_k».proof.Proof.Gen.RetBwdIdeal.Frame
public import proofs.«01_k».proof.Proof.Gen.RetBwdRefIdeal.Run
public import proofs.«01_k».proof.Proof.Gen.Moe.Frame
public import proofs.«01_k».proof.Proof.Gen.MoeIdeal.Frame
public import proofs.«01_k».proof.Proof.Gen.MoeRefIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.Norm.Frame
public import proofs.«01_k».proof.Proof.Gen.NormIdeal.Frame
public import proofs.«01_k».proof.Proof.Gen.NormRefIdeal.Run
public import Idealize.ShloMosaic.Lib.Quiescent

@[expose] public section

noncomputable section

open Idealize.ShloMosaic Idealize.ShloMosaic.TcCoe Idealize.SL.Sem

namespace Cert.Proof.Frames

/-- The kernel's run ends, with the arguments unchanged and every semaphore at zero. -/
theorem RetFwd_frame : Cert.quiescent_RetFwd := fun m ρ _ => Cert.RetFwd.Gen.frame m ρ
/-- The same over the extended reals. -/
theorem RetFwd_ideal_frame : Cert.quiescent_RetFwdIdeal := fun m ρ _ => Cert.RetFwdIdeal.Gen.frame m ρ
/-- The reference's run ends, with the arguments unchanged; it has no semaphore. -/
theorem RetFwd_ref_frame : Cert.quiescent_RetFwdRefIdeal := fun m ρ _ =>
  (θ_run Cert.RetFwdRefIdeal.defs _ _).mono (fun r h => ⟨fun c => (h c).2,
      Idealize.ShloMosaic.sem_eq_zero_of_no_sems (by decide) r.2⟩)
    (Cert.RetFwdRefIdeal.Value.run (F := Ideal) m ρ)

/-- The kernel's run ends, with the arguments unchanged and every semaphore at zero. -/
theorem RetBwd_frame : Cert.quiescent_RetBwd := fun m ρ _ => Cert.RetBwd.Gen.frame m ρ
/-- The same over the extended reals. -/
theorem RetBwd_ideal_frame : Cert.quiescent_RetBwdIdeal := fun m ρ _ => Cert.RetBwdIdeal.Gen.frame m ρ
/-- The reference's run ends, with the arguments unchanged; it has no semaphore. -/
theorem RetBwd_ref_frame : Cert.quiescent_RetBwdRefIdeal := fun m ρ _ =>
  (θ_run Cert.RetBwdRefIdeal.defs _ _).mono (fun r h => ⟨fun c => (h c).2,
      Idealize.ShloMosaic.sem_eq_zero_of_no_sems (by decide) r.2⟩)
    (Cert.RetBwdRefIdeal.Value.run (F := Ideal) m ρ)

/-- The kernel's run ends, with the arguments unchanged and every semaphore at zero. -/
theorem Moe_frame : Cert.quiescent_Moe := fun m ρ _ => Cert.Moe.Gen.frame m ρ
/-- The same over the extended reals. -/
theorem Moe_ideal_frame : Cert.quiescent_MoeIdeal := fun m ρ _ => Cert.MoeIdeal.Gen.frame m ρ
/-- The reference's run ends, with the arguments unchanged; it has no semaphore. -/
theorem Moe_ref_frame : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

/-- The kernel's run ends, with the arguments unchanged and every semaphore at zero. -/
theorem InProj_frame : Cert.quiescent_InProj := fun m ρ _ => Cert.InProj.Gen.frame m ρ
/-- The same over the extended reals. -/
theorem InProj_ideal_frame : Cert.quiescent_InProjIdeal := fun m ρ _ => Cert.InProjIdeal.Gen.frame m ρ
/-- The reference's run ends, with the arguments unchanged; it has no semaphore. -/
theorem InProj_ref_frame : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- The kernel's run ends, with the arguments unchanged and every semaphore at zero. -/
theorem Norm_frame : Cert.quiescent_Norm := fun m ρ _ => Cert.Norm.Gen.frame m ρ
/-- The same over the extended reals. -/
theorem Norm_ideal_frame : Cert.quiescent_NormIdeal := fun m ρ _ => Cert.NormIdeal.Gen.frame m ρ
/-- The reference's run ends, with the arguments unchanged; it has no semaphore. -/
theorem Norm_ref_frame : Cert.quiescent_NormRefIdeal := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)

end Cert.Proof.Frames

end
-- ==== Proof.Pieces.lean ====
/- Facts on buffers written piece by piece. -/
module

public import Idealize.ShloMosaic.Lib.Pipeline.ValueKit
public import Idealize.ShloMosaic.Lib.Pointwise
public import Idealize.ShloMosaic.Lib.Pipeline.ReadBack

@[expose] public section

noncomputable section

open Idealize.ShloMosaic Idealize.ShloMosaic.TcCoe

namespace Cert.Pieces

/-- Where the later stores already cover an index, the earlier ones do not matter. -/
theorem canon_append_covered {Val : EltTy → Type} [∀ e, Nonempty (Val e)] {S : Shape} {e : EltTy} :
    ∀ (L L' : List (View.Piece Val S e)) (y : S.Idx), (∃ p ∈ L, y ∈ p.1.set) → View.canon (L ++ L') y = View.canon L y
  | [], _, _, hy => by obtain ⟨p, hp, _⟩ := hy; exact absurd hp List.not_mem_nil
  | p :: L, L', y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_append_covered L L' y ⟨q, hq', hyq⟩

end Cert.Pieces

end
-- ==== Proof.Retention.lean ====
/- What both retention calls compute, of the rows of the projection: plain functions of a row, a head and a column. -/
module

public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ret

/-- The column of head `h`'s `d`-th query or key. -/
def hd (h : Fin 8) (d : Fin 128) : Fin 1024 := ⟨128 * h.val + d.val, by have := h.isLt; have := d.isLt; omega⟩
/-- The column of head `h`'s `e`-th value. -/
def he (h : Fin 8) (e : Fin 256) : Fin 2048 := ⟨256 * h.val + e.val, by have := h.isLt; have := e.isLt; omega⟩
/-- A position as a float. -/
def pos (n : ℕ) : EReal := FloatOps.sitofp (F := Ideal) .f32 (BitVec.ofNat 32 n)
/-- The distance of two positions as a float. -/
def gap (a c : ℕ) : EReal := FloatOps.sitofp (F := Ideal) .f32 (IntOp.subi (BitVec.ofNat 32 a) (BitVec.ofNat 32 c))
/-- The forward decay inside a chunk. -/
def decF (lg : EReal) (a c : ℕ) : EReal := if 0 ≤ gap a c then Ideal.exp (max (gap a c) 0 * lg) else 0
/-- The backward decay inside a chunk. -/
def decB (lg : EReal) (a c : ℕ) : EReal := if gap a c < 0 then Ideal.exp (max (0 - gap a c) 0 * lg) else 0
/-- The logarithm of a head's decay, from its exponent. -/
def lgam (x : EReal) : EReal := Ideal.log1p (-Ideal.exp (Ideal.ofBits .f32 0x3F317218#32 * -x))
/-- The decay over a whole chunk. -/
def gch (lg : EReal) : EReal := Ideal.exp (Ideal.ofBits .f32 0x43000000#32 * lg)
/-- The weight of a chunk's key in the state after it. -/
def wF (lg : EReal) (a : Fin 128) : EReal := Ideal.exp ((Ideal.ofBits .f32 0x42FE0000#32 - pos a.val) * lg)

/-- Row `a` of chunk `n`. -/
def row (n : Fin 192) (a : Fin 128) : Fin 24576 := ⟨128 * n.val + a.val, by have := a.isLt; have := n.isLt; omega⟩
/-- The columns of the queries, keys and values. -/
def qc (h : Fin 8) (d : Fin 128) : Fin 12288 := ⟨128 * h.val + d.val, by have := h.isLt; have := d.isLt; omega⟩
def kc (h : Fin 8) (d : Fin 128) : Fin 12288 := ⟨1024 + (128 * h.val + d.val), by have := h.isLt; have := d.isLt; omega⟩
def vc (h : Fin 8) (e : Fin 256) : Fin 12288 := ⟨2048 + (256 * h.val + e.val), by have := h.isLt; have := e.isLt; omega⟩

/-- What chunk `n` adds to the state. -/
def kv (X : Fin 24576 → Fin 12288 → EReal) (w : Fin 128 → EReal) (h : Fin 8) (d : Fin 128) (e : Fin 256) (n : ℕ) : EReal :=
  if hn : n < 192 then ∑ a : Fin 128, X (row ⟨n, hn⟩ a) (kc h d) * w a * X (row ⟨n, hn⟩ a) (vc h e) else 0

/-- The state after the first `n` of a row of chunks. -/
def stS (kv : ℕ → EReal) (g : EReal) : ℕ → EReal
  | 0 => 0
  | j + 1 => stS kv g j * g + kv j

theorem stS_congr (kv kv' : ℕ → EReal) (g : EReal) : ∀ n : ℕ, (∀ j, j < n → kv j = kv' j) → stS kv g n = stS kv' g n
  | 0, _ => rfl
  | n + 1, h => by
    simp only [stS]
    rw [stS_congr kv kv' g n fun j hj => h j (by omega), h n (by omega)]

/-- The first chunk of chunk `n`'s sequence. -/
def start (n : ℕ) : ℕ := if n < 128 then 0 else if n < 160 then 128 else 160

/-- The state before chunk `n`. -/
def stF (X : Fin 24576 → Fin 12288 → EReal) (lg : EReal) (n : ℕ) (h : Fin 8) (d : Fin 128) (e : Fin 256) : EReal :=
  stS (fun j => kv X (wF lg) h d e (start n + j)) (gch lg) (n - start n)

/-- The score of a query and a key of one chunk. -/
def score (X : Fin 24576 → Fin 12288 → EReal) (n : Fin 192) (h : Fin 8) (a c : Fin 128) : EReal :=
  ∑ d : Fin 128, X (row n a) (qc h d) * X (row n c) (kc h d)

/-- The part of a chunk's result from the chunk itself, under a decay. -/
def inner (X : Fin 24576 → Fin 12288 → EReal) (D : ℕ → ℕ → EReal) (n : Fin 192) (a : Fin 128) (h : Fin 8) (e : Fin 256) : EReal :=
  ∑ c : Fin 128, score X n h a c * D a.val c.val * X (row n c) (vc h e)

/-- The part of a chunk's result from the state before it. -/
def cross (X : Fin 24576 → Fin 12288 → EReal) (st : Fin 128 → EReal) (w : EReal) (n : Fin 192) (a : Fin 128) (h : Fin 8) : EReal :=
  (∑ d : Fin 128, X (row n a) (qc h d) * st d) * w

theorem nat_toInt (n : ℕ) (hn : n < 1000) : (BitVec.ofNat 32 n).toInt = (n : ℤ) := by
  rw [BitVec.toInt_eq_toNat_of_lt (by rw [BitVec.toNat_ofNat]; omega), BitVec.toNat_ofNat]
  omega

theorem pos_eq (n : ℕ) (hn : n < 1000) : pos n = ((n : ℝ) : EReal) := by
  show (((BitVec.ofNat 32 n).toInt : ℝ) : EReal) = _
  rw [nat_toInt n hn]; norm_cast

theorem sub_toInt (a c : ℕ) (ha : a < 1000) (hc : c < 1000) :
    (IntOp.subi (BitVec.ofNat 32 a) (BitVec.ofNat 32 c)).toInt = (a : ℤ) - (c : ℤ) := by
  show (BitVec.ofNat 32 a - BitVec.ofNat 32 c).toInt = _
  rw [BitVec.toInt_sub, nat_toInt a ha, nat_toInt c hc, Int.bmod_eq_of_le] <;> omega

theorem gap_eq (a c : ℕ) (ha : a < 1000) (hc : c < 1000) : gap a c = (((a : ℝ) - (c : ℝ) : ℝ) : EReal) := by
  show (((IntOp.subi (BitVec.ofNat 32 a) (BitVec.ofNat 32 c)).toInt : ℝ) : EReal) = _
  rw [sub_toInt a c ha hc]; push_cast; rfl

theorem gap_nonneg (a c : ℕ) (ha : a < 1000) (hc : c < 1000) : 0 ≤ gap a c ↔ c ≤ a := by
  rw [gap_eq a c ha hc, ← EReal.coe_zero, EReal.coe_le_coe_iff, sub_nonneg, Nat.cast_le]

theorem gap_neg (a c : ℕ) (ha : a < 1000) (hc : c < 1000) : gap a c < 0 ↔ a < c := by
  rw [gap_eq a c ha hc, ← EReal.coe_zero, EReal.coe_lt_coe_iff, sub_neg, Nat.cast_lt]

/-- The decay of both directions splits a chunk's own part. -/
theorem inner_add (X : Fin 24576 → Fin 12288 → EReal) (lf lb : EReal) (n : Fin 192) (a : Fin 128) (h : Fin 8) (e : Fin 256) :
    inner X (fun a c => decF lf a c + decB lb a c) n a h e = inner X (decF lf) n a h e + inner X (decB lb) n a h e := by
  unfold inner
  rw [← Finset.sum_add_distrib]
  refine Finset.sum_congr rfl fun c _ => ?_
  have ha := a.isLt
  have hc := c.isLt
  have h1 := gap_nonneg a.val c.val (by omega) (by omega)
  have h2 := gap_neg a.val c.val (by omega) (by omega)
  by_cases hac : c.val ≤ a.val
  · have hz : decB lb a.val c.val = 0 := if_neg (fun z => by have := h2.mp z; omega)
    simp only [hz, add_zero, mul_zero, zero_mul]
  · have hz : decF lf a.val c.val = 0 := if_neg (fun z => hac (h1.mp z))
    simp only [hz, zero_add, mul_zero, zero_mul]

/-- The reversed rows. -/
def flip (X : Fin 24576 → Fin 12288 → EReal) : Fin 24576 → Fin 12288 → EReal := fun r j => X r.rev j

theorem rev_row (n : Fin 192) (a : Fin 128) : (row n a).rev = row n.rev a.rev := by
  apply Fin.ext
  have := n.isLt; have := a.isLt
  simp only [Fin.val_rev, row]; omega

theorem flip_row (X : Fin 24576 → Fin 12288 → EReal) (n : Fin 192) (a : Fin 128) (j : Fin 12288) :
    flip X (row n a) j = X (row n.rev a.rev) j := by
  unfold flip; rw [rev_row]

theorem sum_rev (f : Fin 128 → EReal) : ∑ a : Fin 128, f a.rev = ∑ a : Fin 128, f a :=
  Equiv.sum_comp Fin.revPerm f

/-- A reversed chunk's own part is the chunk's, under the reversed decay. -/
theorem inner_flip (X : Fin 24576 → Fin 12288 → EReal) (D D' : ℕ → ℕ → EReal)
    (hD : ∀ a c : Fin 128, D a.rev.val c.rev.val = D' a.val c.val) (n : Fin 192) (a : Fin 128) (h : Fin 8) (e : Fin 256) :
    inner (flip X) D n.rev a.rev h e = inner X D' n a h e := by
  unfold inner score
  rw [← sum_rev]
  refine Finset.sum_congr rfl fun c _ => ?_
  simp only [flip_row, Fin.rev_rev, hD]

/-- The first chunk of the `p`-th chunk's sequence, from the last chunk backward. -/
def startB (p : ℕ) : ℕ := if p < 32 then 0 else if p < 64 then 32 else 64

/-- The backward state before the `p`-th chunk from the last one. -/
def stB (X : Fin 24576 → Fin 12288 → EReal) (lg : EReal) (p : ℕ) (h : Fin 8) (d : Fin 128) (e : Fin 256) : EReal :=
  stS (fun j => kv (flip X) (wF lg) h d e (startB p + j)) (gch lg) (p - startB p)

/-- The column of the gates. -/
def rc (h : Fin 8) (e : Fin 256) : Fin 12288 := ⟨4096 + (256 * h.val + e.val), by have := h.isLt; have := e.isLt; omega⟩

/-- The two ways of writing the gate. -/
theorem silu (g : EReal) : Ideal.div g (1 + Ideal.exp (0 - g)) = g * Ideal.div 1 (1 + Ideal.exp (-g)) := by
  have h0 : ∀ x : EReal, 0 ≤ Ideal.exp x := by
    intro x
    induction x using EReal.rec with
    | bot => exact le_refl _
    | top => exact le_top
    | coe r => exact EReal.coe_nonneg.mpr (Real.exp_pos r).le
  have h1 : (1 : EReal) + Ideal.exp (-g) ≠ 0 :=
    ne_of_gt (lt_of_lt_of_le zero_lt_one (le_add_of_nonneg_right (h0 _)))
  rw [zero_sub, Ideal.div, if_neg h1, Ideal.div, if_neg h1, one_mul]

theorem c127 : Ideal.ofBits .f32 0x42FE0000#32 = ((127 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num

theorem wF_rev (lg : EReal) (a : Fin 128) : wF lg a.rev = Ideal.exp (pos a.val * lg) := by
  have ha := a.isLt
  unfold wF
  rw [c127, pos_eq _ (by have := a.rev.isLt; omega), pos_eq _ (by omega), ← EReal.coe_sub, Fin.val_rev, Nat.cast_sub (by omega)]
  congr 3
  push_cast
  ring

theorem pos_rev (a : Fin 128) : pos a.rev.val + 1 = Ideal.ofBits .f32 0x43000000#32 - pos a.val := by
  have ha := a.isLt
  rw [c128, pos_eq _ (by have := a.rev.isLt; omega), pos_eq _ (by omega), ← EReal.coe_sub, ← EReal.coe_one, ← EReal.coe_add, Fin.val_rev, Nat.cast_sub (by omega)]
  congr 1
  push_cast
  ring

/-- What a chunk adds to the backward state, read in the rows as they lie. -/
theorem kv_flip (X : Fin 24576 → Fin 12288 → EReal) (lg : EReal) (h : Fin 8) (d : Fin 128) (e : Fin 256) (p : Fin 192) :
    kv (flip X) (wF lg) h d e p.val
      = ∑ a : Fin 128, X (row p.rev a) (kc h d) * Ideal.exp (pos a.val * lg) * X (row p.rev a) (vc h e) := by
  unfold kv
  rw [dif_pos p.isLt, ← sum_rev]
  refine Finset.sum_congr rfl fun a _ => ?_
  rw [flip_row, flip_row, wF_rev, Fin.rev_rev]

end Cert.Ret

end
-- ==== Proof.RetFwd.Cases.lean ====
/- What one grid point of the kernel leaves in its buffers. -/
module

public import proofs.«01_k».proof.Proof.Gen.RetFwdIdeal.Value
public import proofs.«01_k».proof.Proof.Pieces
public import proofs.«01_k».proof.Proof.Retention
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetFwdIdeal.Value

open Cert.RetFwdIdeal Cert.RetFwdIdeal.Gen Cert.Ret

variable (m : (ℓ : Loc nD τ sig) → Buf (Elt Ideal) ℓ)

/-- The state after a chunk, from the state before it. -/
def stNext (lg : Vec Ideal S8 .f32) (k : Vec Ideal S128x1024 .f32) (v : Vec Ideal S128x2048 .f32) (st : EReal)
    (h : Fin 8) (d : Fin 128) (e : Fin 256) : EReal :=
  st * Ideal.exp (Ideal.ofBits .f32 0x43000000#32 * lg (ix1 h))
    + ∑ a : Fin 128, k (ix2 a (hd h d)) * Ideal.exp ((Ideal.ofBits .f32 0x42FE0000#32 - pos a.val) * lg (ix1 h)) * v (ix2 a (he h e))

/-- The result of a chunk, from the state before it. -/
def outF (lg : Vec Ideal S8 .f32) (q k : Vec Ideal S128x1024 .f32) (v : Vec Ideal S128x2048 .f32)
    (D : Fin 8 → Fin 128 → Fin 128 → EReal) (st : Fin 8 → Fin 128 → Fin 256 → EReal) (a : Fin 128) (h : Fin 8) (e : Fin 256) : EReal :=
  (∑ c : Fin 128, (∑ d : Fin 128, q (ix2 a (hd h d)) * k (ix2 c (hd h d))) * D h a c * v (ix2 c (he h e)))
    + (∑ d : Fin 128, q (ix2 a (hd h d)) * st h d e) * Ideal.exp ((pos a.val + 1) * lg (ix1 h))

/-- The decay matrix of both directions. -/
def dmat (lf lb : Vec Ideal S8 .f32) (h : Fin 8) (a c : Fin 128) : EReal :=
  decF (lf (ix1 h)) a.val c.val + decB (lb (ix1 h)) a.val c.val

theorem rdS (Z : Vec Ideal S8x128x256 .f32) :
    View.read (Elt Ideal) (View.whole cc0_scratch1) ((Memref.isWhole_whole cc0_scratch1).unread Z) = Z :=
  (Memref.isWhole_whole cc0_scratch1).read_unread Z

theorem rdD (Z : Vec Ideal S8x128x128 .f32) :
    View.read (Elt Ideal) (View.whole cc0_scratch0) ((Memref.isWhole_whole cc0_scratch0).unread Z) = Z :=
  (Memref.isWhole_whole cc0_scratch0).read_unread Z

/-- The state a point of case B leaves. -/
theorem stateB (c : Dev nD) (t : Fin cfg0.N) (h0 : ¬t.val % 192 = 0) (h1 : ¬(t.val % 192 = 0 ∨ t.val % 192 = 128 ∨ t.val % 192 = 160)) (h : Fin 8) (d : Fin 128) (e : Fin 256) :
    (outsAt0 m c t.val t.isLt).2.2 (ix3 h d e)
      = stNext (iblk m c 0 t) (iblk m c 3 t) (iblk m c 4 t) ((outsAt0 m c (t.val - 1) (Nat.lt_of_le_of_lt (Nat.sub_le _ _) t.isLt)).2.2 (ix3 h d e)) h d e := by
  rw [outsAt0_B m c t h0 h1]
  dsimp only
  frame_open
  simp (disch := decide) only [↓ View.readCov_skip, ↓ View.readCov_cons_toLoadRect, ↓ View.readCov_fill]
  frame_out
  clear h0 h1
  generalize outsAt0 m c (t.val - 1) (Nat.lt_of_le_of_lt (Nat.sub_le _ _) t.isLt) = Z
  canon_tiles x hx
  all_goals
    idx_vars x
    obtain rfl : x0 = 0 := Fin.ext (by omega)
    obtain rfl : d = x1 := Fin.ext hx1
    obtain rfl : e = x2 := Fin.ext hx2
    obtain ⟨h, hh⟩ := h
    obtain rfl : h = _ := hx0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
    simp only [stNext, hd, he, pos, zero_mul, rdS, rdD, Fin.coe_ofNat_eq_mod, Nat.reduceMod, Nat.zero_mod, Nat.reduceMul, Nat.mul_zero, Nat.zero_add]

/-- The state a point of case C leaves. -/
theorem stateC (c : Dev nD) (t : Fin cfg0.N) (h0 : ¬t.val % 192 = 0) (h1 : (t.val % 192 = 0 ∨ t.val % 192 = 128 ∨ t.val % 192 = 160)) (h : Fin 8) (d : Fin 128) (e : Fin 256) :
    (outsAt0 m c t.val t.isLt).2.2 (ix3 h d e)
      = stNext (iblk m c 0 t) (iblk m c 3 t) (iblk m c 4 t) 0 h d e := by
  rw [outsAt0_C m c t h0 h1]
  dsimp only
  frame_open
  simp (disch := decide) only [↓ View.readCov_skip, ↓ View.readCov_cons_toLoadRect, ↓ View.readCov_fill]
  frame_out
  clear h0 h1
  generalize outsAt0 m c (t.val - 1) (Nat.lt_of_le_of_lt (Nat.sub_le _ _) t.isLt) = Z
  refine (Cert.Pieces.canon_append_covered [_, _, _, _, _, _, _, _] [_] (ix3 h d e) (View.cover_of_tiled_head _ _ _ (by rfl) _)).trans ?_
  canon_tiles x hx
  all_goals
    idx_vars x
    obtain rfl : x0 = 0 := Fin.ext (by omega)
    obtain rfl : d = x1 := Fin.ext hx1
    obtain rfl : e = x2 := Fin.ext hx2
    obtain ⟨h, hh⟩ := h
    obtain rfl : h = _ := hx0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
    simp only [stNext, hd, he, pos, zero_mul, rdS, rdD, Fin.coe_ofNat_eq_mod, Nat.reduceMod, Nat.zero_mod, Nat.reduceMul, Nat.mul_zero, Nat.zero_add]

/-- The state a point of case A leaves. -/
theorem stateA (c : Dev nD) (t : Fin cfg0.N) (h0 : t.val % 192 = 0) (h1 : (t.val % 192 = 0 ∨ t.val % 192 = 128 ∨ t.val % 192 = 160)) (h : Fin 8) (d : Fin 128) (e : Fin 256) :
    (outsAt0 m c t.val t.isLt).2.2 (ix3 h d e)
      = stNext (iblk m c 0 t) (iblk m c 3 t) (iblk m c 4 t) 0 h d e := by
  rw [outsAt0_A m c t h0 h1]
  dsimp only
  frame_open
  simp (disch := decide) only [↓ View.readCov_skip, ↓ View.readCov_cons_toLoadRect, ↓ View.readCov_fill]
  frame_out
  clear h0 h1
  refine (Cert.Pieces.canon_append_covered [_, _, _, _, _, _, _, _] [_] (ix3 h d e) (View.cover_of_tiled_head _ _ _ (by rfl) _)).trans ?_
  canon_tiles x hx
  all_goals
    idx_vars x
    obtain rfl : x0 = 0 := Fin.ext (by omega)
    obtain rfl : d = x1 := Fin.ext hx1
    obtain rfl : e = x2 := Fin.ext hx2
    obtain ⟨h, hh⟩ := h
    obtain rfl : h = _ := hx0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
    simp only [stNext, hd, he, pos, zero_mul, rdS, rdD, Fin.coe_ofNat_eq_mod, Nat.reduceMod, Nat.zero_mod, Nat.reduceMul, Nat.mul_zero, Nat.zero_add]

/-- The decay matrix stays as it is. -/
theorem dmatB (c : Dev nD) (t : Fin cfg0.N) (h0 : ¬t.val % 192 = 0) (h1 : ¬(t.val % 192 = 0 ∨ t.val % 192 = 128 ∨ t.val % 192 = 160)) : (outsAt0 m c t.val t.isLt).2.1 = (outsAt0 m c (t.val - 1) (Nat.lt_of_le_of_lt (Nat.sub_le _ _) t.isLt)).2.1 := by
  rw [outsAt0_B m c t h0 h1]
  rfl

theorem dmatC (c : Dev nD) (t : Fin cfg0.N) (h0 : ¬t.val % 192 = 0) (h1 : (t.val % 192 = 0 ∨ t.val % 192 = 128 ∨ t.val % 192 = 160)) : (outsAt0 m c t.val t.isLt).2.1 = (outsAt0 m c (t.val - 1) (Nat.lt_of_le_of_lt (Nat.sub_le _ _) t.isLt)).2.1 := by
  rw [outsAt0_C m c t h0 h1]
  rfl

theorem dmatA (c : Dev nD) (t : Fin cfg0.N) (h0 : t.val % 192 = 0) (h1 : (t.val % 192 = 0 ∨ t.val % 192 = 128 ∨ t.val % 192 = 160)) (h : Fin 8) (d e : Fin 128) : (outsAt0 m c t.val t.isLt).2.1 (ix3 h d e) = dmat (iblk m c 0 t) (iblk m c 1 t) h d e := by
  rw [outsAt0_A m c t h0 h1]
  dsimp only
  frame_open
  simp (disch := decide) only [↓ View.readCov_skip, ↓ View.readCov_cons_toLoadRect, ↓ View.readCov_fill]
  frame_out
  clear h0 h1
  canon_tiles x hx
  all_goals
    idx_vars x
    obtain rfl : x0 = 0 := Fin.ext (by omega)
    obtain rfl : d = x1 := Fin.ext hx1
    obtain rfl : e = x2 := Fin.ext hx2
    obtain ⟨h, hh⟩ := h
    obtain rfl : h = _ := hx0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
    simp only [dmat, decF, decB, gap, Fin.coe_ofNat_eq_mod] <;> rfl
/-- The result a point of case B leaves. -/
theorem outB (c : Dev nD) (t : Fin cfg0.N) (h0 : ¬t.val % 192 = 0) (h1 : ¬(t.val % 192 = 0 ∨ t.val % 192 = 128 ∨ t.val % 192 = 160)) (a : Fin 128) (h : Fin 8) (e : Fin 256) :
    (outsAt0 m c t.val t.isLt).1 (ix2 a (he h e))
      = outF (iblk m c 0 t) (iblk m c 2 t) (iblk m c 3 t) (iblk m c 4 t) (fun h a c' => (outsAt0 m c (t.val - 1) (Nat.lt_of_le_of_lt (Nat.sub_le _ _) t.isLt)).2.1 (ix3 h a c')) (fun h d e => (outsAt0 m c (t.val - 1) (Nat.lt_of_le_of_lt (Nat.sub_le _ _) t.isLt)).2.2 (ix3 h d e)) a h e := by
  rw [outsAt0_B m c t h0 h1]
  dsimp only
  frame_open
  simp (disch := decide) only [↓ View.readCov_skip, ↓ View.readCov_cons_toLoadRect, ↓ View.readCov_fill]
  frame_out
  clear h0 h1
  generalize outsAt0 m c (t.val - 1) (Nat.lt_of_le_of_lt (Nat.sub_le _ _) t.isLt) = Z
  have ee := e.isLt
  have hel : (he h e).val = 256 * h.val + e.val := rfl
  canon_tiles x hx
  all_goals
    idx_vars x
    obtain rfl : a = x0 := Fin.ext hx0
    obtain rfl : e = x1 := Fin.ext (by omega)
    have hv : (h.val = 0 ∨ h.val = 1 ∨ h.val = 2 ∨ h.val = 3) ∨ h.val = 4 ∨ h.val = 5 ∨ h.val = 6 ∨ h.val = 7 := by have := h.isLt; omega
    obtain ⟨h, hh⟩ := h
    rcases hv with (h' | h' | h' | h') | h' | h' | h' | h'
    all_goals first | (exfalso; simp only [] at h' hel; omega) | skip
    all_goals
      obtain rfl : h = _ := h'
      clear hel hx1
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
      simp only [outF, hd, he, pos, dmat, decF, decB, gap, rdS, rdD, Fin.coe_ofNat_eq_mod, Nat.reduceMod, Nat.zero_mod, Nat.reduceMul, Nat.mul_zero, Nat.zero_add]

/-- The result a point of case C leaves. -/
theorem outC (c : Dev nD) (t : Fin cfg0.N) (h0 : ¬t.val % 192 = 0) (h1 : (t.val % 192 = 0 ∨ t.val % 192 = 128 ∨ t.val % 192 = 160)) (a : Fin 128) (h : Fin 8) (e : Fin 256) :
    (outsAt0 m c t.val t.isLt).1 (ix2 a (he h e))
      = outF (iblk m c 0 t) (iblk m c 2 t) (iblk m c 3 t) (iblk m c 4 t) (fun h a c' => (outsAt0 m c (t.val - 1) (Nat.lt_of_le_of_lt (Nat.sub_le _ _) t.isLt)).2.1 (ix3 h a c')) (fun h d e => 0) a h e := by
  rw [outsAt0_C m c t h0 h1]
  dsimp only
  frame_open
  simp (disch := decide) only [↓ View.readCov_skip, ↓ View.readCov_cons_toLoadRect, ↓ View.readCov_fill]
  frame_out
  clear h0 h1
  generalize outsAt0 m c (t.val - 1) (Nat.lt_of_le_of_lt (Nat.sub_le _ _) t.isLt) = Z
  have ee := e.isLt
  have hel : (he h e).val = 256 * h.val + e.val := rfl
  canon_tiles x hx
  all_goals
    idx_vars x
    obtain rfl : a = x0 := Fin.ext hx0
    obtain rfl : e = x1 := Fin.ext (by omega)
    have hv : (h.val = 0 ∨ h.val = 1 ∨ h.val = 2 ∨ h.val = 3) ∨ h.val = 4 ∨ h.val = 5 ∨ h.val = 6 ∨ h.val = 7 := by have := h.isLt; omega
    obtain ⟨h, hh⟩ := h
    rcases hv with (h' | h' | h' | h') | h' | h' | h' | h'
    all_goals first | (exfalso; simp only [] at h' hel; omega) | skip
    all_goals
      obtain rfl : h = _ := h'
      clear hel hx1
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
      simp only [outF, hd, he, pos, dmat, decF, decB, gap, rdS, rdD, Fin.coe_ofNat_eq_mod, Nat.reduceMod, Nat.zero_mod, Nat.reduceMul, Nat.mul_zero, Nat.zero_add]

/-- The result a point of case A leaves. -/
theorem outA (c : Dev nD) (t : Fin cfg0.N) (h0 : t.val % 192 = 0) (h1 : (t.val % 192 = 0 ∨ t.val % 192 = 128 ∨ t.val % 192 = 160)) (a : Fin 128) (h : Fin 8) (e : Fin 256) :
    (outsAt0 m c t.val t.isLt).1 (ix2 a (he h e))
      = outF (iblk m c 0 t) (iblk m c 2 t) (iblk m c 3 t) (iblk m c 4 t) (dmat (iblk m c 0 t) (iblk m c 1 t)) (fun h d e => 0) a h e := by
  rw [outsAt0_A m c t h0 h1]
  dsimp only
  frame_open
  simp (disch := decide) only [↓ View.readCov_skip, ↓ View.readCov_cons_toLoadRect, ↓ View.readCov_fill]
  frame_out
  clear h0 h1
  have ee := e.isLt
  have hel : (he h e).val = 256 * h.val + e.val := rfl
  canon_tiles x hx
  all_goals
    idx_vars x
    obtain rfl : a = x0 := Fin.ext hx0
    obtain rfl : e = x1 := Fin.ext (by omega)
    have hv : (h.val = 0 ∨ h.val = 1 ∨ h.val = 2 ∨ h.val = 3) ∨ h.val = 4 ∨ h.val = 5 ∨ h.val = 6 ∨ h.val = 7 := by have := h.isLt; omega
    obtain ⟨h, hh⟩ := h
    rcases hv with (h' | h' | h' | h') | h' | h' | h' | h'
    all_goals first | (exfalso; simp only [] at h' hel; omega) | skip
    all_goals
      obtain rfl : h = _ := h'
      clear hel hx1
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]
      simp only [outF, hd, he, pos, dmat, decF, decB, gap, rdS, rdD, Fin.coe_ofNat_eq_mod, Nat.reduceMod, Nat.zero_mod, Nat.reduceMul, Nat.mul_zero, Nat.zero_add] <;> rfl

end Cert.RetFwdIdeal.Value

end
-- ==== Proof.RetFwd.Blocks.lean ====
/- The blocks of the first retention call's windows, read in the arguments. -/
module

public import proofs.«01_k».proof.Proof.RetFwd.Cases

@[expose] public section

set_option maxRecDepth 16384

noncomputable section

open Idealize.ShloMosaic Idealize.ShloMosaic.TcCoe Idealize.SL.Sem
open Idealize.ShloMosaic.Pipeline (Dat)

namespace Cert.RetFwdIdeal.Value

open Cert.RetFwdIdeal Cert.RetFwdIdeal.Gen Cert.Ret

variable (m : (ℓ : Loc nD τ sig) → Buf (Elt Ideal) ℓ)

/-- Where each window's block sits at each point. -/
theorem idx : ∀ t : Fin cfg0.N, win0_0.index t = ![0] ∧ win0_1.index t = ![0] ∧ win0_2.index t = ![t.val, 0]
    ∧ win0_3.index t = ![t.val, 1] ∧ win0_4.index t = ![t.val, 1] ∧ win0_5.index t = ![t.val, 0] :=
  (by decide +kernel : ∀ t : Fin grid0.N, _)

theorem blk0 (c : Dev nD) (t : Fin cfg0.N) (h : Fin 8) :
    (show Vec Ideal S8 .f32 from iblk m c 0 t) (ix1 h) = lgam (m ((c : Thread nD τ).loc main_arg1) (ix1 h)) := by
  blk_simp [iblk]
  entry_read
  pointwise
  refine congrArg lgam ?_
  blk_ext [idx t]
theorem blk1 (c : Dev nD) (t : Fin cfg0.N) (h : Fin 8) :
    (show Vec Ideal S8 .f32 from iblk m c 1 t) (ix1 h) = lgam (m ((c : Thread nD τ).loc main_arg2) (ix1 h)) := by
  blk_simp [iblk]
  entry_read
  pointwise
  refine congrArg lgam ?_
  blk_ext [idx t]
theorem blk2 (c : Dev nD) (t : Fin cfg0.N) (a : Fin 128) (h : Fin 8) (d : Fin 128) :
    (show Vec Ideal S128x1024 .f32 from iblk m c 2 t) (ix2 a (hd h d))
      = m ((c : Thread nD τ).loc main_arg0) (ix2 (row ⟨t.val, lt_of_lt_of_eq t.isLt N_0⟩ a) (qc h d)) := by
  blk_ext [iblk, V, idx t, row, qc, hd]
theorem blk3 (c : Dev nD) (t : Fin cfg0.N) (a : Fin 128) (h : Fin 8) (d : Fin 128) :
    (show Vec Ideal S128x1024 .f32 from iblk m c 3 t) (ix2 a (hd h d))
      = m ((c : Thread nD τ).loc main_arg0) (ix2 (row ⟨t.val, lt_of_lt_of_eq t.isLt N_0⟩ a) (kc h d)) := by
  blk_ext [iblk, V, idx t, row, kc, hd]
theorem blk4 (c : Dev nD) (t : Fin cfg0.N) (a : Fin 128) (h : Fin 8) (e : Fin 256) :
    (show Vec Ideal S128x2048 .f32 from iblk m c 4 t) (ix2 a (he h e))
      = m ((c : Thread nD τ).loc main_arg0) (ix2 (row ⟨t.val, lt_of_lt_of_eq t.isLt N_0⟩ a) (vc h e)) := by
  blk_ext [iblk, V, idx t, row, vc, he]

end Cert.RetFwdIdeal.Value

end
-- ==== Proof.RetFwd.Final.lean ====
/- The result array of the first retention call: the state by induction along the chunks, then each chunk's result. -/
module

public import proofs.«01_k».proof.Proof.RetFwd.Blocks

@[expose] public section

set_option maxRecDepth 16384

noncomputable section

open Idealize.ShloMosaic Idealize.ShloMosaic.TcCoe Idealize.SL.Sem
open Idealize.ShloMosaic.Pipeline (Dat)

namespace Cert.RetFwdIdeal.Value

open Cert.RetFwdIdeal Cert.RetFwdIdeal.Gen Cert.Ret

variable (m : (ℓ : Loc nD τ sig) → Buf (Elt Ideal) ℓ)

/-- The projection's rows. -/
def XX (c : Dev nD) : Fin 24576 → Fin 12288 → EReal := fun r j => m ((c : Thread nD τ).loc main_arg0) (ix2 r j)
/-- The decays of the heads, forward and backward. -/
def LF (c : Dev nD) (h : Fin 8) : EReal := lgam (m ((c : Thread nD τ).loc main_arg1) (ix1 h))
def LB (c : Dev nD) (h : Fin 8) : EReal := lgam (m ((c : Thread nD τ).loc main_arg2) (ix1 h))

/-- One chunk's step of the state. -/
theorem step_eq (c : Dev nD) (t : Fin cfg0.N) (st : EReal) (h : Fin 8) (d : Fin 128) (e : Fin 256) :
    stNext (iblk m c 0 t) (iblk m c 3 t) (iblk m c 4 t) st h d e
      = st * gch (LF m c h) + kv (XX m c) (wF (LF m c h)) h d e t.val := by
  have b0 := blk0 m c t
  have b3 := blk3 m c t
  have b4 := blk4 m c t
  have hN := lt_of_lt_of_eq t.isLt N_0
  simp only [] at b0 b3 b4
  unfold stNext kv
  rw [dif_pos hN]
  simp only [b0, b3, b4]
  rfl

/-- The state after chunk `n`. -/
theorem state (c : Dev nD) (h : Fin 8) (d : Fin 128) (e : Fin 256) : ∀ (n : ℕ) (hn : n < cfg0.N),
    (outsAt0 m c n hn).2.2 (ix3 h d e)
      = stS (fun j => kv (XX m c) (wF (LF m c h)) h d e (start n + j)) (gch (LF m c h)) (n - start n + 1) := by
  intro n
  induction n with
  | zero =>
    intro hn
    refine (stateA m c ⟨0, hn⟩ rfl (.inl rfl) h d e).trans ((step_eq m c _ _ h d e).trans ?_)
    rfl
  | succ n ih =>
    intro hn
    have hN := lt_of_lt_of_eq hn N_0
    by_cases h1 : (n + 1 = 128 ∨ n + 1 = 160)
    · refine (stateC m c ⟨n + 1, hn⟩ (by simp only []; omega) (by simp only []; omega) h d e).trans ((step_eq m c _ _ h d e).trans ?_)
      rcases h1 with h1 | h1
      · obtain rfl : n = 127 := by omega
        rfl
      · obtain rfl : n = 159 := by omega
        rfl
    · refine (stateB m c ⟨n + 1, hn⟩ (by simp only []; omega) (by simp only []; omega) h d e).trans ((step_eq m c _ _ h d e).trans ?_)
      have e1 : start (n + 1) = start n := by unfold start; split_ifs <;> omega
      have e0 : start n ≤ n := by unfold start; split_ifs <;> omega
      have e2 : n + 1 - start n = n - start n + 1 := by omega
      have e3 : start n + (n - start n + 1) = n + 1 := by omega
      rw [e1, e2]
      show _ = stS _ _ (n - start n + 1) * _ + kv _ _ h d e (start n + (n - start n + 1))
      rw [e3]
      exact congrArg (fun z => z * _ + _) (ih _)

/-- The decay matrix at every point. -/
theorem decay (c : Dev nD) (h : Fin 8) (a b : Fin 128) : ∀ (n : ℕ) (hn : n < cfg0.N),
    (outsAt0 m c n hn).2.1 (ix3 h a b) = decF (LF m c h) a.val b.val + decB (LB m c h) a.val b.val := by
  intro n
  induction n with
  | zero =>
    intro hn
    have b0 := blk0 m c ⟨0, hn⟩
    have b1 := blk1 m c ⟨0, hn⟩
    refine (dmatA m c ⟨0, hn⟩ rfl (.inl rfl) h a b).trans ?_
    simp only [] at b0 b1
    unfold dmat
    simp only [b0, b1]
    rfl
  | succ n ih =>
    intro hn
    have hN := lt_of_lt_of_eq hn N_0
    by_cases h1 : (n + 1 = 128 ∨ n + 1 = 160)
    · rw [dmatC m c ⟨n + 1, hn⟩ (by simp only []; omega) (by simp only []; omega)]
      exact ih _
    · rw [dmatB m c ⟨n + 1, hn⟩ (by simp only []; omega) (by simp only []; omega)]
      exact ih _

/-- A chunk's result. -/
def res (X : Fin 24576 → Fin 12288 → EReal) (lf lb : Fin 8 → EReal) (n : Fin 192) (a : Fin 128) (h : Fin 8) (e : Fin 256) : EReal :=
  inner X (decF (lf h)) n a h e + cross X (fun d => stF X (lf h) n.val h d e) (Ideal.exp ((pos a.val + 1) * lf h)) n a h
    + inner X (decB (lb h)) n a h e

theorem out_eq (c : Dev nD) (t : Fin cfg0.N) (D : Fin 8 → Fin 128 → Fin 128 → EReal) (st : Fin 8 → Fin 128 → Fin 256 → EReal)
    (hD : ∀ h a b, D h a b = decF (LF m c h) a.val b.val + decB (LB m c h) a.val b.val)
    (hst : ∀ h d e, st h d e = stF (XX m c) (LF m c h) t.val h d e) (a : Fin 128) (h : Fin 8) (e : Fin 256) :
    outF (iblk m c 0 t) (iblk m c 2 t) (iblk m c 3 t) (iblk m c 4 t) D st a h e
      = res (XX m c) (LF m c) (LB m c) ⟨t.val, lt_of_lt_of_eq t.isLt N_0⟩ a h e := by
  have b0 := blk0 m c t
  have b2 := blk2 m c t
  have b3 := blk3 m c t
  have b4 := blk4 m c t
  simp only [] at b0 b2 b3 b4
  unfold res
  rw [add_assoc, add_comm (cross _ _ _ _ _ _), ← add_assoc, ← inner_add]
  unfold outF Cert.Ret.inner cross score
  simp only [b0, b2, b3, b4, hD, hst]
  rfl

/-- The block a point writes. -/
theorem block_eq (c : Dev nD) (t : Fin cfg0.N) (a : Fin 128) (h : Fin 8) (e : Fin 256) :
    (outsAt0 m c t.val t.isLt).1 (ix2 a (he h e))
      = res (XX m c) (LF m c) (LB m c) ⟨t.val, lt_of_lt_of_eq t.isLt N_0⟩ a h e := by
  have hN := lt_of_lt_of_eq t.isLt N_0
  by_cases h0 : t.val = 0
  · refine (outA m c t (by omega) (by omega) a h e).trans (out_eq m c t _ _ (fun h a b => ?_) (fun h d e => ?_) a h e)
    · have b0 := blk0 m c t
      have b1 := blk1 m c t
      simp only [] at b0 b1
      unfold dmat
      simp only [b0, b1]
      rfl
    · rw [h0]; rfl
  · by_cases h1 : (t.val = 128 ∨ t.val = 160)
    · refine (outC m c t (by omega) (by omega) a h e).trans (out_eq m c t _ _ (fun h a b => decay m c h a b _ _) (fun h d e => ?_) a h e)
      rcases h1 with h1 | h1 <;> (rw [h1]; rfl)
    · refine (outB m c t (by omega) (by omega) a h e).trans (out_eq m c t _ _ (fun h a b => decay m c h a b _ _) (fun h d e => ?_) a h e)
      refine (state m c h d e _ _).trans ?_
      have e1 : start (t.val - 1) = start t.val := by unfold start; split_ifs <;> omega
      have e0 : start t.val ≤ t.val - 1 := by unfold start; split_ifs <;> omega
      have e2 : t.val - 1 - start t.val + 1 = t.val - start t.val := by omega
      unfold stF
      rw [e1, e2]

/-- The result array after the run. -/
theorem final (c : Dev nD) (G : FVec Ideal S24576x2048 .f32)
    (hG : ∀ n a h e, G (ix2 (row n a) (he h e)) = res (XX m c) (LF m c) (LB m c) n a h e) :
    (dats m 0 c).arrAt 5 (cfgs 0).N = G := by
  refine (dats m 0 c).arrAt_eq_of_covers 5 _ (by decide +kernel) fun t hf y => ?_
  have hN := lt_of_lt_of_eq t.isLt N_0
  blk_simp
  rw [after0_5]
  idx_vars y
  obtain ⟨h, e, rfl⟩ : ∃ (h : Fin 8) (e : Fin 256), y1 = he h e :=
    ⟨⟨y1.val / 256, by have := y1.isLt; omega⟩, ⟨y1.val % 256, by omega⟩, Fin.ext (by simp only [he]; omega)⟩
  have e' : ((cfg0.win 5).blk t).view.emb (ix2 y0 (he h e)) = ix2 (row ⟨t.val, hN⟩ y0) (he h e) := by
    blk_ext [idx t, row]
  exact (block_eq m c t y0 h e).trans ((congrArg G e').trans (hG _ _ _ _)).symm

end Cert.RetFwdIdeal.Value

end
-- ==== Proof.RetFwd.Loop.lean ====
/- The loop of the first retention call's reference: the state before every chunk of each sequence. -/
module

public import proofs.«01_k».proof.Proof.Gen.RetFwdRefIdeal.Run
public import proofs.«01_k».proof.Proof.Retention
public import Idealize.ShloMosaic.Lib.DynamicIndex
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.RetFwdRefIdeal.Value

open Cert.RetFwdRefIdeal Cert.RetFwdRefIdeal.Gen Cert.Ret
open Idealize.ShloMosaic.StableHlo

variable (m : (ℓ : Loc nD τ sig) → Buf (Elt Ideal) ℓ)

theorem slice_apply (Z : FVec Ideal S128x3x8x128x256 .f32) (st : Fin 5 → ℤ) (k : Fin 128)
    (hs : ∀ a, st a = ((![k.val, 0, 0, 0, 0] : Fin 5 → ℕ) a : ℤ)) (b : Fin 3) (h : Fin 8) (d : Fin 128) (e : Fin 256) :
    (shapeCast S3x8x128x256 (Host.dynamicSlice S1x3x8x128x256 Z st sliceFits_S128x3x8x128x256_S1x3x8x128x256)
      shapeCasts_S1x3x8x128x256_S3x8x128x256 : FVec Ideal S3x8x128x256 .f32) (ix4 b h d e) = Z (ix5 k b h d e) := by
  have hk := k.isLt
  have hfit : S128x3x8x128x256.Slices (![k.val, 0, 0, 0, 0] : Fin 5 → ℕ) S1x3x8x128x256 :=
    ⟨rfl, fun a => by fin_cases a <;> first | (show k.val + 1 ≤ 128; omega) | (show (0 + _ : ℕ) ≤ _; decide)⟩
  have q := Host.dynamicSlice_eq_extractStridedSlice S1x3x8x128x256 Z st (![k.val, 0, 0, 0, 0] : Fin 5 → ℕ)
    sliceFits_S128x3x8x128x256_S1x3x8x128x256 hfit hs
  rw [q]
  pointwise

theorem update_apply (Z : FVec Ideal S128x3x8x128x256 .f32) (U : FVec Ideal S3x8x128x256 .f32) (st : Fin 5 → ℤ) (k : Fin 128)
    (hs : ∀ a, st a = ((![k.val, 0, 0, 0, 0] : Fin 5 → ℕ) a : ℤ)) (j : Fin 128) (b : Fin 3) (h : Fin 8) (d : Fin 128) (e : Fin 256) :
    (Host.dynamicUpdateSlice Z (broadcastInDim S1x3x8x128x256 ![1, 2, 3, 4] bcast_S3x8x128x256_S1x3x8x128x256_1_2_3_4 U) st
      updateFits_S128x3x8x128x256_S1x3x8x128x256 : FVec Ideal S128x3x8x128x256 .f32) (ix5 j b h d e)
      = if j = k then U (ix4 b h d e) else Z (ix5 j b h d e) := by
  have hk := k.isLt
  have hfit : S128x3x8x128x256.Slices (![k.val, 0, 0, 0, 0] : Fin 5 → ℕ) S1x3x8x128x256 :=
    ⟨rfl, fun a => by fin_cases a <;> first | (show k.val + 1 ≤ 128; omega) | (show (0 + _ : ℕ) ≤ _; decide)⟩
  have q := WordCmp.dynamicUpdateSlice_eq_update Z (broadcastInDim S1x3x8x128x256 ![1, 2, 3, 4] bcast_S3x8x128x256_S1x3x8x128x256_1_2_3_4 U) st
    updateFits_S128x3x8x128x256_S1x3x8x128x256 (![k.val, 0, 0, 0, 0] : Fin 5 → ℕ) hfit hs
  rw [q]
  pointwise
  by_cases hj : j = k
  · rw [dif_pos ⟨by rw [hj], by rw [hj]; omega⟩, if_pos hj]
  · rw [dif_neg (fun z => hj (Fin.ext (by omega))), if_neg hj]

theorem cat_apply (A B C : FVec Ideal S128x1x8x128x256 .f32) (k : Fin 128) (b : Fin 3) (h : Fin 8) (d : Fin 128) (e : Fin 256) :
    (concatenate S128x3x8x128x256 1 [⟨S128x1x8x128x256, A⟩, ⟨S128x1x8x128x256, B⟩, ⟨S128x1x8x128x256, C⟩]
      concatenates_S128x1x8x128x256_S128x1x8x128x256_S128x1x8x128x256_S128x3x8x128x256_d1 : FVec Ideal S128x3x8x128x256 .f32) (ix5 k b h d e)
      = if b.val = 0 then A (ix5 k 0 h d e) else if b.val = 1 then B (ix5 k 0 h d e) else C (ix5 k 0 h d e) := by
  pointwise
  have hb : b = 0 ∨ b = 1 ∨ b = 2 := by fin_cases b <;> simp
  rcases hb with rfl | rfl | rfl <;> rfl

theorem longPart (Z : FVec Ideal S192x8x128x256 .f32) (k : Fin 128) (h : Fin 8) (d : Fin 128) (e : Fin 256) :
    (broadcastInDim S128x1x8x128x256 ![0, 2, 3, 4] bcast_S128x8x128x256_S128x1x8x128x256_0_2_3_4
      (pad S128x8x128x256 ![0, 0, 0, 0] ![0, 0, 0, 0] ![0, 0, 0, 0] (extractStridedSlice S128x8x128x256 ![0, 0, 0, 0] Z slices_S192x8x128x256_S128x8x128x256_0_0_0_0)
        (constant S_ .f32 0x00000000#32) pads_S128x8x128x256_S128x8x128x256_000_000_000_000 h_S_) : FVec Ideal S128x1x8x128x256 .f32) (ix5 k 0 h d e)
      = Z (ix4 ⟨k.val, by have := k.isLt; omega⟩ h d e) := by
  pointwise

theorem shortPart (Z : FVec Ideal S192x8x128x256 .f32) (k : Fin 128) (h : Fin 8) (d : Fin 128) (e : Fin 256) :
    (broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![128, 0, 0, 0] Z slices_S192x8x128x256_S32x8x128x256_128_0_0_0)
        (constant S_ .f32 0x00000000#32) pads_S32x8x128x256_S128x8x128x256_0960_000_000_000 h_S_) : FVec Ideal S128x1x8x128x256 .f32) (ix5 k 0 h d e)
      = if hk : k.val < 32 then Z (ix4 ⟨128 + k.val, by omega⟩ h d e) else 0 := by
  pointwise

theorem shortPart' (Z : FVec Ideal S192x8x128x256 .f32) (k : Fin 128) (h : Fin 8) (d : Fin 128) (e : Fin 256) :
    (broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![160, 0, 0, 0] Z slices_S192x8x128x256_S32x8x128x256_160_0_0_0)
        (constant S_ .f32 0x00000000#32) pads_S32x8x128x256_S128x8x128x256_0960_000_000_000 h_S_) : FVec Ideal S128x1x8x128x256 .f32) (ix5 k 0 h d e)
      = if hk : k.val < 32 then Z (ix4 ⟨160 + k.val, by omega⟩ h d e) else 0 := by
  pointwise

theorem chunkQ (X : FVec Ideal S24576x12288 .f32) (n : Fin 192) (a : Fin 128) (h : Fin 8) (d : Fin 128) :
    (shapeCast S192x128x8x128 (extractStridedSlice S24576x1024 ![0, 0] X slices_S24576x12288_S24576x1024_0_0)
      shapeCasts_S24576x1024_S192x128x8x128 : FVec Ideal S192x128x8x128 .f32) (ix4 n a h d) = X (ix2 (row n a) (qc h d)) := by
  pointwise
  refine congrArg₂ (fun x y => X (ix2 x y)) (Fin.ext ?_) (Fin.ext ?_) <;> simp only [row, qc] <;> omega

theorem chunkK (X : FVec Ideal S24576x12288 .f32) (n : Fin 192) (a : Fin 128) (h : Fin 8) (d : Fin 128) :
    (shapeCast S192x128x8x128 (extractStridedSlice S24576x1024 ![0, 1024] X slices_S24576x12288_S24576x1024_0_1024)
      shapeCasts_S24576x1024_S192x128x8x128 : FVec Ideal S192x128x8x128 .f32) (ix4 n a h d) = X (ix2 (row n a) (kc h d)) := by
  pointwise
  refine congrArg₂ (fun x y => X (ix2 x y)) (Fin.ext ?_) (Fin.ext ?_) <;> simp only [row, kc] <;> omega

theorem chunkV (X : FVec Ideal S24576x12288 .f32) (n : Fin 192) (a : Fin 128) (h : Fin 8) (e : Fin 256) :
    (shapeCast S192x128x8x256 (extractStridedSlice S24576x2048 ![0, 2048] X slices_S24576x12288_S24576x2048_0_2048)
      shapeCasts_S24576x2048_S192x128x8x256 : FVec Ideal S192x128x8x256 .f32) (ix4 n a h e) = X (ix2 (row n a) (vc h e)) := by
  pointwise
  refine congrArg₂ (fun x y => X (ix2 x y)) (Fin.ext ?_) (Fin.ext ?_) <;> simp only [row, vc] <;> omega

/-- The logarithms of the decays. -/
abbrev lgV (A : FVec Ideal S8 .f32) : FVec Ideal S8 .f32 :=
  Host.log1p (Host.negf (Host.exp (mulf (broadcastInDim S8 ![] bcast_S_S8 (constant S_ .f32 0x3F317218#32)) (Host.negf A))))

theorem lgV_apply (A : FVec Ideal S8 .f32) (h : Fin 8) : lgV A (ix1 h) = lgam (A (ix1 h)) := by
  unfold lgV
  pointwise
  rfl

/-- What every chunk adds to the state. -/
abbrev kvT (X : FVec Ideal S24576x12288 .f32) (A : FVec Ideal S8 .f32) : FVec Ideal S192x8x128x256 .f32 :=
  Host.dotGeneral dot_S192x128x8x128_S192x128x8x256_S192x8x128x256_1_1_3_3_02_02 none
    (mulf (shapeCast S192x128x8x128 (extractStridedSlice S24576x1024 ![0, 1024] X slices_S24576x12288_S24576x1024_0_1024)
        shapeCasts_S24576x1024_S192x128x8x128)
      (broadcastInDim S192x128x8x128 ![0, 1, 2, 3] bcast_S1x128x8x1_S192x128x8x128_0_1_2_3
        (broadcastInDim S1x128x8x1 ![1, 2] bcast_S128x8_S1x128x8x1_1_2
          (Host.exp (mulf (broadcastInDim S128x8 ![0, 1] bcast_S128x1_S128x8_0_1
              (broadcastInDim S128x1 ![0] bcast_S128_S128x1_0
                (subf (broadcastInDim S128 ![] bcast_S_S128 (constant S_ .f32 0x42FE0000#32)) (sitofp .f32 (iotaInDim S128 32 0)))))
            (broadcastInDim S128x8 ![0, 1] bcast_S1x8_S128x8_0_1 (broadcastInDim S1x8 ![1] bcast_S8_S1x8_1 (lgV A))))))))
    (shapeCast S192x128x8x256 (extractStridedSlice S24576x2048 ![0, 2048] X slices_S24576x12288_S24576x2048_0_2048)
      shapeCasts_S24576x2048_S192x128x8x256)

theorem kvT_apply (X : FVec Ideal S24576x12288 .f32) (A : FVec Ideal S8 .f32) (n : Fin 192) (h : Fin 8) (d : Fin 128) (e : Fin 256) :
    kvT X A (ix4 n h d e) = kv (fun r j => X (ix2 r j)) (wF (lgam (A (ix1 h)))) h d e n.val := by
  have hK := chunkK X n
  have hV := chunkV X n
  have hL := lgV_apply A
  unfold kvT
  generalize lgV A = L at hL ⊢
  generalize (shapeCast S192x128x8x128 (extractStridedSlice S24576x1024 ![0, 1024] X slices_S24576x12288_S24576x1024_0_1024)
        shapeCasts_S24576x1024_S192x128x8x128 : FVec Ideal S192x128x8x128 .f32) = K at hK ⊢
  generalize (shapeCast S192x128x8x256 (extractStridedSlice S24576x2048 ![0, 2048] X slices_S24576x12288_S24576x2048_0_2048)
      shapeCasts_S24576x2048_S192x128x8x256 : FVec Ideal S192x128x8x256 .f32) = W at hV ⊢
  unfold kv
  rw [dif_pos n.isLt]
  pointwise
  simp only [hK, hV, hL]
  rfl

theorem read37 (c : Dev nD) : (show FVec Ideal S128x1x8x128x256 .f32 from upto hostOps0 (launchContents m c) 47 (Proc.devRef .tc main_v37))
    = broadcastInDim S128x1x8x128x256 ![0, 2, 3, 4] bcast_S128x8x128x256_S128x1x8x128x256_0_2_3_4
      (pad S128x8x128x256 ![0, 0, 0, 0] ![0, 0, 0, 0] ![0, 0, 0, 0] (extractStridedSlice S128x8x128x256 ![0, 0, 0, 0]
        (kvT (m ((c.tc : Thread nD τ).loc main_arg0)) (m ((c.tc : Thread nD τ).loc main_arg1))) slices_S192x8x128x256_S128x8x128x256_0_0_0_0)
        (constant S_ .f32 0x00000000#32) pads_S128x8x128x256_S128x8x128x256_000_000_000_000 h_S_) := by
  after_reads_simp
  rfl

theorem read38 (c : Dev nD) : (show FVec Ideal S128x1x8x128x256 .f32 from upto hostOps0 (launchContents m c) 47 (Proc.devRef .tc main_v38))
    = broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![128, 0, 0, 0]
        (kvT (m ((c.tc : Thread nD τ).loc main_arg0)) (m ((c.tc : Thread nD τ).loc main_arg1))) slices_S192x8x128x256_S32x8x128x256_128_0_0_0)
        (constant S_ .f32 0x00000000#32) pads_S32x8x128x256_S128x8x128x256_0960_000_000_000 h_S_) := by
  after_reads_simp
  rfl

theorem read39 (c : Dev nD) : (show FVec Ideal S128x1x8x128x256 .f32 from upto hostOps0 (launchContents m c) 47 (Proc.devRef .tc main_v39))
    = broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![160, 0, 0, 0]
        (kvT (m ((c.tc : Thread nD τ).loc main_arg0)) (m ((c.tc : Thread nD τ).loc main_arg1))) slices_S192x8x128x256_S32x8x128x256_160_0_0_0)
        (constant S_ .f32 0x00000000#32) pads_S32x8x128x256_S128x8x128x256_0960_000_000_000 h_S_) := by
  after_reads_simp
  rfl

/-- The first chunk of each of the sequences, and how many there are. -/
def st3 (b : Fin 3) : ℕ := if b.val = 0 then 0 else if b.val = 1 then 128 else 160
def len3 (b : Fin 3) : ℕ := if b.val = 0 then 128 else 32

theorem entry0 (c : Dev nD) (k : Fin 128) (b : Fin 3) (h : Fin 8) (d : Fin 128) (e : Fin 256) (hk : k.val < len3 b) :
    (show FVec Ideal S128x3x8x128x256 .f32 from entryContents preI m c (Proc.devRef .tc main_v42_0)) (ix5 k b h d e)
      = kv (fun r j => m ((c.tc : Thread nD τ).loc main_arg0) (ix2 r j)) (wF (lgam (m ((c.tc : Thread nD τ).loc main_arg1) (ix1 h)))) h d e (st3 b + k.val) := by
  simp only [entryContents, afterL_cons, afterL_nil]
  after_reads_simp
  refine (cat_apply _ _ _ k b h d e).trans ?_
  have e0 := (congrFun (read37 m c) (ix5 k 0 h d e)).trans (longPart _ k h d e)
  have e1 := (congrFun (read38 m c) (ix5 k 0 h d e)).trans (shortPart _ k h d e)
  have e2 := (congrFun (read39 m c) (ix5 k 0 h d e)).trans (shortPart' _ k h d e)
  have hb : b = 0 ∨ b = 1 ∨ b = 2 := by fin_cases b <;> simp
  have hkl := k.isLt
  rcases hb with rfl | rfl | rfl
  · refine (if_pos rfl).trans (e0.trans ((kvT_apply _ _ _ h d e).trans ?_))
    exact congrArg (kv _ _ h d e) (show k.val = 0 + k.val by omega)
  · refine (if_neg (by decide)).trans ((if_pos rfl).trans (e1.trans ((dif_pos hk).trans ((kvT_apply _ _ _ h d e).trans ?_))))
    rfl
  · refine (if_neg (by decide)).trans ((if_neg (by decide)).trans (e2.trans ((dif_pos hk).trans ((kvT_apply _ _ _ h d e).trans ?_))))
    rfl

theorem entry1 (c : Dev nD) (h : Fin 8) :
    (show FVec Ideal S1x8x1x1 .f32 from entryContents preI m c (Proc.devRef .tc main_v42_1)) (ix4 0 h 0 0)
      = gch (lgam (m ((c.tc : Thread nD τ).loc main_arg1) (ix1 h))) := by
  simp only [entryContents, afterL_cons, afterL_nil]
  after_reads_simp
  simp only [id_eq]
  pointwise
  rfl

theorem entry3 (c : Dev nD) (b : Fin 3) (h : Fin 8) (d : Fin 128) (e : Fin 256) :
    (show FVec Ideal S3x8x128x256 .f32 from entryContents preI m c (Proc.devRef .tc main_v42_3)) (ix4 b h d e) = 0 := by
  simp only [entryContents, afterL_cons, afterL_nil]
  after_reads_simp
  simp only [id_eq]
  pointwise

/-- The start of a trip's slice. -/
theorem starts (Z : IVec S_ 32) (k : Fin 128) (hZ : Z = fun _ => Scf.iv 0#32 1#32 k.val) (a : Fin 5) :
    ((![Z, constantI S_ 32 0#32, constantI S_ 32 0#32, constantI S_ 32 0#32, constantI S_ 32 0#32] : Fin 5 → (⟨S_, .i32⟩ : BufTy).Contents (Elt Ideal)) a
      (Shape.Idx.first h_S_)).toInt = ((![k.val, 0, 0, 0, 0] : Fin 5 → ℕ) a : ℤ) := by
  have hk := k.isLt
  subst hZ
  fin_cases a
  · show (Scf.iv 0#32 1#32 k.val).toInt = (k.val : ℤ)
    rw [show Scf.iv 0#32 1#32 k.val = BitVec.ofNat 32 k.val by simp [Scf.iv], nat_toInt _ (by omega)]
  all_goals rfl

/-- What a sequence's chunks add, in order. -/
def added (c : Dev nD) (b : Fin 3) (h : Fin 8) (d : Fin 128) (e : Fin 256) (j : ℕ) : EReal :=
  if hj : j < 128 then (show FVec Ideal S128x3x8x128x256 .f32 from entryContents preI m c (Proc.devRef .tc main_v42_0)) (ix5 ⟨j, hj⟩ b h d e) else 0

theorem mulAdd (A C : FVec Ideal S3x8x128x256 .f32) (B : FVec Ideal S1x8x1x1 .f32) (b : Fin 3) (h : Fin 8) (d : Fin 128) (e : Fin 256) :
    (addf (mulf A (broadcastInDim S3x8x128x256 ![0, 1, 2, 3] bcast_S1x8x1x1_S3x8x128x256_0_1_2_3 B)) C : FVec Ideal S3x8x128x256 .f32) (ix4 b h d e)
      = A (ix4 b h d e) * B (ix4 0 h 0 0) + C (ix4 b h d e) := by
  pointwise

theorem step3 (V : Valuation τ sig (Elt Ideal)) (k : Fin 128)
    (hZ : (V (Proc.devRef .tc main_v42_2) : IVec S_ 32) = fun _ => Scf.iv 0#32 1#32 k.val) (b : Fin 3) (h : Fin 8) (d : Fin 128) (e : Fin 256) :
    (show FVec Ideal S3x8x128x256 .f32 from step_main_v42_3 V) (ix4 b h d e)
      = (show FVec Ideal S3x8x128x256 .f32 from V (Proc.devRef .tc main_v42_3)) (ix4 b h d e)
          * (show FVec Ideal S1x8x1x1 .f32 from V (Proc.devRef .tc main_v42_1)) (ix4 0 h 0 0)
        + (show FVec Ideal S128x3x8x128x256 .f32 from V (Proc.devRef .tc main_v42_0)) (ix5 k b h d e) := by
  have q := slice_apply (V (Proc.devRef .tc main_v42_0)) _ k (starts (V (Proc.devRef .tc main_v42_2)) k hZ) b h d e
  exact (mulAdd _ _ _ b h d e).trans (congrArg (fun z => _ + z) q)

theorem step4 (V : Valuation τ sig (Elt Ideal)) (k : Fin 128)
    (hZ : (V (Proc.devRef .tc main_v42_2) : IVec S_ 32) = fun _ => Scf.iv 0#32 1#32 k.val) (j : Fin 128) (b : Fin 3) (h : Fin 8) (d : Fin 128) (e : Fin 256) :
    (show FVec Ideal S128x3x8x128x256 .f32 from step_main_v42_4 V) (ix5 j b h d e)
      = if j = k then (show FVec Ideal S3x8x128x256 .f32 from V (Proc.devRef .tc main_v42_3)) (ix4 b h d e)
        else (show FVec Ideal S128x3x8x128x256 .f32 from V (Proc.devRef .tc main_v42_4)) (ix5 j b h d e) :=
  update_apply (V (Proc.devRef .tc main_v42_4)) (V (Proc.devRef .tc main_v42_3)) _ k (starts (V (Proc.devRef .tc main_v42_2)) k hZ) j b h d e

/-- The carried buffers after `k` trips. -/
theorem iter (c : Dev nD) : ∀ k : ℕ, k ≤ 128 →
    (STEP^[k] (entryContents preI m c)) (Proc.devRef .tc main_v42_0) = entryContents preI m c (Proc.devRef .tc main_v42_0)
    ∧ (STEP^[k] (entryContents preI m c)) (Proc.devRef .tc main_v42_1) = entryContents preI m c (Proc.devRef .tc main_v42_1)
    ∧ ((STEP^[k] (entryContents preI m c)) (Proc.devRef .tc main_v42_2) : IVec S_ 32) = (fun _ => Scf.iv 0#32 1#32 k)
    ∧ (∀ b h d e, (show FVec Ideal S3x8x128x256 .f32 from (STEP^[k] (entryContents preI m c)) (Proc.devRef .tc main_v42_3)) (ix4 b h d e)
        = stS (added m c b h d e) (gch (lgam (m ((c.tc : Thread nD τ).loc main_arg1) (ix1 h)))) k)
    ∧ ∀ (j : Fin 128) b h d e, j.val < k → (show FVec Ideal S128x3x8x128x256 .f32 from (STEP^[k] (entryContents preI m c)) (Proc.devRef .tc main_v42_4)) (ix5 j b h d e)
        = stS (added m c b h d e) (gch (lgam (m ((c.tc : Thread nD τ).loc main_arg1) (ix1 h)))) j.val := by
  intro k
  induction k with
  | zero =>
    intro _
    refine ⟨rfl, rfl, ?_, fun b h d e => entry3 m c b h d e, fun j b h d e hj => absurd hj (Nat.not_lt_zero _)⟩
    rw [Scf.iv_zero]
    exact ctr_entry m c
  | succ k ih =>
    intro hk
    obtain ⟨i0, i1, i2, i3, i4⟩ := ih (by omega)
    rw [Function.iterate_succ_apply']
    generalize STEP^[k] (entryContents preI m c) = V at i0 i1 i2 i3 i4 ⊢
    refine ⟨(STEP_main_v42_0 V).trans i0, (STEP_main_v42_1 V).trans i1, ?_, fun b h d e => ?_, fun j b h d e hj => ?_⟩
    · rw [STEP_main_v42_2, step_main_v42_2, Scf.iv_succ]
      refine (congrArg (fun z => addi z (constantI S_ 32 1#32)) i2).trans ?_
      rfl
    · rw [STEP_main_v42_3]
      refine (step3 V ⟨k, by omega⟩ i2 b h d e).trans ?_
      refine (congrArg₂ (fun x y => x + y) (congrArg₂ (fun x y => x * y) (i3 b h d e)
        ((congrFun i1 _).trans (entry1 m c h))) (congrFun i0 _)).trans ?_
      show _ = stS _ _ k * _ + added m c b h d e k
      rw [added, dif_pos (show k < 128 by omega)]
    · rw [STEP_main_v42_4]
      refine (step4 V ⟨k, by omega⟩ i2 j b h d e).trans ?_
      by_cases hjk : j = ⟨k, by omega⟩
      · rw [if_pos hjk]
        refine (i3 b h d e).trans ?_
        rw [hjk]
      · rw [if_neg hjk]
        exact i4 j b h d e (by have : j.val ≠ k := fun z => hjk (Fin.ext z); omega)

/-- The collected states after all trips. -/
theorem collected (c : Dev nD) (b : Fin 3) (j : Fin 128) (hj : j.val < len3 b) (h : Fin 8) (d : Fin 128) (e : Fin 256) :
    (show FVec Ideal S128x3x8x128x256 .f32 from (STEP^[128] (entryContents preI m c)) (Proc.devRef .tc main_v42_4)) (ix5 j b h d e)
      = stS (fun i => kv (fun r j => m ((c.tc : Thread nD τ).loc main_arg0) (ix2 r j)) (wF (lgam (m ((c.tc : Thread nD τ).loc main_arg1) (ix1 h)))) h d e (st3 b + i))
          (gch (lgam (m ((c.tc : Thread nD τ).loc main_arg1) (ix1 h)))) j.val := by
  refine ((iter m c 128 (le_refl _)).2.2.2.2 j b h d e j.isLt).trans (stS_congr _ _ _ _ fun i hi => ?_)
  have hjl := j.isLt
  rw [added, dif_pos (show i < 128 by omega)]
  exact entry0 m c ⟨i, by omega⟩ b h d e (by simp only []; omega)

end Cert.RetFwdRefIdeal.Value

end
-- ==== Proof.RetFwd.Ref.lean ====
/- The first retention call's reference, read at a row and a column. -/
module

public import proofs.«01_k».proof.Proof.RetFwd.Loop
public import proofs.«01_k».proof.Proof.RetFwd.Final

@[expose] public section

set_option maxRecDepth 16384

noncomputable section

open Idealize.ShloMosaic Idealize.ShloMosaic.TcCoe Idealize.SL.Sem
open Idealize.ShloMosaic.Pipeline (Dat)

namespace Cert.RetFwdRefIdeal.Value

open Cert.RetFwdRefIdeal Cert.RetFwdRefIdeal.Gen Cert.Ret
open Idealize.ShloMosaic.StableHlo

variable (m : (ℓ : Loc nD τ sig) → Buf (Elt Ideal) ℓ)

theorem flat_apply (P : FVec Ideal S192x128x8x256 .f32) (n : Fin 192) (a : Fin 128) (h : Fin 8) (e : Fin 256) :
    (shapeCast S24576x2048 P shapeCasts_S192x128x8x256_S24576x2048 : FVec Ideal S24576x2048 .f32) (ix2 (row n a) (he h e)) = P (ix4 n a h e) := by
  obtain ⟨r, hr⟩ : ∃ r, r = row n a := ⟨_, rfl⟩
  obtain ⟨j, hj⟩ : ∃ j, j = he h e := ⟨_, rfl⟩
  rw [← hr, ← hj]
  have hr' : r.val = 128 * n.val + a.val := congrArg Fin.val hr
  have hj' : j.val = 256 * h.val + e.val := congrArg Fin.val hj
  clear hr hj
  have := a.isLt; have := e.isLt; have := h.isLt
  pointwise
  refine congrArg P ?_
  congr 1 <;> refine Fin.ext ?_ <;> simp only [] <;> omega

theorem rev_apply (Z : FVec Ideal S24576x2048 .f32) (r : Fin 24576) (j : Fin 2048) :
    (Host.reverse [0] Z : FVec Ideal S24576x2048 .f32) (ix2 r j) = Z (ix2 r.rev j) := by
  pointwise
  rfl

theorem revX_apply (Z : FVec Ideal S24576x12288 .f32) (r : Fin 24576) (j : Fin 12288) :
    (Host.reverse [0] Z : FVec Ideal S24576x12288 .f32) (ix2 r j) = Z (ix2 r.rev j) := by
  pointwise
  rfl

/-- A chunk's own part, from its queries, keys and values and a decay. -/
abbrev innT (Q K : FVec Ideal S192x128x8x128 .f32) (W : FVec Ideal S192x128x8x256 .f32) (D : FVec Ideal S8x128x128 .f32) : FVec Ideal S192x128x8x256 .f32 :=
  transpose S192x128x8x256 [0, 3, 1, 2] (Host.dotGeneral dot_S192x128x8x256_S192x8x128x128_S192x8x256x128_1_3_3_2_02_01 none W
    (mulf (Host.dotGeneral dot_S192x128x8x128_S192x128x8x128_S192x8x128x128_3_3_1_1_02_02 none Q K)
      (broadcastInDim S192x8x128x128 ![0, 1, 2, 3] bcast_S1x8x128x128_S192x8x128x128_0_1_2_3
        (broadcastInDim S1x8x128x128 ![1, 2, 3] bcast_S8x128x128_S1x8x128x128_1_2_3 D))))
    transposes_S192x8x256x128_S192x128x8x256_0_3_1_2

theorem innT_apply (Q K : FVec Ideal S192x128x8x128 .f32) (W : FVec Ideal S192x128x8x256 .f32) (D : FVec Ideal S8x128x128 .f32)
    (n : Fin 192) (a : Fin 128) (h : Fin 8) (e : Fin 256) :
    innT Q K W D (ix4 n a h e)
      = ∑ c : Fin 128, W (ix4 n c h e) * ((∑ d : Fin 128, Q (ix4 n a h d) * K (ix4 n c h d)) * D (ix3 h a c)) := by
  unfold innT
  pointwise

/-- The part from the state before a chunk. -/
abbrev croT (P : FVec Ideal S192x8x128x256 .f32) (Q : FVec Ideal S192x128x8x128 .f32) (L : FVec Ideal S8 .f32) : FVec Ideal S192x128x8x256 .f32 :=
  mulf (transpose S192x128x8x256 [0, 3, 1, 2] (Host.dotGeneral dot_S192x8x128x256_S192x128x8x128_S192x8x256x128_2_3_3_1_01_02 none P Q)
      transposes_S192x8x256x128_S192x128x8x256_0_3_1_2)
    (broadcastInDim S192x128x8x256 ![0, 1, 2, 3] bcast_S1x128x8x1_S192x128x8x256_0_1_2_3 (broadcastInDim S1x128x8x1 ![1, 2] bcast_S128x8_S1x128x8x1_1_2
      (Host.exp (mulf (broadcastInDim S128x8 ![0, 1] bcast_S128x1_S128x8_0_1 (broadcastInDim S128x1 ![0] bcast_S128_S128x1_0
          (addf (sitofp .f32 (iotaInDim S128 32 0)) (broadcastInDim S128 ![] bcast_S_S128 (constant S_ .f32 0x3F800000#32)))))
        (broadcastInDim S128x8 ![0, 1] bcast_S1x8_S128x8_0_1 (broadcastInDim S1x8 ![1] bcast_S8_S1x8_1 L))))))

theorem croT_apply (P : FVec Ideal S192x8x128x256 .f32) (Q : FVec Ideal S192x128x8x128 .f32) (L : FVec Ideal S8 .f32)
    (n : Fin 192) (a : Fin 128) (h : Fin 8) (e : Fin 256) :
    croT P Q L (ix4 n a h e)
      = (∑ d : Fin 128, P (ix4 n h d e) * Q (ix4 n a h d)) * Ideal.exp ((pos a.val + 1) * L (ix1 h)) := by
  unfold croT pos
  pointwise

/-- The decay inside a chunk, under a mask. -/
abbrev decT (M : IVec S128x128 1) (L : FVec Ideal S8 .f32) : FVec Ideal S8x128x128 .f32 :=
  select (broadcastInDim S8x128x128 ![0, 1, 2] bcast_S1x128x128_S8x128x128_0_1_2 (broadcastInDim S1x128x128 ![1, 2] bcast_S128x128_S1x128x128_1_2 M))
    (Host.exp (mulf (broadcastInDim S8x128x128 ![0, 1, 2] bcast_S1x128x128_S8x128x128_0_1_2 (broadcastInDim S1x128x128 ![1, 2] bcast_S128x128_S1x128x128_1_2
        (maximumf (sitofp .f32 (subi (broadcastInDim S128x128 ![0, 1] bcast_S128x1_S128x128_0_1 (broadcastInDim S128x1 ![0] bcast_S128_S128x1_0 (iotaInDim S128 32 0)))
            (broadcastInDim S128x128 ![0, 1] bcast_S1x128_S128x128_0_1 (broadcastInDim S1x128 ![1] bcast_S128_S1x128_1 (iotaInDim S128 32 0)))))
          (broadcastInDim S128x128 ![] bcast_S_S128x128 (constant S_ .f32 0x00000000#32)))))
      (broadcastInDim S8x128x128 ![0, 1, 2] bcast_S8x1x1_S8x128x128_0_1_2 (broadcastInDim S8x1x1 ![0] bcast_S8_S8x1x1_0 L))))
    (broadcastInDim S8x128x128 ![] bcast_S_S8x128x128 (id (constant S_ .f32 0x00000000#32)))

theorem decT_apply (M : IVec S128x128 1) (L : FVec Ideal S8 .f32) (h : Fin 8) (a c : Fin 128) :
    decT M L (ix3 h a c) = if M (ix2 a c) = 1#1 then Ideal.exp (max (gap a.val c.val) 0 * L (ix1 h)) else 0 := by
  unfold decT gap
  simp only [id_eq]
  pointwise
  rfl

/-- The distances of the positions. -/
abbrev difT : IVec S128x128 32 :=
  subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

theorem sge_apply (a c : Fin 128) :
    (cmpi .sge difT (broadcastInDim S128x128 ![] bcast_S_S128x128 (constantI S_ 32 0#32)) : IVec S128x128 1) (ix2 a c) = 1#1 ↔ c.val ≤ a.val := by
  unfold difT
  pointwise
  have ha := a.isLt
  have hc := c.isLt
  rw [WordCmp.cmpi_sge_eq, sub_toInt _ _ (by omega) (by omega)]
  by_cases hh : c.val ≤ a.val
  · simp [hh]
  · simp [hh]

theorem sgt_apply (a c : Fin 128) :
    (cmpi .sgt difT (broadcastInDim S128x128 ![] bcast_S_S128x128 (constantI S_ 32 0#32)) : IVec S128x128 1) (ix2 a c) = 1#1 ↔ c.val < a.val := by
  unfold difT
  pointwise
  have ha := a.isLt
  have hc := c.isLt
  rw [WordCmp.cmpi_sgt_eq, sub_toInt _ _ (by omega) (by omega)]
  by_cases hh : c.val < a.val
  · simp [hh]
  · simp [hh]

/-- The states before the chunks, the sequences one after another. -/
abbrev prevT (Z : FVec Ideal S128x3x8x128x256 .f32) : FVec Ideal S192x8x128x256 .f32 :=
  concatenate S192x8x128x256 0
    [⟨S128x8x128x256, ((shapeCast _ (extractStridedSlice S128x1x8x128x256 ![0, 0, 0, 0, 0] Z slices_S128x3x8x128x256_S128x1x8x128x256_0_0_0_0_0)
        shapeCasts_S128x1x8x128x256_S128x8x128x256) : (⟨S128x8x128x256, .f32⟩ : BufTy).Contents (Elt Ideal))⟩,
      ⟨S32x8x128x256, ((shapeCast _ (extractStridedSlice S32x1x8x128x256 ![0, 1, 0, 0, 0] Z slices_S128x3x8x128x256_S32x1x8x128x256_0_1_0_0_0)
        shapeCasts_S32x1x8x128x256_S32x8x128x256) : (⟨S32x8x128x256, .f32⟩ : BufTy).Contents (Elt Ideal))⟩,
      ⟨S32x8x128x256, ((shapeCast _ (extractStridedSlice S32x1x8x128x256 ![0, 2, 0, 0, 0] Z slices_S128x3x8x128x256_S32x1x8x128x256_0_2_0_0_0)
        shapeCasts_S32x1x8x128x256_S32x8x128x256) : (⟨S32x8x128x256, .f32⟩ : BufTy).Contents (Elt Ideal))⟩]
    concatenates_S128x8x128x256_S32x8x128x256_S32x8x128x256_S192x8x128x256_d0

theorem cat3 (A : FVec Ideal S128x8x128x256 .f32) (B C : FVec Ideal S32x8x128x256 .f32) (n : Fin 192) (h : Fin 8) (d : Fin 128) (e : Fin 256) :
    (concatenate S192x8x128x256 0 [⟨S128x8x128x256, A⟩, ⟨S32x8x128x256, B⟩, ⟨S32x8x128x256, C⟩]
      concatenates_S128x8x128x256_S32x8x128x256_S32x8x128x256_S192x8x128x256_d0 : FVec Ideal S192x8x128x256 .f32) (ix4 n h d e)
      = if h0 : n.val < 128 then A (ix4 ⟨n.val, h0⟩ h d e)
        else if h1 : n.val < 160 then B (ix4 ⟨n.val - 128, by omega⟩ h d e)
        else C (ix4 ⟨n.val - 160, by have := n.isLt; omega⟩ h d e) := by
  pointwise
  by_cases h0 : n.val < 128
  · simp (disch := omega) only [dif_pos, dif_neg]
  by_cases h1 : n.val < 160
  · simp (disch := omega) only [dif_pos, dif_neg]
  · simp (disch := omega) only [dif_neg]
    exact congrArg (fun z => C (ix4 z h d e)) (Fin.ext (by simp only []; omega))

theorem cut0 (Z : FVec Ideal S128x3x8x128x256 .f32) (k : Fin 128) (h : Fin 8) (d : Fin 128) (e : Fin 256) :
    (shapeCast S128x8x128x256 (extractStridedSlice S128x1x8x128x256 ![0, 0, 0, 0, 0] Z slices_S128x3x8x128x256_S128x1x8x128x256_0_0_0_0_0)
      shapeCasts_S128x1x8x128x256_S128x8x128x256 : FVec Ideal S128x8x128x256 .f32) (ix4 k h d e) = Z (ix5 k 0 h d e) := by
  pointwise

theorem cut1 (Z : FVec Ideal S128x3x8x128x256 .f32) (k : Fin 32) (h : Fin 8) (d : Fin 128) (e : Fin 256) :
    (shapeCast S32x8x128x256 (extractStridedSlice S32x1x8x128x256 ![0, 1, 0, 0, 0] Z slices_S128x3x8x128x256_S32x1x8x128x256_0_1_0_0_0)
      shapeCasts_S32x1x8x128x256_S32x8x128x256 : FVec Ideal S32x8x128x256 .f32) (ix4 k h d e) = Z (ix5 ⟨k.val, by omega⟩ 1 h d e) := by
  pointwise

theorem cut2 (Z : FVec Ideal S128x3x8x128x256 .f32) (k : Fin 32) (h : Fin 8) (d : Fin 128) (e : Fin 256) :
    (shapeCast S32x8x128x256 (extractStridedSlice S32x1x8x128x256 ![0, 2, 0, 0, 0] Z slices_S128x3x8x128x256_S32x1x8x128x256_0_2_0_0_0)
      shapeCasts_S32x1x8x128x256_S32x8x128x256 : FVec Ideal S32x8x128x256 .f32) (ix4 k h d e) = Z (ix5 ⟨k.val, by omega⟩ 2 h d e) := by
  pointwise

theorem prev_apply (c : Dev nD) (n : Fin 192) (h : Fin 8) (d : Fin 128) (e : Fin 256) :
    prevT ((STEP^[128] (entryContents preI m c)) (Proc.devRef .tc main_v42_4)) (ix4 n h d e)
      = stF (fun r j => m ((c.tc : Thread nD τ).loc main_arg0) (ix2 r j)) (lgam (m ((c.tc : Thread nD τ).loc main_arg1) (ix1 h))) n.val h d e := by
  have hc := collected m c
  generalize (STEP^[128] (entryContents preI m c)) (Proc.devRef .tc main_v42_4) = Z at hc ⊢
  have hn := n.isLt
  unfold prevT stF
  refine (cat3 _ _ _ n h d e).trans ?_
  by_cases h0 : n.val < 128
  · refine (dif_pos h0).trans ((cut0 Z ⟨n.val, h0⟩ h d e).trans ((hc 0 _ (by simp only [len3]; exact h0) h d e).trans ?_))
    have e1 : start n.val = 0 := by unfold start; split_ifs <;> omega
    rw [e1]
    rfl
  by_cases h1 : n.val < 160
  · refine (dif_neg h0).trans ((dif_pos h1).trans ((cut1 Z ⟨n.val - 128, by omega⟩ h d e).trans ((hc 1 _ (by show n.val - 128 < 32; omega) h d e).trans ?_)))
    have e1 : start n.val = 128 := by unfold start; split_ifs <;> omega
    rw [e1]
    rfl
  · refine (dif_neg h0).trans ((dif_neg h1).trans ((cut2 Z ⟨n.val - 160, by omega⟩ h d e).trans ((hc 2 _ (by show n.val - 160 < 32; omega) h d e).trans ?_)))
    have e1 : start n.val = 160 := by unfold start; split_ifs <;> omega
    rw [e1]
    rfl

/-- The decay inside a reversed chunk. -/
def decR (lg : EReal) (a c : ℕ) : EReal := if c < a then Ideal.exp (max (gap a c) 0 * lg) else 0

theorem decR_rev (lg : EReal) (a c : Fin 128) : decR lg a.rev.val c.rev.val = decB lg a.val c.val := by
  have ha := a.isLt
  have hc := c.isLt
  have hg : gap a.rev.val c.rev.val = 0 - gap a.val c.val := by
    rw [gap_eq _ _ (by omega) (by omega), gap_eq _ _ (by omega) (by omega), ← EReal.coe_zero, ← EReal.coe_sub]
    congr 1
    rw [Fin.val_rev, Fin.val_rev, Nat.cast_sub (by omega), Nat.cast_sub (by omega)]
    push_cast
    ring
  unfold decR decB
  rw [hg]
  have h2 := gap_neg a.val c.val (by omega) (by omega)
  by_cases h : a.val < c.val
  · rw [if_pos (by simp only [Fin.val_rev]; omega), if_pos (h2.mpr h)]
  · rw [if_neg (by simp only [Fin.val_rev]; omega), if_neg (fun z => h (h2.mp z))]

theorem inn_eq (X : FVec Ideal S24576x12288 .f32) (D : FVec Ideal S8x128x128 .f32) (D' : Fin 8 → ℕ → ℕ → EReal)
    (hD : ∀ h (a c : Fin 128), D (ix3 h a c) = D' h a.val c.val) (n : Fin 192) (a : Fin 128) (h : Fin 8) (e : Fin 256) :
    innT (shapeCast _ (extractStridedSlice S24576x1024 ![0, 0] X slices_S24576x12288_S24576x1024_0_0) shapeCasts_S24576x1024_S192x128x8x128)
      (shapeCast _ (extractStridedSlice S24576x1024 ![0, 1024] X slices_S24576x12288_S24576x1024_0_1024) shapeCasts_S24576x1024_S192x128x8x128)
      (shapeCast _ (extractStridedSlice S24576x2048 ![0, 2048] X slices_S24576x12288_S24576x2048_0_2048) shapeCasts_S24576x2048_S192x128x8x256) D (ix4 n a h e)
      = Cert.Ret.inner (fun r j => X (ix2 r j)) (D' h) n a h e := by
  refine (innT_apply _ _ _ _ n a h e).trans ?_
  unfold Cert.Ret.inner score
  refine Finset.sum_congr rfl fun c _ => ?_
  rw [chunkV, hD, mul_comm]
  simp only [chunkQ, chunkK]

theorem addf_at (P Q : FVec Ideal S24576x2048 .f32) (i : S24576x2048.Idx) : (addf P Q : FVec Ideal S24576x2048 .f32) i = P i + Q i := rfl
theorem add4_at (P Q : FVec Ideal S192x128x8x256 .f32) (i : S192x128x8x256.Idx) : (addf P Q : FVec Ideal S192x128x8x256 .f32) i = P i + Q i := rfl

/-- The reference's result at row `a` of chunk `n`, head `h`, entry `e`. -/
theorem ref_apply (c : Dev nD) (n : Fin 192) (a : Fin 128) (h : Fin 8) (e : Fin 256) :
    (show FVec Ideal S24576x2048 .f32 from out_main_v144 (STEP^[128] (entryContents preI m c))) (ix2 (row n a) (he h e))
      = Cert.RetFwdIdeal.Value.res (fun r j => m ((c.tc : Thread nD τ).loc main_arg0) (ix2 r j))
          (fun h => lgam (m ((c.tc : Thread nD τ).loc main_arg1) (ix1 h))) (fun h => lgam (m ((c.tc : Thread nD τ).loc main_arg2) (ix1 h))) n a h e := by
  have hp := prev_apply m c
  have x0 := iter_main_arg0 m c 128
  have x1 := iter_main_arg1 m c 128
  have x2 := iter_main_arg2 m c 128
  generalize STEP^[128] (entryContents preI m c) = V at hp x0 x1 x2 ⊢
  generalize m ((c.tc : Thread nD τ).loc main_arg0) = X at hp x0 ⊢
  generalize m ((c.tc : Thread nD τ).loc main_arg1) = A at hp x1 ⊢
  generalize m ((c.tc : Thread nD τ).loc main_arg2) = B at x2 ⊢
  subst x0 x1 x2
  have i1 := inn_eq (V (Proc.devRef .tc main_arg0)) (decT (cmpi .sge difT (broadcastInDim S128x128 ![] bcast_S_S128x128 (constantI S_ 32 0#32))) (lgV (V (Proc.devRef .tc main_arg1))))
    (fun h => decF (lgam ((show FVec Ideal S8 .f32 from V (Proc.devRef .tc main_arg1)) (ix1 h)))) (fun h a c => by
      rw [decT_apply, lgV_apply]
      unfold decF
      have ha := a.isLt; have hc := c.isLt
      have g := gap_nonneg a.val c.val (by omega) (by omega)
      by_cases hh : c.val ≤ a.val
      · rw [if_pos ((sge_apply a c).mpr hh), if_pos (g.mpr hh)]
      · rw [if_neg (fun z => hh ((sge_apply a c).mp z)), if_neg (fun z => hh (g.mp z))]) n a h e
  have i2 := inn_eq (Host.reverse [0] (V (Proc.devRef .tc main_arg0))) (decT (cmpi .sgt difT (broadcastInDim S128x128 ![] bcast_S_S128x128 (constantI S_ 32 0#32))) (lgV (V (Proc.devRef .tc main_arg2))))
    (fun h => decR (lgam ((show FVec Ideal S8 .f32 from V (Proc.devRef .tc main_arg2)) (ix1 h)))) (fun h a c => by
      rw [decT_apply, lgV_apply]
      unfold decR
      by_cases hh : c.val < a.val
      · rw [if_pos ((sgt_apply a c).mpr hh), if_pos hh]
      · rw [if_neg (fun z => hh ((sgt_apply a c).mp z)), if_neg hh]) n.rev a.rev h e
  have hX : (fun r j => (Host.reverse [0] (V (Proc.devRef .tc main_arg0)) : FVec Ideal S24576x12288 .f32) (ix2 r j))
      = Cert.Ret.flip (fun r j => (show FVec Ideal S24576x12288 .f32 from V (Proc.devRef .tc main_arg0)) (ix2 r j)) :=
    funext fun r => funext fun j => revX_apply _ r j
  rw [hX, inner_flip _ _ _ (decR_rev _)] at i2
  have i3 := croT_apply (prevT (V (Proc.devRef .tc main_v42_4))) (shapeCast _ (extractStridedSlice S24576x1024 ![0, 0] (V (Proc.devRef .tc main_arg0)) slices_S24576x12288_S24576x1024_0_0) shapeCasts_S24576x1024_S192x128x8x128)
    (lgV (V (Proc.devRef .tc main_arg1))) n a h e
  have i4 : (addf (shapeCast S24576x2048 (addf (innT
          (shapeCast _ (extractStridedSlice S24576x1024 ![0, 0] (V (Proc.devRef .tc main_arg0)) slices_S24576x12288_S24576x1024_0_0) shapeCasts_S24576x1024_S192x128x8x128)
          (shapeCast _ (extractStridedSlice S24576x1024 ![0, 1024] (V (Proc.devRef .tc main_arg0)) slices_S24576x12288_S24576x1024_0_1024) shapeCasts_S24576x1024_S192x128x8x128)
          (shapeCast _ (extractStridedSlice S24576x2048 ![0, 2048] (V (Proc.devRef .tc main_arg0)) slices_S24576x12288_S24576x2048_0_2048) shapeCasts_S24576x2048_S192x128x8x256)
          (decT (cmpi .sge difT (broadcastInDim S128x128 ![] bcast_S_S128x128 (constantI S_ 32 0#32))) (lgV (V (Proc.devRef .tc main_arg1)))))
        (croT (prevT (V (Proc.devRef .tc main_v42_4)))
          (shapeCast _ (extractStridedSlice S24576x1024 ![0, 0] (V (Proc.devRef .tc main_arg0)) slices_S24576x12288_S24576x1024_0_0) shapeCasts_S24576x1024_S192x128x8x128)
          (lgV (V (Proc.devRef .tc main_arg1))))) shapeCasts_S192x128x8x256_S24576x2048)
      (Host.reverse [0] (shapeCast S24576x2048 (innT
          (shapeCast _ (extractStridedSlice S24576x1024 ![0, 0] (Host.reverse [0] (V (Proc.devRef .tc main_arg0))) slices_S24576x12288_S24576x1024_0_0) shapeCasts_S24576x1024_S192x128x8x128)
          (shapeCast _ (extractStridedSlice S24576x1024 ![0, 1024] (Host.reverse [0] (V (Proc.devRef .tc main_arg0))) slices_S24576x12288_S24576x1024_0_1024) shapeCasts_S24576x1024_S192x128x8x128)
          (shapeCast _ (extractStridedSlice S24576x2048 ![0, 2048] (Host.reverse [0] (V (Proc.devRef .tc main_arg0))) slices_S24576x12288_S24576x2048_0_2048) shapeCasts_S24576x2048_S192x128x8x256)
          (decT (cmpi .sgt difT (broadcastInDim S128x128 ![] bcast_S_S128x128 (constantI S_ 32 0#32))) (lgV (V (Proc.devRef .tc main_arg2)))))
        shapeCasts_S192x128x8x256_S24576x2048)) : FVec Ideal S24576x2048 .f32) (ix2 (row n a) (he h e))
      = Cert.RetFwdIdeal.Value.res (fun r j => (show FVec Ideal S24576x12288 .f32 from V (Proc.devRef .tc main_arg0)) (ix2 r j))
          (fun h => lgam ((show FVec Ideal S8 .f32 from V (Proc.devRef .tc main_arg1)) (ix1 h)))
          (fun h => lgam ((show FVec Ideal S8 .f32 from V (Proc.devRef .tc main_arg2)) (ix1 h))) n a h e := by
    refine (addf_at _ _ _).trans ?_
    rw [flat_apply, rev_apply, rev_row, flat_apply, i2]
    refine congrArg (fun z => z + _) ((add4_at _ _ _).trans ?_)
    rw [i1, i3]
    unfold cross
    refine congrArg (fun z => _ + z) ?_
    rw [lgV_apply]
    refine congrArg (fun z => z * _) (Finset.sum_congr rfl fun d _ => ?_)
    rw [hp, chunkQ, mul_comm]
  exact i4

end Cert.RetFwdRefIdeal.Value

end
-- ==== Proof.RetFwd.Claim.lean ====
/- The first retention call's kernel and the reference leave the same result over the extended reals. -/
module

public import proofs.«01_k».proof.Defs
public import proofs.«01_k».proof.Proof.RetFwd.Final
public import proofs.«01_k».proof.Proof.RetFwd.Ref

@[expose] public section

noncomputable section

open Idealize.ShloMosaic Idealize.ShloMosaic.TcCoe Idealize.SL.Sem

namespace Cert.Proof.RetFwdClaim

/-- The kernel's result array and the reference's are one function of arguments that agree. -/
theorem algebraic : Cert.algebraic_RetFwdIdeal_RetFwdRefIdeal := by
  intro m ρ m' ρ' _ hag
  refine ⟨fun c => (Cert.RetFwdIdeal.Gen.dats m 0 c).arrAt 5 (Cert.RetFwdIdeal.cfgs 0).N, Cert.RetFwdIdeal.Value.run_blocks m ρ,
    (θ_run Cert.RetFwdRefIdeal.defs _ _).mono (fun _ h c => ⟨(h c).1.trans ?_, (h c).2⟩) (Cert.RetFwdRefIdeal.Value.run m' ρ')⟩
  refine (Cert.RetFwdIdeal.Value.final m c _ fun n a h e => ?_).symm
  refine (Cert.RetFwdRefIdeal.Value.ref_apply m' c n a h e).trans ?_
  rw [(hag c).1, (hag c).2.1, (hag c).2.2]
  rfl

end Cert.Proof.RetFwdClaim

end
-- ==== Proof.RetBwd.Cases.lean ====
/- What one grid point of the kernel leaves in its buffers. -/
module

public import proofs.«01_k».proof.Proof.Gen.RetBwdIdeal.Value
public import proofs.«01_k».proof.Proof.Pieces
public import proofs.«01_k».proof.Proof.Retention
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetBwdIdeal.Value

open Cert.RetBwdIdeal Cert.RetBwdIdeal.Gen Cert.Ret

variable (m : (ℓ : Loc nD τ sig) → Buf (Elt Ideal) ℓ)

/-- The state after a chunk, from the state before it. -/
def stNext (lg : Vec Ideal S8 .f32) (k : Vec Ideal S128x1024 .f32) (v : Vec Ideal S128x2048 .f32) (st : EReal)
    (h : Fin 8) (d : Fin 128) (e : Fin 256) : EReal :=
  st * Ideal.exp (Ideal.ofBits .f32 0x43000000#32 * lg (ix1 h))
    + ∑ a : Fin 128, k (ix2 a (hd h d)) * Ideal.exp (pos a.val * lg (ix1 h)) * v (ix2 a (he h e))

/-- A row's head with the backward direction's result across chunks. -/
def rowB (lg : Vec Ideal S8 .f32) (q : Vec Ideal S128x1024 .f32) (o1 : Vec Ideal S128x2048 .f32)
    (st : Fin 8 → Fin 128 → Fin 256 → EReal) (a : Fin 128) (h : Fin 8) (e : Fin 256) : EReal :=
  o1 (ix2 a (he h e)) + (∑ d : Fin 128, q (ix2 a (hd h d)) * st h d e) * Ideal.exp ((Ideal.ofBits .f32 0x43000000#32 - pos a.val) * lg (ix1 h))

/-- A row's head, normalised, times the gain and the gate. -/
def outG (z : Fin 256 → EReal) (g rg : EReal) (e : Fin 256) : EReal :=
  z e * Ideal.rsqrt (Ideal.div (∑ l : Fin 256, z l * z l) (Ideal.ofBits .f32 0x43800000#32) + Ideal.ofBits .f32 0x358637BD#32) * g
    * Ideal.div rg (1 + Ideal.exp (0 - rg))

theorem rdS (Z : Vec Ideal S8x128x256 .f32) :
    View.read (Elt Ideal) (View.whole cc0_scratch0) ((Memref.isWhole_whole cc0_scratch0).unread Z) = Z :=
  (Memref.isWhole_whole cc0_scratch0).read_unread Z

/-- The state a point of case B leaves. -/
theorem stateB (c : Dev nD) (t : Fin cfg0.N) (h0 : ¬(t.val % 192 = 0 ∨ t.val % 192 = 32 ∨ t.val % 192 = 64)) (h : Fin 8) (d : Fin 128) (e : Fin 256) :
    (outsAt0 m c t.val t.isLt).2 (ix3 h d e)
      = stNext (iblk m c 0 t) (iblk m c 2 t) (iblk m c 3 t) ((outsAt0 m c (t.val - 1) (Nat.lt_of_le_of_lt (Nat.sub_le _ _) t.isLt)).2 (ix3 h d e)) h d e := by
  rw [outsAt0_B m c t h0]
  dsimp only
  frame_open
  simp (disch := decide) only [↓ View.readCov_skip, ↓ View.readCov_cons_toLoadRect, ↓ View.readCov_fill]
  frame_out
  clear h0
  generalize outsAt0 m c (t.val - 1) (Nat.lt_of_le_of_lt (Nat.sub_le _ _) t.isLt) = Z
  canon_tiles x hx
  all_goals
    idx_vars x
    obtain rfl : x0 = 0 := Fin.ext (by omega)
    obtain rfl : d = x1 := Fin.ext hx1
    obtain rfl : e = x2 := Fin.ext hx2
    obtain ⟨h, hh⟩ := h
    obtain rfl : h = _ := hx0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
    simp only [stNext, hd, he, pos, zero_mul, rdS, Fin.coe_ofNat_eq_mod, Nat.reduceMod, Nat.zero_mod, Nat.reduceMul, Nat.mul_zero, Nat.zero_add]

/-- The state a point of case A leaves. -/
theorem stateA (c : Dev nD) (t : Fin cfg0.N) (h0 : (t.val % 192 = 0 ∨ t.val % 192 = 32 ∨ t.val % 192 = 64)) (h : Fin 8) (d : Fin 128) (e : Fin 256) :
    (outsAt0 m c t.val t.isLt).2 (ix3 h d e)
      = stNext (iblk m c 0 t) (iblk m c 2 t) (iblk m c 3 t) 0 h d e := by
  rw [outsAt0_A m c t h0]
  dsimp only
  frame_open
  simp (disch := decide) only [↓ View.readCov_skip, ↓ View.readCov_cons_toLoadRect, ↓ View.readCov_fill]
  frame_out
  clear h0
  refine (Cert.Pieces.canon_append_covered [_, _, _, _, _, _, _, _] [_] (ix3 h d e) (View.cover_of_tiled_head _ _ _ (by rfl) _)).trans ?_
  canon_tiles x hx
  all_goals
    idx_vars x
    obtain rfl : x0 = 0 := Fin.ext (by omega)
    obtain rfl : d = x1 := Fin.ext hx1
    obtain rfl : e = x2 := Fin.ext hx2
    obtain ⟨h, hh⟩ := h
    obtain rfl : h = _ := hx0
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
    simp only [stNext, hd, he, pos, zero_mul, rdS, Fin.coe_ofNat_eq_mod, Nat.reduceMod, Nat.zero_mod, Nat.reduceMul, Nat.mul_zero, Nat.zero_add]

/-- The result a point of case B leaves. -/
theorem outB (c : Dev nD) (t : Fin cfg0.N) (h0 : ¬(t.val % 192 = 0 ∨ t.val % 192 = 32 ∨ t.val % 192 = 64)) (a : Fin 128) (h : Fin 8) (e : Fin 256) :
    (outsAt0 m c t.val t.isLt).1 (ix2 a (he h e))
      = outG (rowB (iblk m c 0 t) (iblk m c 1 t) (iblk m c 5 t) (fun h d e => (outsAt0 m c (t.val - 1) (Nat.lt_of_le_of_lt (Nat.sub_le _ _) t.isLt)).2 (ix3 h d e)) a h)
          ((show Vec Ideal S1x2048 .f32 from iblk m c 6 t) (ix2 0 (he h e))) ((show Vec Ideal S128x2048 .f32 from iblk m c 4 t) (ix2 a (he h e))) e := by
  rw [outsAt0_B m c t h0]
  dsimp only
  frame_open
  simp (disch := decide) only [↓ View.readCov_skip, ↓ View.readCov_cons_toLoadRect, ↓ View.readCov_fill]
  frame_out
  clear h0
  generalize outsAt0 m c (t.val - 1) (Nat.lt_of_le_of_lt (Nat.sub_le _ _) t.isLt) = Z
  have ee := e.isLt
  have hel : (he h e).val = 256 * h.val + e.val := rfl
  canon_tiles x hx
  all_goals
    idx_vars x
    obtain rfl : a = x0 := Fin.ext hx0
    obtain rfl : e = x1 := Fin.ext (by omega)
    have hv : (h.val = 0 ∨ h.val = 1 ∨ h.val = 2 ∨ h.val = 3) ∨ h.val = 4 ∨ h.val = 5 ∨ h.val = 6 ∨ h.val = 7 := by have := h.isLt; omega
    obtain ⟨h, hh⟩ := h
    rcases hv with (h' | h' | h' | h') | h' | h' | h' | h'
    all_goals first | (exfalso; simp only [] at h' hel; omega) | skip
    all_goals
      obtain rfl : h = _ := h'
      clear hel hx1
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      simp only [outG, rowB, hd, he, pos, rdS, Fin.coe_ofNat_eq_mod, Nat.reduceMod, Nat.zero_mod, Nat.reduceMul, Nat.mul_zero, Nat.zero_add]

/-- The result a point of case A leaves. -/
theorem outA (c : Dev nD) (t : Fin cfg0.N) (h0 : (t.val % 192 = 0 ∨ t.val % 192 = 32 ∨ t.val % 192 = 64)) (a : Fin 128) (h : Fin 8) (e : Fin 256) :
    (outsAt0 m c t.val t.isLt).1 (ix2 a (he h e))
      = outG (rowB (iblk m c 0 t) (iblk m c 1 t) (iblk m c 5 t) (fun h d e => 0) a h)
          ((show Vec Ideal S1x2048 .f32 from iblk m c 6 t) (ix2 0 (he h e))) ((show Vec Ideal S128x2048 .f32 from iblk m c 4 t) (ix2 a (he h e))) e := by
  rw [outsAt0_A m c t h0]
  dsimp only
  frame_open
  simp (disch := decide) only [↓ View.readCov_skip, ↓ View.readCov_cons_toLoadRect, ↓ View.readCov_fill]
  frame_out
  clear h0
  have ee := e.isLt
  have hel : (he h e).val = 256 * h.val + e.val := rfl
  canon_tiles x hx
  all_goals
    idx_vars x
    obtain rfl : a = x0 := Fin.ext hx0
    obtain rfl : e = x1 := Fin.ext (by omega)
    have hv : (h.val = 0 ∨ h.val = 1 ∨ h.val = 2 ∨ h.val = 3) ∨ h.val = 4 ∨ h.val = 5 ∨ h.val = 6 ∨ h.val = 7 := by have := h.isLt; omega
    obtain ⟨h, hh⟩ := h
    rcases hv with (h' | h' | h' | h') | h' | h' | h' | h'
    all_goals first | (exfalso; simp only [] at h' hel; omega) | skip
    all_goals
      obtain rfl : h = _ := h'
      clear hel hx1
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
      simp only [outG, rowB, hd, he, pos, rdS, Fin.coe_ofNat_eq_mod, Nat.reduceMod, Nat.zero_mod, Nat.reduceMul, Nat.mul_zero, Nat.zero_add] <;> rfl

end Cert.RetBwdIdeal.Value

end
-- ==== Proof.RetBwd.Blocks.lean ====
/- The blocks of the second retention call's windows, read in the arguments. -/
module

public import proofs.«01_k».proof.Proof.RetBwd.Cases

@[expose] public section

set_option maxRecDepth 16384

noncomputable section

open Idealize.ShloMosaic Idealize.ShloMosaic.TcCoe Idealize.SL.Sem
open Idealize.ShloMosaic.Pipeline (Dat)

namespace Cert.RetBwdIdeal.Value

open Cert.RetBwdIdeal Cert.RetBwdIdeal.Gen Cert.Ret

variable (m : (ℓ : Loc nD τ sig) → Buf (Elt Ideal) ℓ)

/-- Where each window's block sits at each point. -/
theorem idx : ∀ t : Fin cfg0.N, win0_0.index t = ![0] ∧ win0_1.index t = ![191 - t.val, 0] ∧ win0_2.index t = ![191 - t.val, 1]
    ∧ win0_3.index t = ![191 - t.val, 1] ∧ win0_4.index t = ![191 - t.val, 2] ∧ win0_5.index t = ![191 - t.val, 0]
    ∧ win0_6.index t = ![0, 0] ∧ win0_7.index t = ![191 - t.val, 0] :=
  (by decide +kernel : ∀ t : Fin grid0.N, _)

/-- The chunk of a point. -/
def ch (t : Fin cfg0.N) : Fin 192 := (⟨t.val, lt_of_lt_of_eq t.isLt N_0⟩ : Fin 192).rev

theorem ch_val (t : Fin cfg0.N) : (ch t).val = 191 - t.val := by
  have := lt_of_lt_of_eq t.isLt N_0
  unfold ch
  rw [Fin.val_rev]
  simp only []
  omega

theorem blk0 (c : Dev nD) (t : Fin cfg0.N) (h : Fin 8) :
    (show Vec Ideal S8 .f32 from iblk m c 0 t) (ix1 h) = lgam (m ((c : Thread nD τ).loc main_arg1) (ix1 h)) := by
  blk_simp [iblk]
  entry_read
  pointwise
  refine congrArg lgam ?_
  blk_ext [idx t]
theorem blk1 (c : Dev nD) (t : Fin cfg0.N) (a : Fin 128) (h : Fin 8) (d : Fin 128) :
    (show Vec Ideal S128x1024 .f32 from iblk m c 1 t) (ix2 a (hd h d))
      = m ((c : Thread nD τ).loc main_arg0) (ix2 (row (ch t) a) (qc h d)) := by
  blk_ext [iblk, V, idx t, row, qc, hd, ch_val]
theorem blk2 (c : Dev nD) (t : Fin cfg0.N) (a : Fin 128) (h : Fin 8) (d : Fin 128) :
    (show Vec Ideal S128x1024 .f32 from iblk m c 2 t) (ix2 a (hd h d))
      = m ((c : Thread nD τ).loc main_arg0) (ix2 (row (ch t) a) (kc h d)) := by
  blk_ext [iblk, V, idx t, row, kc, hd, ch_val]
theorem blk3 (c : Dev nD) (t : Fin cfg0.N) (a : Fin 128) (h : Fin 8) (e : Fin 256) :
    (show Vec Ideal S128x2048 .f32 from iblk m c 3 t) (ix2 a (he h e))
      = m ((c : Thread nD τ).loc main_arg0) (ix2 (row (ch t) a) (vc h e)) := by
  blk_ext [iblk, V, idx t, row, vc, he, ch_val]
theorem blk4 (c : Dev nD) (t : Fin cfg0.N) (a : Fin 128) (h : Fin 8) (e : Fin 256) :
    (show Vec Ideal S128x2048 .f32 from iblk m c 4 t) (ix2 a (he h e))
      = m ((c : Thread nD τ).loc main_arg0) (ix2 (row (ch t) a) (rc h e)) := by
  blk_ext [iblk, V, idx t, row, rc, he, ch_val]
theorem blk5 (c : Dev nD) (t : Fin cfg0.N) (a : Fin 128) (h : Fin 8) (e : Fin 256) :
    (show Vec Ideal S128x2048 .f32 from iblk m c 5 t) (ix2 a (he h e))
      = m ((c : Thread nD τ).loc main_arg2) (ix2 (row (ch t) a) (he h e)) := by
  blk_ext [iblk, V, idx t, row, he, ch_val]
theorem blk6 (c : Dev nD) (t : Fin cfg0.N) (j : Fin 2048) :
    (show Vec Ideal S1x2048 .f32 from iblk m c 6 t) (ix2 0 j) = m ((c : Thread nD τ).loc main_arg3) (ix1 j) := by
  blk_simp [iblk]
  entry_read
  pointwise
  blk_ext [idx t]

end Cert.RetBwdIdeal.Value

end
-- ==== Proof.RetBwd.Final.lean ====
/- The result array of the second retention call: the state by induction along the chunks, then each chunk's result. -/
module

public import proofs.«01_k».proof.Proof.RetBwd.Blocks

@[expose] public section

set_option maxRecDepth 16384

noncomputable section

open Idealize.ShloMosaic Idealize.ShloMosaic.TcCoe Idealize.SL.Sem
open Idealize.ShloMosaic.Pipeline (Dat)

namespace Cert.RetBwdIdeal.Value

open Cert.RetBwdIdeal Cert.RetBwdIdeal.Gen Cert.Ret

variable (m : (ℓ : Loc nD τ sig) → Buf (Elt Ideal) ℓ)

/-- The projection's rows. -/
def XX (c : Dev nD) : Fin 24576 → Fin 12288 → EReal := fun r j => m ((c : Thread nD τ).loc main_arg0) (ix2 r j)
/-- The backward decays of the heads. -/
def LB (c : Dev nD) (h : Fin 8) : EReal := lgam (m ((c : Thread nD τ).loc main_arg1) (ix1 h))
/-- The first call's result and the gain. -/
def OO (c : Dev nD) : Fin 24576 → Fin 2048 → EReal := fun r j => m ((c : Thread nD τ).loc main_arg2) (ix2 r j)
def GG (c : Dev nD) : Fin 2048 → EReal := fun j => m ((c : Thread nD τ).loc main_arg3) (ix1 j)

/-- One chunk's step of the state. -/
theorem step_eq (c : Dev nD) (t : Fin cfg0.N) (st : EReal) (h : Fin 8) (d : Fin 128) (e : Fin 256) :
    stNext (iblk m c 0 t) (iblk m c 2 t) (iblk m c 3 t) st h d e
      = st * gch (LB m c h) + kv (flip (XX m c)) (wF (LB m c h)) h d e t.val := by
  have b0 := blk0 m c t
  have b2 := blk2 m c t
  have b3 := blk3 m c t
  have q := kv_flip (XX m c) (LB m c h) h d e ⟨t.val, lt_of_lt_of_eq t.isLt N_0⟩
  simp only [] at b0 b2 b3 q
  rw [q]
  unfold stNext
  simp only [b0, b2, b3]
  rfl

/-- The state after the `n`-th chunk from the last one. -/
theorem state (c : Dev nD) (h : Fin 8) (d : Fin 128) (e : Fin 256) : ∀ (n : ℕ) (hn : n < cfg0.N),
    (outsAt0 m c n hn).2 (ix3 h d e)
      = stS (fun j => kv (flip (XX m c)) (wF (LB m c h)) h d e (startB n + j)) (gch (LB m c h)) (n - startB n + 1) := by
  intro n
  induction n with
  | zero =>
    intro hn
    refine (stateA m c ⟨0, hn⟩ (.inl rfl) h d e).trans ((step_eq m c _ _ h d e).trans ?_)
    rfl
  | succ n ih =>
    intro hn
    have hN := lt_of_lt_of_eq hn N_0
    by_cases h1 : (n + 1 = 32 ∨ n + 1 = 64)
    · refine (stateA m c ⟨n + 1, hn⟩ (by simp only []; omega) h d e).trans ((step_eq m c _ _ h d e).trans ?_)
      rcases h1 with h1 | h1
      · obtain rfl : n = 31 := by omega
        rfl
      · obtain rfl : n = 63 := by omega
        rfl
    · refine (stateB m c ⟨n + 1, hn⟩ (by simp only []; omega) h d e).trans ((step_eq m c _ _ h d e).trans ?_)
      have e1 : startB (n + 1) = startB n := by unfold startB; split_ifs <;> omega
      have e0 : startB n ≤ n := by unfold startB; split_ifs <;> omega
      have e2 : n + 1 - startB n = n - startB n + 1 := by omega
      have e3 : startB n + (n - startB n + 1) = n + 1 := by omega
      rw [e1, e2]
      show _ = stS _ _ (n - startB n + 1) * _ + kv _ _ h d e (startB n + (n - startB n + 1))
      rw [e3]
      exact congrArg (fun z => z * _ + _) (ih _)

/-- A row's head of both directions, at the `p`-th chunk from the last one. -/
def both (X : Fin 24576 → Fin 12288 → EReal) (lb : Fin 8 → EReal) (O : Fin 24576 → Fin 2048 → EReal)
    (p : Fin 192) (a : Fin 128) (h : Fin 8) (e : Fin 256) : EReal :=
  O (row p.rev a) (he h e) + cross X (fun d => stB X (lb h) p.val h d e) (Ideal.exp ((Ideal.ofBits .f32 0x43000000#32 - pos a.val) * lb h)) p.rev a h

/-- A chunk's result, normalised and gated. -/
def res (X : Fin 24576 → Fin 12288 → EReal) (lb : Fin 8 → EReal) (O : Fin 24576 → Fin 2048 → EReal) (g : Fin 2048 → EReal)
    (p : Fin 192) (a : Fin 128) (h : Fin 8) (e : Fin 256) : EReal :=
  outG (both X lb O p a h) (g (he h e)) (X (row p.rev a) (rc h e)) e

theorem out_eq (c : Dev nD) (t : Fin cfg0.N) (st : Fin 8 → Fin 128 → Fin 256 → EReal)
    (hst : ∀ h d e, st h d e = stB (XX m c) (LB m c h) t.val h d e) (a : Fin 128) (h : Fin 8) (e : Fin 256) :
    outG (rowB (iblk m c 0 t) (iblk m c 1 t) (iblk m c 5 t) st a h)
          ((show Vec Ideal S1x2048 .f32 from iblk m c 6 t) (ix2 0 (he h e))) ((show Vec Ideal S128x2048 .f32 from iblk m c 4 t) (ix2 a (he h e))) e
      = res (XX m c) (LB m c) (OO m c) (GG m c) ⟨t.val, lt_of_lt_of_eq t.isLt N_0⟩ a h e := by
  have b0 := blk0 m c t
  have b1 := blk1 m c t
  have b5 := blk5 m c t
  have hz : rowB (iblk m c 0 t) (iblk m c 1 t) (iblk m c 5 t) st a h
      = both (XX m c) (LB m c) (OO m c) ⟨t.val, lt_of_lt_of_eq t.isLt N_0⟩ a h := by
    funext e
    simp only [] at b0 b1 b5
    unfold rowB both cross
    simp only [b0, b1, b5, hst]
    rfl
  rw [hz, blk6, blk4]
  rfl

/-- The block a point writes. -/
theorem block_eq (c : Dev nD) (t : Fin cfg0.N) (a : Fin 128) (h : Fin 8) (e : Fin 256) :
    (outsAt0 m c t.val t.isLt).1 (ix2 a (he h e))
      = res (XX m c) (LB m c) (OO m c) (GG m c) ⟨t.val, lt_of_lt_of_eq t.isLt N_0⟩ a h e := by
  have hN := lt_of_lt_of_eq t.isLt N_0
  by_cases h1 : (t.val = 0 ∨ t.val = 32 ∨ t.val = 64)
  · refine (outA m c t (by omega) a h e).trans (out_eq m c t _ (fun h d e => ?_) a h e)
    rcases h1 with h1 | h1 | h1 <;> (rw [h1]; rfl)
  · refine (outB m c t (by omega) a h e).trans (out_eq m c t _ (fun h d e => ?_) a h e)
    refine (state m c h d e _ _).trans ?_
    have e1 : startB (t.val - 1) = startB t.val := by unfold startB; split_ifs <;> omega
    have e0 : startB t.val ≤ t.val - 1 := by unfold startB; split_ifs <;> omega
    have e2 : t.val - 1 - startB t.val + 1 = t.val - startB t.val := by omega
    unfold stB
    rw [e1, e2]

/-- The result array after the run. -/
theorem final (c : Dev nD) (G : FVec Ideal S24576x2048 .bf16)
    (hG : ∀ p a h e, G (ix2 (row p.rev a) (he h e)) = res (XX m c) (LB m c) (OO m c) (GG m c) p a h e) :
    (dats m 0 c).arrAt 7 (cfgs 0).N = G := by
  refine (dats m 0 c).arrAt_eq_of_covers 7 _ (by decide +kernel) fun t hf y => ?_
  have hN := lt_of_lt_of_eq t.isLt N_0
  blk_simp
  rw [after0_7]
  idx_vars y
  obtain ⟨h, e, rfl⟩ : ∃ (h : Fin 8) (e : Fin 256), y1 = he h e :=
    ⟨⟨y1.val / 256, by have := y1.isLt; omega⟩, ⟨y1.val % 256, by omega⟩, Fin.ext (by simp only [he]; omega)⟩
  have e' : ((cfg0.win 7).blk t).view.emb (ix2 y0 (he h e)) = ix2 (row (ch t) y0) (he h e) := by
    blk_ext [idx t, row, ch_val]
  exact (block_eq m c t y0 h e).trans ((congrArg G e').trans (hG _ _ _ _)).symm

end Cert.RetBwdIdeal.Value

end
-- ==== Proof.RetBwd.Loop.lean ====
/- The loop of the second retention call's reference: the state before every chunk of each sequence. -/
module

public import proofs.«01_k».proof.Proof.Gen.RetBwdRefIdeal.Run
public import proofs.«01_k».proof.Proof.Retention
public import Idealize.ShloMosaic.Lib.DynamicIndex
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.RetBwdRefIdeal.Value

open Cert.RetBwdRefIdeal Cert.RetBwdRefIdeal.Gen Cert.Ret
open Idealize.ShloMosaic.StableHlo

variable (m : (ℓ : Loc nD τ sig) → Buf (Elt Ideal) ℓ)

theorem slice_apply (Z : FVec Ideal S128x3x8x128x256 .f32) (st : Fin 5 → ℤ) (k : Fin 128)
    (hs : ∀ a, st a = ((![k.val, 0, 0, 0, 0] : Fin 5 → ℕ) a : ℤ)) (b : Fin 3) (h : Fin 8) (d : Fin 128) (e : Fin 256) :
    (shapeCast S3x8x128x256 (Host.dynamicSlice S1x3x8x128x256 Z st sliceFits_S128x3x8x128x256_S1x3x8x128x256)
      shapeCasts_S1x3x8x128x256_S3x8x128x256 : FVec Ideal S3x8x128x256 .f32) (ix4 b h d e) = Z (ix5 k b h d e) := by
  have hk := k.isLt
  have hfit : S128x3x8x128x256.Slices (![k.val, 0, 0, 0, 0] : Fin 5 → ℕ) S1x3x8x128x256 :=
    ⟨rfl, fun a => by fin_cases a <;> first | (show k.val + 1 ≤ 128; omega) | (show (0 + _ : ℕ) ≤ _; decide)⟩
  have q := Host.dynamicSlice_eq_extractStridedSlice S1x3x8x128x256 Z st (![k.val, 0, 0, 0, 0] : Fin 5 → ℕ)
    sliceFits_S128x3x8x128x256_S1x3x8x128x256 hfit hs
  rw [q]
  pointwise

theorem update_apply (Z : FVec Ideal S128x3x8x128x256 .f32) (U : FVec Ideal S3x8x128x256 .f32) (st : Fin 5 → ℤ) (k : Fin 128)
    (hs : ∀ a, st a = ((![k.val, 0, 0, 0, 0] : Fin 5 → ℕ) a : ℤ)) (j : Fin 128) (b : Fin 3) (h : Fin 8) (d : Fin 128) (e : Fin 256) :
    (Host.dynamicUpdateSlice Z (broadcastInDim S1x3x8x128x256 ![1, 2, 3, 4] bcast_S3x8x128x256_S1x3x8x128x256_1_2_3_4 U) st
      updateFits_S128x3x8x128x256_S1x3x8x128x256 : FVec Ideal S128x3x8x128x256 .f32) (ix5 j b h d e)
      = if j = k then U (ix4 b h d e) else Z (ix5 j b h d e) := by
  have hk := k.isLt
  have hfit : S128x3x8x128x256.Slices (![k.val, 0, 0, 0, 0] : Fin 5 → ℕ) S1x3x8x128x256 :=
    ⟨rfl, fun a => by fin_cases a <;> first | (show k.val + 1 ≤ 128; omega) | (show (0 + _ : ℕ) ≤ _; decide)⟩
  have q := WordCmp.dynamicUpdateSlice_eq_update Z (broadcastInDim S1x3x8x128x256 ![1, 2, 3, 4] bcast_S3x8x128x256_S1x3x8x128x256_1_2_3_4 U) st
    updateFits_S128x3x8x128x256_S1x3x8x128x256 (![k.val, 0, 0, 0, 0] : Fin 5 → ℕ) hfit hs
  rw [q]
  pointwise
  by_cases hj : j = k
  · rw [dif_pos ⟨by rw [hj], by rw [hj]; omega⟩, if_pos hj]
  · rw [dif_neg (fun z => hj (Fin.ext (by omega))), if_neg hj]

theorem cat_apply (A B C : FVec Ideal S128x1x8x128x256 .f32) (k : Fin 128) (b : Fin 3) (h : Fin 8) (d : Fin 128) (e : Fin 256) :
    (concatenate S128x3x8x128x256 1 [⟨S128x1x8x128x256, A⟩, ⟨S128x1x8x128x256, B⟩, ⟨S128x1x8x128x256, C⟩]
      concatenates_S128x1x8x128x256_S128x1x8x128x256_S128x1x8x128x256_S128x3x8x128x256_d1 : FVec Ideal S128x3x8x128x256 .f32) (ix5 k b h d e)
      = if b.val = 0 then A (ix5 k 0 h d e) else if b.val = 1 then B (ix5 k 0 h d e) else C (ix5 k 0 h d e) := by
  pointwise
  have hb : b = 0 ∨ b = 1 ∨ b = 2 := by fin_cases b <;> simp
  rcases hb with rfl | rfl | rfl <;> rfl

theorem longPart (Z : FVec Ideal S192x8x128x256 .f32) (k : Fin 128) (h : Fin 8) (d : Fin 128) (e : Fin 256) :
    (broadcastInDim S128x1x8x128x256 ![0, 2, 3, 4] bcast_S128x8x128x256_S128x1x8x128x256_0_2_3_4
      (pad S128x8x128x256 ![0, 0, 0, 0] ![0, 0, 0, 0] ![0, 0, 0, 0] (extractStridedSlice S128x8x128x256 ![64, 0, 0, 0] Z slices_S192x8x128x256_S128x8x128x256_64_0_0_0)
        (constant S_ .f32 0x00000000#32) pads_S128x8x128x256_S128x8x128x256_000_000_000_000 h_S_) : FVec Ideal S128x1x8x128x256 .f32) (ix5 k 0 h d e)
      = Z (ix4 ⟨64 + k.val, by have := k.isLt; omega⟩ h d e) := by
  pointwise

theorem shortPart (Z : FVec Ideal S192x8x128x256 .f32) (k : Fin 128) (h : Fin 8) (d : Fin 128) (e : Fin 256) :
    (broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![0, 0, 0, 0] Z slices_S192x8x128x256_S32x8x128x256_0_0_0_0)
        (constant S_ .f32 0x00000000#32) pads_S32x8x128x256_S128x8x128x256_0960_000_000_000 h_S_) : FVec Ideal S128x1x8x128x256 .f32) (ix5 k 0 h d e)
      = if hk : k.val < 32 then Z (ix4 ⟨k.val, by omega⟩ h d e) else 0 := by
  pointwise

theorem shortPart' (Z : FVec Ideal S192x8x128x256 .f32) (k : Fin 128) (h : Fin 8) (d : Fin 128) (e : Fin 256) :
    (broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![32, 0, 0, 0] Z slices_S192x8x128x256_S32x8x128x256_32_0_0_0)
        (constant S_ .f32 0x00000000#32) pads_S32x8x128x256_S128x8x128x256_0960_000_000_000 h_S_) : FVec Ideal S128x1x8x128x256 .f32) (ix5 k 0 h d e)
      = if hk : k.val < 32 then Z (ix4 ⟨32 + k.val, by omega⟩ h d e) else 0 := by
  pointwise

theorem chunkQ (X : FVec Ideal S24576x12288 .f32) (n : Fin 192) (a : Fin 128) (h : Fin 8) (d : Fin 128) :
    (shapeCast S192x128x8x128 (extractStridedSlice S24576x1024 ![0, 0] X slices_S24576x12288_S24576x1024_0_0)
      shapeCasts_S24576x1024_S192x128x8x128 : FVec Ideal S192x128x8x128 .f32) (ix4 n a h d) = X (ix2 (row n a) (qc h d)) := by
  pointwise
  refine congrArg₂ (fun x y => X (ix2 x y)) (Fin.ext ?_) (Fin.ext ?_) <;> simp only [row, qc] <;> omega

theorem chunkK (X : FVec Ideal S24576x12288 .f32) (n : Fin 192) (a : Fin 128) (h : Fin 8) (d : Fin 128) :
    (shapeCast S192x128x8x128 (extractStridedSlice S24576x1024 ![0, 1024] X slices_S24576x12288_S24576x1024_0_1024)
      shapeCasts_S24576x1024_S192x128x8x128 : FVec Ideal S192x128x8x128 .f32) (ix4 n a h d) = X (ix2 (row n a) (kc h d)) := by
  pointwise
  refine congrArg₂ (fun x y => X (ix2 x y)) (Fin.ext ?_) (Fin.ext ?_) <;> simp only [row, kc] <;> omega

theorem chunkV (X : FVec Ideal S24576x12288 .f32) (n : Fin 192) (a : Fin 128) (h : Fin 8) (e : Fin 256) :
    (shapeCast S192x128x8x256 (extractStridedSlice S24576x2048 ![0, 2048] X slices_S24576x12288_S24576x2048_0_2048)
      shapeCasts_S24576x2048_S192x128x8x256 : FVec Ideal S192x128x8x256 .f32) (ix4 n a h e) = X (ix2 (row n a) (vc h e)) := by
  pointwise
  refine congrArg₂ (fun x y => X (ix2 x y)) (Fin.ext ?_) (Fin.ext ?_) <;> simp only [row, vc] <;> omega

/-- The logarithms of the decays. -/
abbrev lgV (A : FVec Ideal S8 .f32) : FVec Ideal S8 .f32 :=
  Host.log1p (Host.negf (Host.exp (mulf (broadcastInDim S8 ![] bcast_S_S8 (constant S_ .f32 0x3F317218#32)) (Host.negf A))))

theorem lgV_apply (A : FVec Ideal S8 .f32) (h : Fin 8) : lgV A (ix1 h) = lgam (A (ix1 h)) := by
  unfold lgV
  pointwise
  rfl

/-- What every chunk adds to the state. -/
abbrev kvT (X : FVec Ideal S24576x12288 .f32) (A : FVec Ideal S8 .f32) : FVec Ideal S192x8x128x256 .f32 :=
  Host.dotGeneral dot_S192x128x8x128_S192x128x8x256_S192x8x128x256_1_1_3_3_02_02 none
    (mulf (shapeCast S192x128x8x128 (extractStridedSlice S24576x1024 ![0, 1024] X slices_S24576x12288_S24576x1024_0_1024)
        shapeCasts_S24576x1024_S192x128x8x128)
      (broadcastInDim S192x128x8x128 ![0, 1, 2, 3] bcast_S1x128x8x1_S192x128x8x128_0_1_2_3
        (broadcastInDim S1x128x8x1 ![1, 2] bcast_S128x8_S1x128x8x1_1_2
          (Host.exp (mulf (broadcastInDim S128x8 ![0, 1] bcast_S128x1_S128x8_0_1
              (broadcastInDim S128x1 ![0] bcast_S128_S128x1_0
                (subf (broadcastInDim S128 ![] bcast_S_S128 (constant S_ .f32 0x42FE0000#32)) (sitofp .f32 (iotaInDim S128 32 0)))))
            (broadcastInDim S128x8 ![0, 1] bcast_S1x8_S128x8_0_1 (broadcastInDim S1x8 ![1] bcast_S8_S1x8_1 (lgV A))))))))
    (shapeCast S192x128x8x256 (extractStridedSlice S24576x2048 ![0, 2048] X slices_S24576x12288_S24576x2048_0_2048)
      shapeCasts_S24576x2048_S192x128x8x256)

theorem kvT_apply (X : FVec Ideal S24576x12288 .f32) (A : FVec Ideal S8 .f32) (n : Fin 192) (h : Fin 8) (d : Fin 128) (e : Fin 256) :
    kvT X A (ix4 n h d e) = kv (fun r j => X (ix2 r j)) (wF (lgam (A (ix1 h)))) h d e n.val := by
  have hK := chunkK X n
  have hV := chunkV X n
  have hL := lgV_apply A
  unfold kvT
  generalize lgV A = L at hL ⊢
  generalize (shapeCast S192x128x8x128 (extractStridedSlice S24576x1024 ![0, 1024] X slices_S24576x12288_S24576x1024_0_1024)
        shapeCasts_S24576x1024_S192x128x8x128 : FVec Ideal S192x128x8x128 .f32) = K at hK ⊢
  generalize (shapeCast S192x128x8x256 (extractStridedSlice S24576x2048 ![0, 2048] X slices_S24576x12288_S24576x2048_0_2048)
      shapeCasts_S24576x2048_S192x128x8x256 : FVec Ideal S192x128x8x256 .f32) = W at hV ⊢
  unfold kv
  rw [dif_pos n.isLt]
  pointwise
  simp only [hK, hV, hL]
  rfl

theorem revX_apply (Z : FVec Ideal S24576x12288 .f32) (r : Fin 24576) (j : Fin 12288) :
    (Host.reverse [0] Z : FVec Ideal S24576x12288 .f32) (ix2 r j) = Z (ix2 r.rev j) := by
  pointwise
  rfl

/-- The reversed rows of the projection. -/
abbrev XR (c : Dev nD) : FVec Ideal S24576x12288 .f32 := Host.reverse [0] (m ((c.tc : Thread nD τ).loc main_arg0))

theorem read38 (c : Dev nD) : (show FVec Ideal S128x1x8x128x256 .f32 from upto hostOps0 (launchContents m c) 48 (Proc.devRef .tc main_v38))
    = broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![0, 0, 0, 0]
        (kvT (XR m c) (m ((c.tc : Thread nD τ).loc main_arg1))) slices_S192x8x128x256_S32x8x128x256_0_0_0_0)
        (constant S_ .f32 0x00000000#32) pads_S32x8x128x256_S128x8x128x256_0960_000_000_000 h_S_) := by
  after_reads_simp
  rfl

theorem read39 (c : Dev nD) : (show FVec Ideal S128x1x8x128x256 .f32 from upto hostOps0 (launchContents m c) 48 (Proc.devRef .tc main_v39))
    = broadcastInDim S128x1x8x128x256 ![0, 2, 3, 4] bcast_S128x8x128x256_S128x1x8x128x256_0_2_3_4
      (pad S128x8x128x256 ![0, 0, 0, 0] ![96, 0, 0, 0] ![0, 0, 0, 0] (extractStridedSlice S32x8x128x256 ![32, 0, 0, 0]
        (kvT (XR m c) (m ((c.tc : Thread nD τ).loc main_arg1))) slices_S192x8x128x256_S32x8x128x256_32_0_0_0)
        (constant S_ .f32 0x00000000#32) pads_S32x8x128x256_S128x8x128x256_0960_000_000_000 h_S_) := by
  after_reads_simp
  rfl

theorem read40 (c : Dev nD) : (show FVec Ideal S128x1x8x128x256 .f32 from upto hostOps0 (launchContents m c) 48 (Proc.devRef .tc main_v40))
    = broadcastInDim S128x1x8x128x256 ![0, 2, 3, 4] bcast_S128x8x128x256_S128x1x8x128x256_0_2_3_4
      (pad S128x8x128x256 ![0, 0, 0, 0] ![0, 0, 0, 0] ![0, 0, 0, 0] (extractStridedSlice S128x8x128x256 ![64, 0, 0, 0]
        (kvT (XR m c) (m ((c.tc : Thread nD τ).loc main_arg1))) slices_S192x8x128x256_S128x8x128x256_64_0_0_0)
        (constant S_ .f32 0x00000000#32) pads_S128x8x128x256_S128x8x128x256_000_000_000_000 h_S_) := by
  after_reads_simp
  rfl

/-- The first chunk of each of the sequences, and how many there are. -/
def st3 (b : Fin 3) : ℕ := if b.val = 0 then 0 else if b.val = 1 then 32 else 64
def len3 (b : Fin 3) : ℕ := if b.val = 2 then 128 else 32

theorem entry0 (c : Dev nD) (k : Fin 128) (b : Fin 3) (h : Fin 8) (d : Fin 128) (e : Fin 256) (hk : k.val < len3 b) :
    (show FVec Ideal S128x3x8x128x256 .f32 from entryContents preI m c (Proc.devRef .tc main_v43_0)) (ix5 k b h d e)
      = kv (fun r j => XR m c (ix2 r j)) (wF (lgam (m ((c.tc : Thread nD τ).loc main_arg1) (ix1 h)))) h d e (st3 b + k.val) := by
  simp only [entryContents, afterL_cons, afterL_nil]
  after_reads_simp
  refine (cat_apply _ _ _ k b h d e).trans ?_
  have e0 := (congrFun (read38 m c) (ix5 k 0 h d e)).trans (shortPart _ k h d e)
  have e1 := (congrFun (read39 m c) (ix5 k 0 h d e)).trans (shortPart' _ k h d e)
  have e2 := (congrFun (read40 m c) (ix5 k 0 h d e)).trans (longPart _ k h d e)
  have hb : b = 0 ∨ b = 1 ∨ b = 2 := by fin_cases b <;> simp
  have hkl := k.isLt
  rcases hb with rfl | rfl | rfl
  · refine (if_pos rfl).trans (e0.trans ((dif_pos hk).trans ((kvT_apply _ _ _ h d e).trans ?_)))
    exact congrArg (kv _ _ h d e) (show k.val = 0 + k.val by omega)
  · refine (if_neg (by decide)).trans ((if_pos rfl).trans (e1.trans ((dif_pos hk).trans ((kvT_apply _ _ _ h d e).trans ?_))))
    rfl
  · refine (if_neg (by decide)).trans ((if_neg (by decide)).trans (e2.trans ((kvT_apply _ _ _ h d e).trans ?_)))
    rfl

theorem entry1 (c : Dev nD) (h : Fin 8) :
    (show FVec Ideal S1x8x1x1 .f32 from entryContents preI m c (Proc.devRef .tc main_v43_1)) (ix4 0 h 0 0)
      = gch (lgam (m ((c.tc : Thread nD τ).loc main_arg1) (ix1 h))) := by
  simp only [entryContents, afterL_cons, afterL_nil]
  after_reads_simp
  simp only [id_eq]
  pointwise
  rfl

theorem entry3 (c : Dev nD) (b : Fin 3) (h : Fin 8) (d : Fin 128) (e : Fin 256) :
    (show FVec Ideal S3x8x128x256 .f32 from entryContents preI m c (Proc.devRef .tc main_v43_3)) (ix4 b h d e) = 0 := by
  simp only [entryContents, afterL_cons, afterL_nil]
  after_reads_simp
  simp only [id_eq]
  pointwise

/-- The start of a trip's slice. -/
theorem starts (Z : IVec S_ 32) (k : Fin 128) (hZ : Z = fun _ => Scf.iv 0#32 1#32 k.val) (a : Fin 5) :
    ((![Z, constantI S_ 32 0#32, constantI S_ 32 0#32, constantI S_ 32 0#32, constantI S_ 32 0#32] : Fin 5 → (⟨S_, .i32⟩ : BufTy).Contents (Elt Ideal)) a
      (Shape.Idx.first h_S_)).toInt = ((![k.val, 0, 0, 0, 0] : Fin 5 → ℕ) a : ℤ) := by
  have hk := k.isLt
  subst hZ
  fin_cases a
  · show (Scf.iv 0#32 1#32 k.val).toInt = (k.val : ℤ)
    rw [show Scf.iv 0#32 1#32 k.val = BitVec.ofNat 32 k.val by simp [Scf.iv], nat_toInt _ (by omega)]
  all_goals rfl

/-- What a sequence's chunks add, in order. -/
def added (c : Dev nD) (b : Fin 3) (h : Fin 8) (d : Fin 128) (e : Fin 256) (j : ℕ) : EReal :=
  if hj : j < 128 then (show FVec Ideal S128x3x8x128x256 .f32 from entryContents preI m c (Proc.devRef .tc main_v43_0)) (ix5 ⟨j, hj⟩ b h d e) else 0

theorem mulAdd (A C : FVec Ideal S3x8x128x256 .f32) (B : FVec Ideal S1x8x1x1 .f32) (b : Fin 3) (h : Fin 8) (d : Fin 128) (e : Fin 256) :
    (addf (mulf A (broadcastInDim S3x8x128x256 ![0, 1, 2, 3] bcast_S1x8x1x1_S3x8x128x256_0_1_2_3 B)) C : FVec Ideal S3x8x128x256 .f32) (ix4 b h d e)
      = A (ix4 b h d e) * B (ix4 0 h 0 0) + C (ix4 b h d e) := by
  pointwise

theorem step3 (V : Valuation τ sig (Elt Ideal)) (k : Fin 128)
    (hZ : (V (Proc.devRef .tc main_v43_2) : IVec S_ 32) = fun _ => Scf.iv 0#32 1#32 k.val) (b : Fin 3) (h : Fin 8) (d : Fin 128) (e : Fin 256) :
    (show FVec Ideal S3x8x128x256 .f32 from step_main_v43_3 V) (ix4 b h d e)
      = (show FVec Ideal S3x8x128x256 .f32 from V (Proc.devRef .tc main_v43_3)) (ix4 b h d e)
          * (show FVec Ideal S1x8x1x1 .f32 from V (Proc.devRef .tc main_v43_1)) (ix4 0 h 0 0)
        + (show FVec Ideal S128x3x8x128x256 .f32 from V (Proc.devRef .tc main_v43_0)) (ix5 k b h d e) := by
  have q := slice_apply (V (Proc.devRef .tc main_v43_0)) _ k (starts (V (Proc.devRef .tc main_v43_2)) k hZ) b h d e
  exact (mulAdd _ _ _ b h d e).trans (congrArg (fun z => _ + z) q)

theorem step4 (V : Valuation τ sig (Elt Ideal)) (k : Fin 128)
    (hZ : (V (Proc.devRef .tc main_v43_2) : IVec S_ 32) = fun _ => Scf.iv 0#32 1#32 k.val) (j : Fin 128) (b : Fin 3) (h : Fin 8) (d : Fin 128) (e : Fin 256) :
    (show FVec Ideal S128x3x8x128x256 .f32 from step_main_v43_4 V) (ix5 j b h d e)
      = if j = k then (show FVec Ideal S3x8x128x256 .f32 from V (Proc.devRef .tc main_v43_3)) (ix4 b h d e)
        else (show FVec Ideal S128x3x8x128x256 .f32 from V (Proc.devRef .tc main_v43_4)) (ix5 j b h d e) :=
  update_apply (V (Proc.devRef .tc main_v43_4)) (V (Proc.devRef .tc main_v43_3)) _ k (starts (V (Proc.devRef .tc main_v43_2)) k hZ) j b h d e

/-- The carried buffers after `k` trips. -/
theorem iter (c : Dev nD) : ∀ k : ℕ, k ≤ 128 →
    (STEP^[k] (entryContents preI m c)) (Proc.devRef .tc main_v43_0) = entryContents preI m c (Proc.devRef .tc main_v43_0)
    ∧ (STEP^[k] (entryContents preI m c)) (Proc.devRef .tc main_v43_1) = entryContents preI m c (Proc.devRef .tc main_v43_1)
    ∧ ((STEP^[k] (entryContents preI m c)) (Proc.devRef .tc main_v43_2) : IVec S_ 32) = (fun _ => Scf.iv 0#32 1#32 k)
    ∧ (∀ b h d e, (show FVec Ideal S3x8x128x256 .f32 from (STEP^[k] (entryContents preI m c)) (Proc.devRef .tc main_v43_3)) (ix4 b h d e)
        = stS (added m c b h d e) (gch (lgam (m ((c.tc : Thread nD τ).loc main_arg1) (ix1 h)))) k)
    ∧ ∀ (j : Fin 128) b h d e, j.val < k → (show FVec Ideal S128x3x8x128x256 .f32 from (STEP^[k] (entryContents preI m c)) (Proc.devRef .tc main_v43_4)) (ix5 j b h d e)
        = stS (added m c b h d e) (gch (lgam (m ((c.tc : Thread nD τ).loc main_arg1) (ix1 h)))) j.val := by
  intro k
  induction k with
  | zero =>
    intro _
    refine ⟨rfl, rfl, ?_, fun b h d e => entry3 m c b h d e, fun j b h d e hj => absurd hj (Nat.not_lt_zero _)⟩
    rw [Scf.iv_zero]
    exact ctr_entry m c
  | succ k ih =>
    intro hk
    obtain ⟨i0, i1, i2, i3, i4⟩ := ih (by omega)
    rw [Function.iterate_succ_apply']
    generalize STEP^[k] (entryContents preI m c) = V at i0 i1 i2 i3 i4 ⊢
    refine ⟨(STEP_main_v43_0 V).trans i0, (STEP_main_v43_1 V).trans i1, ?_, fun b h d e => ?_, fun j b h d e hj => ?_⟩
    · rw [STEP_main_v43_2, step_main_v43_2, Scf.iv_succ]
      refine (congrArg (fun z => addi z (constantI S_ 32 1#32)) i2).trans ?_
      rfl
    · rw [STEP_main_v43_3]
      refine (step3 V ⟨k, by omega⟩ i2 b h d e).trans ?_
      refine (congrArg₂ (fun x y => x + y) (congrArg₂ (fun x y => x * y) (i3 b h d e)
        ((congrFun i1 _).trans (entry1 m c h))) (congrFun i0 _)).trans ?_
      show _ = stS _ _ k * _ + added m c b h d e k
      rw [added, dif_pos (show k < 128 by omega)]
    · rw [STEP_main_v43_4]
      refine (step4 V ⟨k, by omega⟩ i2 j b h d e).trans ?_
      by_cases hjk : j = ⟨k, by omega⟩
      · rw [if_pos hjk]
        refine (i3 b h d e).trans ?_
        rw [hjk]
      · rw [if_neg hjk]
        exact i4 j b h d e (by have : j.val ≠ k := fun z => hjk (Fin.ext z); omega)

/-- The collected states after all trips. -/
theorem collected (c : Dev nD) (b : Fin 3) (j : Fin 128) (hj : j.val < len3 b) (h : Fin 8) (d : Fin 128) (e : Fin 256) :
    (show FVec Ideal S128x3x8x128x256 .f32 from (STEP^[128] (entryContents preI m c)) (Proc.devRef .tc main_v43_4)) (ix5 j b h d e)
      = stS (fun i => kv (fun r j => XR m c (ix2 r j)) (wF (lgam (m ((c.tc : Thread nD τ).loc main_arg1) (ix1 h)))) h d e (st3 b + i))
          (gch (lgam (m ((c.tc : Thread nD τ).loc main_arg1) (ix1 h)))) j.val := by
  refine ((iter m c 128 (le_refl _)).2.2.2.2 j b h d e j.isLt).trans (stS_congr _ _ _ _ fun i hi => ?_)
  have hjl := j.isLt
  rw [added, dif_pos (show i < 128 by omega)]
  exact entry0 m c ⟨i, by omega⟩ b h d e (by simp only []; omega)

end Cert.RetBwdRefIdeal.Value

end
-- ==== Proof.RetBwd.Ref.lean ====
/- The second retention call's reference, read at a row and a column. -/
module

public import proofs.«01_k».proof.Proof.RetBwd.Loop
public import proofs.«01_k».proof.Proof.RetBwd.Final

@[expose] public section

set_option maxRecDepth 16384

noncomputable section

open Idealize.ShloMosaic Idealize.ShloMosaic.TcCoe Idealize.SL.Sem
open Idealize.ShloMosaic.Pipeline (Dat)

namespace Cert.RetBwdRefIdeal.Value

open Cert.RetBwdRefIdeal Cert.RetBwdRefIdeal.Gen Cert.Ret
open Idealize.ShloMosaic.StableHlo

variable (m : (ℓ : Loc nD τ sig) → Buf (Elt Ideal) ℓ)

theorem flat_apply (P : FVec Ideal S192x128x8x256 .f32) (n : Fin 192) (a : Fin 128) (h : Fin 8) (e : Fin 256) :
    (shapeCast S24576x2048 P shapeCasts_S192x128x8x256_S24576x2048 : FVec Ideal S24576x2048 .f32) (ix2 (row n a) (he h e)) = P (ix4 n a h e) := by
  obtain ⟨r, hr⟩ : ∃ r, r = row n a := ⟨_, rfl⟩
  obtain ⟨j, hj⟩ : ∃ j, j = he h e := ⟨_, rfl⟩
  rw [← hr, ← hj]
  have hr' : r.val = 128 * n.val + a.val := congrArg Fin.val hr
  have hj' : j.val = 256 * h.val + e.val := congrArg Fin.val hj
  clear hr hj
  have := a.isLt; have := e.isLt; have := h.isLt
  pointwise
  refine congrArg P ?_
  congr 1 <;> refine Fin.ext ?_ <;> simp only [] <;> omega

theorem rev_apply (Z : FVec Ideal S24576x2048 .f32) (r : Fin 24576) (j : Fin 2048) :
    (Host.reverse [0] Z : FVec Ideal S24576x2048 .f32) (ix2 r j) = Z (ix2 r.rev j) := by
  pointwise
  rfl

/-- The part from the state before a chunk. -/
abbrev croT (P : FVec Ideal S192x8x128x256 .f32) (Q : FVec Ideal S192x128x8x128 .f32) (L : FVec Ideal S8 .f32) : FVec Ideal S192x128x8x256 .f32 :=
  mulf (transpose S192x128x8x256 [0, 3, 1, 2] (Host.dotGeneral dot_S192x8x128x256_S192x128x8x128_S192x8x256x128_2_3_3_1_01_02 none P Q)
      transposes_S192x8x256x128_S192x128x8x256_0_3_1_2)
    (broadcastInDim S192x128x8x256 ![0, 1, 2, 3] bcast_S1x128x8x1_S192x128x8x256_0_1_2_3 (broadcastInDim S1x128x8x1 ![1, 2] bcast_S128x8_S1x128x8x1_1_2
      (Host.exp (mulf (broadcastInDim S128x8 ![0, 1] bcast_S128x1_S128x8_0_1 (broadcastInDim S128x1 ![0] bcast_S128_S128x1_0
          (addf (sitofp .f32 (iotaInDim S128 32 0)) (broadcastInDim S128 ![] bcast_S_S128 (constant S_ .f32 0x3F800000#32)))))
        (broadcastInDim S128x8 ![0, 1] bcast_S1x8_S128x8_0_1 (broadcastInDim S1x8 ![1] bcast_S8_S1x8_1 L))))))

theorem croT_apply (P : FVec Ideal S192x8x128x256 .f32) (Q : FVec Ideal S192x128x8x128 .f32) (L : FVec Ideal S8 .f32)
    (n : Fin 192) (a : Fin 128) (h : Fin 8) (e : Fin 256) :
    croT P Q L (ix4 n a h e)
      = (∑ d : Fin 128, P (ix4 n h d e) * Q (ix4 n a h d)) * Ideal.exp ((pos a.val + 1) * L (ix1 h)) := by
  unfold croT pos
  pointwise

/-- The states before the chunks, the sequences one after another. -/
abbrev prevT (Z : FVec Ideal S128x3x8x128x256 .f32) : FVec Ideal S192x8x128x256 .f32 :=
  concatenate S192x8x128x256 0
    [⟨S32x8x128x256, ((shapeCast _ (extractStridedSlice S32x1x8x128x256 ![0, 0, 0, 0, 0] Z slices_S128x3x8x128x256_S32x1x8x128x256_0_0_0_0_0)
        shapeCasts_S32x1x8x128x256_S32x8x128x256) : (⟨S32x8x128x256, .f32⟩ : BufTy).Contents (Elt Ideal))⟩,
      ⟨S32x8x128x256, ((shapeCast _ (extractStridedSlice S32x1x8x128x256 ![0, 1, 0, 0, 0] Z slices_S128x3x8x128x256_S32x1x8x128x256_0_1_0_0_0)
        shapeCasts_S32x1x8x128x256_S32x8x128x256) : (⟨S32x8x128x256, .f32⟩ : BufTy).Contents (Elt Ideal))⟩,
      ⟨S128x8x128x256, ((shapeCast _ (extractStridedSlice S128x1x8x128x256 ![0, 2, 0, 0, 0] Z slices_S128x3x8x128x256_S128x1x8x128x256_0_2_0_0_0)
        shapeCasts_S128x1x8x128x256_S128x8x128x256) : (⟨S128x8x128x256, .f32⟩ : BufTy).Contents (Elt Ideal))⟩]
    concatenates_S32x8x128x256_S32x8x128x256_S128x8x128x256_S192x8x128x256_d0

theorem cat3 (A B : FVec Ideal S32x8x128x256 .f32) (C : FVec Ideal S128x8x128x256 .f32) (n : Fin 192) (h : Fin 8) (d : Fin 128) (e : Fin 256) :
    (concatenate S192x8x128x256 0 [⟨S32x8x128x256, A⟩, ⟨S32x8x128x256, B⟩, ⟨S128x8x128x256, C⟩]
      concatenates_S32x8x128x256_S32x8x128x256_S128x8x128x256_S192x8x128x256_d0 : FVec Ideal S192x8x128x256 .f32) (ix4 n h d e)
      = if h0 : n.val < 32 then A (ix4 ⟨n.val, h0⟩ h d e)
        else if h1 : n.val < 64 then B (ix4 ⟨n.val - 32, by omega⟩ h d e)
        else C (ix4 ⟨n.val - 64, by have := n.isLt; omega⟩ h d e) := by
  pointwise
  by_cases h0 : n.val < 32
  · simp (disch := omega) only [dif_pos, dif_neg]
  by_cases h1 : n.val < 64
  · simp (disch := omega) only [dif_pos, dif_neg]
  · simp (disch := omega) only [dif_neg]
    exact congrArg (fun z => C (ix4 z h d e)) (Fin.ext (by simp only []; omega))

theorem cut0 (Z : FVec Ideal S128x3x8x128x256 .f32) (k : Fin 32) (h : Fin 8) (d : Fin 128) (e : Fin 256) :
    (shapeCast S32x8x128x256 (extractStridedSlice S32x1x8x128x256 ![0, 0, 0, 0, 0] Z slices_S128x3x8x128x256_S32x1x8x128x256_0_0_0_0_0)
      shapeCasts_S32x1x8x128x256_S32x8x128x256 : FVec Ideal S32x8x128x256 .f32) (ix4 k h d e) = Z (ix5 ⟨k.val, by omega⟩ 0 h d e) := by
  pointwise

theorem cut1 (Z : FVec Ideal S128x3x8x128x256 .f32) (k : Fin 32) (h : Fin 8) (d : Fin 128) (e : Fin 256) :
    (shapeCast S32x8x128x256 (extractStridedSlice S32x1x8x128x256 ![0, 1, 0, 0, 0] Z slices_S128x3x8x128x256_S32x1x8x128x256_0_1_0_0_0)
      shapeCasts_S32x1x8x128x256_S32x8x128x256 : FVec Ideal S32x8x128x256 .f32) (ix4 k h d e) = Z (ix5 ⟨k.val, by omega⟩ 1 h d e) := by
  pointwise

theorem cut2 (Z : FVec Ideal S128x3x8x128x256 .f32) (k : Fin 128) (h : Fin 8) (d : Fin 128) (e : Fin 256) :
    (shapeCast S128x8x128x256 (extractStridedSlice S128x1x8x128x256 ![0, 2, 0, 0, 0] Z slices_S128x3x8x128x256_S128x1x8x128x256_0_2_0_0_0)
      shapeCasts_S128x1x8x128x256_S128x8x128x256 : FVec Ideal S128x8x128x256 .f32) (ix4 k h d e) = Z (ix5 k 2 h d e) := by
  pointwise

theorem XR_eq (c : Dev nD) : (fun r j => XR m c (ix2 r j)) = Cert.Ret.flip (fun r j => m ((c.tc : Thread nD τ).loc main_arg0) (ix2 r j)) :=
  funext fun r => funext fun j => revX_apply _ r j

theorem prev_apply (c : Dev nD) (n : Fin 192) (h : Fin 8) (d : Fin 128) (e : Fin 256) :
    prevT ((STEP^[128] (entryContents preI m c)) (Proc.devRef .tc main_v43_4)) (ix4 n h d e)
      = stB (fun r j => m ((c.tc : Thread nD τ).loc main_arg0) (ix2 r j)) (lgam (m ((c.tc : Thread nD τ).loc main_arg1) (ix1 h))) n.val h d e := by
  have hc := collected m c
  rw [XR_eq] at hc
  generalize (STEP^[128] (entryContents preI m c)) (Proc.devRef .tc main_v43_4) = Z at hc ⊢
  have hn := n.isLt
  unfold prevT stB
  refine (cat3 _ _ _ n h d e).trans ?_
  by_cases h0 : n.val < 32
  · refine (dif_pos h0).trans ((cut0 Z ⟨n.val, h0⟩ h d e).trans ((hc 0 _ (by show n.val < 32; exact h0) h d e).trans ?_))
    have e1 : startB n.val = 0 := by unfold startB; split_ifs <;> omega
    rw [e1]
    rfl
  by_cases h1 : n.val < 64
  · refine (dif_neg h0).trans ((dif_pos h1).trans ((cut1 Z ⟨n.val - 32, by omega⟩ h d e).trans ((hc 1 _ (by show n.val - 32 < 32; omega) h d e).trans ?_)))
    have e1 : startB n.val = 32 := by unfold startB; split_ifs <;> omega
    rw [e1]
    rfl
  · refine (dif_neg h0).trans ((dif_neg h1).trans ((cut2 Z ⟨n.val - 64, by omega⟩ h d e).trans ((hc 2 _ (by show n.val - 64 < 128; omega) h d e).trans ?_)))
    have e1 : startB n.val = 64 := by unfold startB; split_ifs <;> omega
    rw [e1]
    rfl

/-- Both directions, a row of the tokens after another. -/
abbrev botT (O : FVec Ideal S24576x2048 .f32) (P : FVec Ideal S192x8x128x256 .f32) (Q : FVec Ideal S192x128x8x128 .f32) (L : FVec Ideal S8 .f32) : FVec Ideal S24576x2048 .f32 :=
  addf O (Host.reverse [0] (shapeCast S24576x2048 (croT P Q L) shapeCasts_S192x128x8x256_S24576x2048))

theorem addf_at (P Q : FVec Ideal S24576x2048 .f32) (i : S24576x2048.Idx) : (addf P Q : FVec Ideal S24576x2048 .f32) i = P i + Q i := rfl

theorem botT_apply (O : FVec Ideal S24576x2048 .f32) (P : FVec Ideal S192x8x128x256 .f32) (Q : FVec Ideal S192x128x8x128 .f32) (L : FVec Ideal S8 .f32)
    (p : Fin 192) (a : Fin 128) (h : Fin 8) (e : Fin 256) :
    botT O P Q L (ix2 (row p.rev a) (he h e))
      = O (ix2 (row p.rev a) (he h e)) + (∑ d : Fin 128, P (ix4 p h d e) * Q (ix4 p a.rev h d)) * Ideal.exp ((pos a.rev.val + 1) * L (ix1 h)) := by
  refine (addf_at _ _ _).trans ?_
  rw [rev_apply, rev_row, Fin.rev_rev, flat_apply, croT_apply]

/-- The heads normalised, times the gain. -/
abbrev norT (Y : FVec Ideal S24576x8x256 .f32) (G : FVec Ideal S8x256 .f32) : FVec Ideal S24576x8x256 .f32 :=
  mulf (mulf Y (broadcastInDim S24576x8x256 ![0, 1, 2] bcast_S24576x8x1_S24576x8x256_0_1_2 (Host.rsqrt (addf
      (Host.divf (broadcastInDim S24576x8x1 ![0, 1] bcast_S24576x8_S24576x8x1_0_1 (Host.reduceAdd (mulf Y Y) (constant S_ .f32 0x00000000#32) reducesTo_S24576x8x256_S24576x8_d2 h_S_))
        (broadcastInDim S24576x8x1 ![] bcast_S_S24576x8x1 (constant S_ .f32 0x43800000#32)))
      (broadcastInDim S24576x8x1 ![] bcast_S_S24576x8x1 (constant S_ .f32 0x358637BD#32))))))
    (broadcastInDim S24576x8x256 ![0, 1, 2] bcast_S1x8x256_S24576x8x256_0_1_2 (broadcastInDim S1x8x256 ![1, 2] bcast_S8x256_S1x8x256_1_2 G))

theorem norT_apply (Y : FVec Ideal S24576x8x256 .f32) (G : FVec Ideal S8x256 .f32) (r : Fin 24576) (h : Fin 8) (e : Fin 256) :
    norT Y G (ix3 r h e)
      = Y (ix3 r h e) * Ideal.rsqrt (Ideal.div (∑ l : Fin 256, Y (ix3 r h l) * Y (ix3 r h l)) (Ideal.ofBits .f32 0x43800000#32) + Ideal.ofBits .f32 0x358637BD#32)
        * G (ix2 h e) := by
  unfold norT
  pointwise

/-- The gates. -/
abbrev gatT (R : FVec Ideal S24576x2048 .f32) : FVec Ideal S24576x2048 .f32 :=
  mulf R (Host.divf (broadcastInDim S24576x2048 ![] bcast_S_S24576x2048 (constant S_ .f32 0x3F800000#32))
    (addf (broadcastInDim S24576x2048 ![] bcast_S_S24576x2048 (constant S_ .f32 0x3F800000#32)) (Host.exp (Host.negf R))))

theorem gatT_apply (R : FVec Ideal S24576x2048 .f32) (r : Fin 24576) (j : Fin 2048) :
    gatT R (ix2 r j) = R (ix2 r j) * Ideal.div 1 (1 + Ideal.exp (-R (ix2 r j))) := by
  unfold gatT
  pointwise

theorem gcol (X : FVec Ideal S24576x12288 .f32) (r : Fin 24576) (h : Fin 8) (e : Fin 256) :
    (extractStridedSlice S24576x2048 ![0, 4096] X slices_S24576x12288_S24576x2048_0_4096 : FVec Ideal S24576x2048 .f32) (ix2 r (he h e)) = X (ix2 r (rc h e)) := by
  pointwise
  refine congrArg₂ (fun x y => X (ix2 x y)) (Fin.ext ?_) (Fin.ext ?_) <;> simp only [he, rc] <;> omega

theorem heads (Y : FVec Ideal S24576x2048 .f32) (r : Fin 24576) (h : Fin 8) (e : Fin 256) :
    (shapeCast S24576x8x256 Y shapeCasts_S24576x2048_S24576x8x256 : FVec Ideal S24576x8x256 .f32) (ix3 r h e) = Y (ix2 r (he h e)) := by
  pointwise
  refine congrArg₂ (fun x y => Y (ix2 x y)) (Fin.ext ?_) (Fin.ext ?_) <;> simp only [he] <;> omega

theorem gains (G : FVec Ideal S2048 .f32) (h : Fin 8) (e : Fin 256) :
    (shapeCast S8x256 G shapeCasts_S2048_S8x256 : FVec Ideal S8x256 .f32) (ix2 h e) = G (ix1 (he h e)) := by
  pointwise
  refine congrArg (fun x => G (ix1 x)) (Fin.ext ?_)
  simp only [he]; omega

theorem joined (Y : FVec Ideal S24576x8x256 .f32) (r : Fin 24576) (h : Fin 8) (e : Fin 256) :
    (shapeCast S24576x2048 Y shapeCasts_S24576x8x256_S24576x2048 : FVec Ideal S24576x2048 .f32) (ix2 r (he h e)) = Y (ix3 r h e) := by
  obtain ⟨j, hj⟩ : ∃ j, j = he h e := ⟨_, rfl⟩
  rw [← hj]
  have hj' : j.val = 256 * h.val + e.val := congrArg Fin.val hj
  clear hj
  have := e.isLt; have := h.isLt
  pointwise
  refine congrArg Y ?_
  congr 1 <;> refine Fin.ext ?_ <;> simp only [] <;> omega

theorem mulf_at (P Q : FVec Ideal S24576x2048 .f32) (i : S24576x2048.Idx) :
    (truncf .bf16 (mulf P Q) bitsLt_bf16_f32 : FVec Ideal S24576x2048 .bf16) i = P i * Q i := rfl

/-- The normalised, gated heads of a row. -/
theorem gated (Y : FVec Ideal S24576x2048 .f32) (G : FVec Ideal S2048 .f32) (X : FVec Ideal S24576x12288 .f32) (r : Fin 24576) (h : Fin 8) (e : Fin 256) :
    (truncf .bf16 (mulf (shapeCast S24576x2048 (norT (shapeCast S24576x8x256 Y shapeCasts_S24576x2048_S24576x8x256) (shapeCast S8x256 G shapeCasts_S2048_S8x256))
        shapeCasts_S24576x8x256_S24576x2048) (gatT (extractStridedSlice S24576x2048 ![0, 4096] X slices_S24576x12288_S24576x2048_0_4096))) bitsLt_bf16_f32
      : FVec Ideal S24576x2048 .bf16) (ix2 r (he h e))
      = Cert.RetBwdIdeal.Value.outG (fun l => Y (ix2 r (he h l))) (G (ix1 (he h e))) (X (ix2 r (rc h e))) e := by
  refine (mulf_at _ _ _).trans ?_
  rw [joined, norT_apply, gatT_apply, gcol, gains]
  unfold Cert.RetBwdIdeal.Value.outG
  rw [silu]
  simp only [heads]

/-- The reference's result at row `a` of the `p`-th chunk from the last one, head `h`, entry `e`. -/
theorem ref_apply (c : Dev nD) (p : Fin 192) (a : Fin 128) (h : Fin 8) (e : Fin 256) :
    (show FVec Ideal S24576x2048 .bf16 from out_main_v101 (STEP^[128] (entryContents preI m c))) (ix2 (row p.rev a) (he h e))
      = Cert.RetBwdIdeal.Value.res (fun r j => m ((c.tc : Thread nD τ).loc main_arg0) (ix2 r j))
          (fun h => lgam (m ((c.tc : Thread nD τ).loc main_arg1) (ix1 h))) (fun r j => m ((c.tc : Thread nD τ).loc main_arg2) (ix2 r j))
          (fun j => m ((c.tc : Thread nD τ).loc main_arg3) (ix1 j)) p a h e := by
  have hp := prev_apply m c
  have x0 := iter_main_arg0 m c 128
  have x1 := iter_main_arg1 m c 128
  have x2 := iter_main_arg2 m c 128
  have x3 := iter_main_arg3 m c 128
  generalize STEP^[128] (entryContents preI m c) = V at hp x0 x1 x2 x3 ⊢
  generalize m ((c.tc : Thread nD τ).loc main_arg0) = X at hp x0 ⊢
  generalize m ((c.tc : Thread nD τ).loc main_arg1) = A at hp x1 ⊢
  generalize m ((c.tc : Thread nD τ).loc main_arg2) = O at x2 ⊢
  generalize m ((c.tc : Thread nD τ).loc main_arg3) = G at x3 ⊢
  subst x0 x1 x2 x3
  have i1 := gated (botT (V (Proc.devRef .tc main_arg2)) (prevT (V (Proc.devRef .tc main_v43_4)))
      (shapeCast _ (extractStridedSlice S24576x1024 ![0, 0] (Host.reverse [0] (V (Proc.devRef .tc main_arg0))) slices_S24576x12288_S24576x1024_0_0) shapeCasts_S24576x1024_S192x128x8x128)
      (lgV (V (Proc.devRef .tc main_arg1)))) (V (Proc.devRef .tc main_arg3)) (V (Proc.devRef .tc main_arg0)) (row p.rev a) h e
  refine Eq.trans (b := _) (by exact i1) ?_
  unfold Cert.RetBwdIdeal.Value.res
  refine congrArg (fun z => Cert.RetBwdIdeal.Value.outG z _ _ e) (funext fun l => ?_)
  rw [botT_apply]
  unfold Cert.RetBwdIdeal.Value.both cross
  refine congrArg₂ (fun x y : EReal => x + y) rfl ?_
  rw [lgV_apply, pos_rev]
  refine congrArg (fun z => z * _) (Finset.sum_congr rfl fun d _ => ?_)
  rw [hp, chunkQ, mul_comm, revX_apply, rev_row, Fin.rev_rev]

end Cert.RetBwdRefIdeal.Value

end
-- ==== Proof.RetBwd.Claim.lean ====
/- The second retention call's kernel and the reference leave the same result over the extended reals. -/
module

public import proofs.«01_k».proof.Defs
public import proofs.«01_k».proof.Proof.RetBwd.Final
public import proofs.«01_k».proof.Proof.RetBwd.Ref

@[expose] public section

noncomputable section

open Idealize.ShloMosaic Idealize.ShloMosaic.TcCoe Idealize.SL.Sem

namespace Cert.Proof.RetBwdClaim

/-- The kernel's result array and the reference's are one function of arguments that agree. -/
theorem algebraic : Cert.algebraic_RetBwdIdeal_RetBwdRefIdeal := by
  intro m ρ m' ρ' _ hag
  refine ⟨fun c => (Cert.RetBwdIdeal.Gen.dats m 0 c).arrAt 7 (Cert.RetBwdIdeal.cfgs 0).N, Cert.RetBwdIdeal.Value.run_blocks m ρ,
    (θ_run Cert.RetBwdRefIdeal.defs _ _).mono (fun _ h c => ⟨(h c).1.trans ?_, (h c).2⟩) (Cert.RetBwdRefIdeal.Value.run m' ρ')⟩
  refine (Cert.RetBwdIdeal.Value.final m c _ fun n a h e => ?_).symm
  refine (Cert.RetBwdRefIdeal.Value.ref_apply m' c n a h e).trans ?_
  rw [(hag c).1, (hag c).2.1, (hag c).2.2.1, (hag c).2.2.2]
  rfl

end Cert.Proof.RetBwdClaim

end
-- ==== Proof.Moe.Cases.lean ====
/- What one grid point of the experts' kernel does to its output block. -/
module

public import proofs.«01_k».proof.Proof.Gen.MoeIdeal.Value
public import proofs.«01_k».proof.Proof.Pieces
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen

variable (m : (ℓ : Loc nD τ sig) → Buf (Elt Ideal) ℓ)

/-- A hidden tile's product with the down weights' tile, at row `i` and column `j` of the output block. -/
def part (c : Dev nD) (t : Fin cfg0.N) (i : Fin 1024) (j : Fin 4096) : EReal :=
  ∑ k : Fin 256, k0_pay3 (F := Ideal) (iblk m c 0 t) (iblk m c 1 t) (iblk m c 2 t) (ix2 i k)
    * (show Vec Ideal S1x256x4096 .f32 from iblk m c 3 t) (ix3 0 k j)

/-- A point inside a run adds its tile's product to what the point before left. -/
theorem caseB (c : Dev nD) (t : Fin cfg0.N) (h0 : ¬t.val % 43 = 0) (h1 : ¬t.val % 43 = 42) (i : Fin 1024) (j : Fin 4096) :
    outsAt0 m c t.val t.isLt (ix2 i j)
      = outsAt0 m c (t.val - 1) (Nat.lt_of_le_of_lt (Nat.sub_le _ _) t.isLt) (ix2 i j) + part m c t i j := by
  rw [outsAt0_B m c t h0 h1]
  frame_open
  simp (disch := decide) only [↓ View.readCov_skip, ↓ View.readCov_cons_toLoadRect, ↓ View.readCov_fill]
  frame_out
  clear h0 h1
  canon_tiles x h
  all_goals
    idx_vars x
    obtain rfl : i = x0 := Fin.ext h0
    pointwise [k0_pay4, k0_pay5, k0_pay6, k0_pay7, k0_pay8, k0_pay9, k0_pay10, k0_pay11, k0_pay12]
    simp only [← h1, Fin.eta, part]
    try rfl

/-- A run's first point leaves its tile's product. -/
theorem caseA (c : Dev nD) (t : Fin cfg0.N) (h0 : t.val % 43 = 0) (h1 : ¬t.val % 43 = 42) (i : Fin 1024) (j : Fin 4096) :
    outsAt0 m c t.val t.isLt (ix2 i j) = part m c t i j := by
  rw [outsAt0_A m c t h0 h1]
  frame_open
  simp (disch := decide) only [↓ View.readCov_skip, ↓ View.readCov_cons_toLoadRect, ↓ View.readCov_fill]
  frame_out
  clear h0 h1
  refine (Cert.Pieces.canon_append_covered [_, _, _, _, _, _, _, _] [_] (ix2 i j) (View.cover_of_tiled_head _ _ _ (by rfl) _)).trans ?_
  canon_tiles x h
  all_goals
    idx_vars x
    obtain rfl : i = x0 := Fin.ext h0
    pointwise [k0_pay2, k0_pay4, k0_pay5, k0_pay6, k0_pay7, k0_pay8, k0_pay9, k0_pay10, k0_pay11, k0_pay12]
    simp only [← h1, Fin.eta, part]
    try rfl

/-- The closing product, read at an index. -/
theorem pay1_apply (v : Vec Ideal S1024x4096 .f32) (g : Vec Ideal S1024x1 .f32) (i : Fin 1024) (j : Fin 4096) (a : EReal)
    (h : v (ix2 i j) = a) : k0_pay1 v g (ix2 i j) = a * g (ix2 i 0) := by
  rw [← h]
  pointwise [k0_pay1]

/-- A run's last point adds its tile's product and scales the row by its gate. -/
theorem caseC (c : Dev nD) (t : Fin cfg0.N) (h0 : ¬t.val % 43 = 0) (h1 : t.val % 43 = 42) (i : Fin 1024) (j : Fin 4096) :
    outsAt0 m c t.val t.isLt (ix2 i j)
      = (outsAt0 m c (t.val - 1) (Nat.lt_of_le_of_lt (Nat.sub_le _ _) t.isLt) (ix2 i j) + part m c t i j)
        * (show Vec Ideal S1024x128 .f32 from iblk m c 4 t) (ix2 i 0) := by
  rw [outsAt0_C m c t h0 h1]
  frame_open
  simp (disch := decide) only [↓ View.readCov_skip, ↓ View.readCov_cons_toLoadRect, ↓ View.readCov_fill]
  frame_out
  clear h0 h1
  refine (pay1_apply _ _ i j (outsAt0 m c (t.val - 1) (Nat.lt_of_le_of_lt (Nat.sub_le _ _) t.isLt) (ix2 i j) + part m c t i j) ?_).trans ?_
  rotate_left
  · pointwise
  rw [View.readCov_eq_canon']
  have e : (Rect.unit ![0, 0] ![1024, 4096] inb_S1024x4096_S1024x4096_0_0).idx (ix2 i j) = (ix2 i j : S1024x4096.Idx) := by
    funext a
    apply Fin.ext
    fin_cases a <;> simp [LoadRect.idx]
  simp only [LoadRect.idx]
  rw [e]
  canon_tiles x h
  all_goals
    idx_vars x
    obtain rfl : i = x0 := Fin.ext h0
    pointwise [k0_pay4, k0_pay5, k0_pay6, k0_pay7, k0_pay8, k0_pay9, k0_pay10, k0_pay11, k0_pay12]
    simp only [← h1, Fin.eta, part]
    try rfl

end Cert.MoeIdeal.Value

end
-- ==== Proof.Moe.Blocks.lean ====
/- Where the experts' blocks lie in the arguments. -/
module

public import proofs.«01_k».proof.Proof.Moe.Cases
public import proofs.«01_k».proof.Proof.Gen.MoeRefIdeal.Run

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen

variable (m : (ℓ : Loc nD τ sig) → Buf (Elt Ideal) ℓ)

/-- Where each window's block sits at each point. -/
theorem idx : ∀ t : Fin cfg0.N, win0_0.index t = ![t.val / 43, 0] ∧ win0_1.index t = ![t.val / 129, 0, t.val % 43]
    ∧ win0_2.index t = ![t.val / 129, 0, t.val % 43] ∧ win0_3.index t = ![t.val / 129, t.val % 43, 0]
    ∧ win0_4.index t = ![t.val / 43, 0] ∧ win0_5.index t = ![t.val / 43, 0] :=
  (by decide +kernel : ∀ t : Fin grid0.N, _)

/-- The expert of a point, and the places its block's rows and columns have in the arguments. -/
def ex (t : Fin cfg0.N) : Fin 16 := ⟨t.val / 129, by have := lt_of_lt_of_eq t.isLt N_0; omega⟩
def row (t : Fin cfg0.N) (i : Fin 1024) : Fin 3072 := ⟨t.val / 43 % 3 * 1024 + i.val, by have := i.isLt; omega⟩
def col (t : Fin cfg0.N) (k : Fin 256) : Fin 11008 := ⟨t.val % 43 * 256 + k.val, by have := k.isLt; omega⟩

theorem blk1 (c : Dev nD) (t : Fin cfg0.N) (d : Fin 4096) (k : Fin 256) :
    (show Vec Ideal S1x4096x256 .f32 from iblk m c 1 t) (ix3 0 d k) = m ((c : Thread nD τ).loc main_arg1) (ix3 (ex t) d (col t k)) := by
  blk_ext [iblk, V, idx t, ex, col]
theorem blk2 (c : Dev nD) (t : Fin cfg0.N) (d : Fin 4096) (k : Fin 256) :
    (show Vec Ideal S1x4096x256 .f32 from iblk m c 2 t) (ix3 0 d k) = m ((c : Thread nD τ).loc main_arg2) (ix3 (ex t) d (col t k)) := by
  blk_ext [iblk, V, idx t, ex, col]
theorem blk3 (c : Dev nD) (t : Fin cfg0.N) (k : Fin 256) (j : Fin 4096) :
    (show Vec Ideal S1x256x4096 .f32 from iblk m c 3 t) (ix3 0 k j) = m ((c : Thread nD τ).loc main_arg3) (ix3 (ex t) (col t k) j) := by
  blk_ext [iblk, V, idx t, ex, col]

theorem blk0 (c : Dev nD) (t : Fin cfg0.N) (i : Fin 1024) (d : Fin 4096) :
    (show Vec Ideal S1024x4096 .bf16 from iblk m c 0 t) (ix2 i d) = m ((c : Thread nD τ).loc main_arg0) (ix3 (ex t) (row t i) d) := by
  blk_simp [iblk]
  entry_read
  pointwise
  blk_ext [idx t, ex, row]
theorem blk4 (c : Dev nD) (t : Fin cfg0.N) (i : Fin 1024) (k : Fin 128) :
    (show Vec Ideal S1024x128 .f32 from iblk m c 4 t) (ix2 i k) = m ((c : Thread nD τ).loc main_arg4) (ix2 (ex t) (row t i)) := by
  blk_simp [iblk]
  entry_read
  pointwise
  blk_ext [idx t, ex, row]

end Cert.MoeIdeal.Value

end
-- ==== Proof.Moe.Final.lean ====
/- The experts' result array after the kernel's run, as the reference's function of the arguments. -/
module

public import proofs.«01_k».proof.Proof.Moe.Blocks
public import proofs.«01_k».proof.Proof.Gen.MoeRefIdeal.Run

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen

/-- A value over one plus an exponential is the value times that quotient of one. -/
theorem silu (g : EReal) : Ideal.div g (1 + Ideal.exp (0 - g)) = g * Ideal.div 1 (1 + Ideal.exp (-g)) := by
  have h0 : ∀ x : EReal, 0 ≤ Ideal.exp x := by
    intro x
    induction x using EReal.rec with
    | bot => exact le_refl _
    | top => exact le_top
    | coe r => exact EReal.coe_nonneg.mpr (Real.exp_pos r).le
  have h1 : (1 : EReal) + Ideal.exp (-g) ≠ 0 :=
    ne_of_gt (lt_of_lt_of_le zero_lt_one (le_add_of_nonneg_right (h0 _)))
  rw [zero_sub, Ideal.div, if_neg h1, Ideal.div, if_neg h1, one_mul]

/-- The reference's result over the arguments. -/
abbrev REF (X : FVec Ideal S16x3072x4096 .f32) (G U : FVec Ideal S16x4096x11008 .f32) (D : FVec Ideal S16x11008x4096 .f32)
    (w : FVec Ideal S16x3072 .f32) : FVec Ideal S49152x4096 .f32 :=
  shapeCast _ (mulf (Host.dotGeneral Cert.MoeRefIdeal.dot_S16x3072x11008_S16x11008x4096_S16x3072x4096_2_1_1_2_0_0 none (mulf (mulf (Host.dotGeneral Cert.MoeRefIdeal.dot_S16x3072x4096_S16x4096x11008_S16x3072x11008_2_1_1_2_0_0 none X G) (Host.divf (broadcastInDim Cert.MoeRefIdeal.S16x3072x11008 ![] Cert.MoeRefIdeal.Gen.bcast_S_S16x3072x11008 (constant Cert.MoeRefIdeal.S_ .f32 0x3F800000#32)) (addf (broadcastInDim Cert.MoeRefIdeal.S16x3072x11008 ![] Cert.MoeRefIdeal.Gen.bcast_S_S16x3072x11008 (constant Cert.MoeRefIdeal.S_ .f32 0x3F800000#32)) (Host.exp (Host.negf (Host.dotGeneral Cert.MoeRefIdeal.dot_S16x3072x4096_S16x4096x11008_S16x3072x11008_2_1_1_2_0_0 none X G)))))) (Host.dotGeneral Cert.MoeRefIdeal.dot_S16x3072x4096_S16x4096x11008_S16x3072x11008_2_1_1_2_0_0 none X U)) D) (broadcastInDim Cert.MoeRefIdeal.S16x3072x4096 ![0, 1, 2] Cert.MoeRefIdeal.Gen.bcast_S16x3072x1_S16x3072x4096_0_1_2 (broadcastInDim Cert.MoeRefIdeal.S16x3072x1 ![0, 1] Cert.MoeRefIdeal.Gen.bcast_S16x3072_S16x3072x1_0_1 w))) Cert.MoeRefIdeal.Gen.shapeCasts_S16x3072x4096_S49152x4096

/-- One term of the reference's contraction over the hidden width: the hidden value at `(e, r, f)` times the down weight. -/
def T (X : FVec Ideal S16x3072x4096 .f32) (G U : FVec Ideal S16x4096x11008 .f32) (D : FVec Ideal S16x11008x4096 .f32)
    (e : Fin 16) (r : Fin 3072) (f : Fin 11008) (j : Fin 4096) : EReal :=
  (∑ d : Fin 4096, X (ix3 e r d) * G (ix3 e d f)) * Ideal.div 1 (1 + Ideal.exp (-∑ d : Fin 4096, X (ix3 e r d) * G (ix3 e d f)))
    * (∑ d : Fin 4096, X (ix3 e r d) * U (ix3 e d f)) * D (ix3 e f j)

theorem ref_apply (X : FVec Ideal S16x3072x4096 .f32) (G U : FVec Ideal S16x4096x11008 .f32) (D : FVec Ideal S16x11008x4096 .f32)
    (w : FVec Ideal S16x3072 .f32) (n : Fin 49152) (j : Fin 4096) (e : Fin 16) (r : Fin 3072) (hn : n.val = e.val * 3072 + r.val) :
    REF X G U D w (ix2 n j) = (∑ f : Fin 11008, T X G U D e r f j) * w (ix2 e r) := by
  have he : n.val / 3072 = e.val := by have := r.isLt; omega
  have hr : n.val % 3072 = r.val := by have := r.isLt; omega
  pointwise [REF, T]
  simp only [he, hr, Fin.eta]

theorem part_pure (x : Vec Ideal S1024x4096 .bf16) (wg wu : Vec Ideal S1x4096x256 .f32) (wd : Vec Ideal S1x256x4096 .f32)
    (X : FVec Ideal S16x3072x4096 .f32) (G U : FVec Ideal S16x4096x11008 .f32) (D : FVec Ideal S16x11008x4096 .f32)
    (e : Fin 16) (r : Fin 3072) (f : Fin 256 → Fin 11008) (i : Fin 1024) (j : Fin 4096)
    (h0 : ∀ d, x (ix2 i d) = X (ix3 e r d)) (h1 : ∀ d k, wg (ix3 0 d k) = G (ix3 e d (f k)))
    (h2 : ∀ d k, wu (ix3 0 d k) = U (ix3 e d (f k))) (h3 : ∀ k, wd (ix3 0 k j) = D (ix3 e (f k) j)) :
    ∑ k : Fin 256, k0_pay3 x wg wu (ix2 i k) * wd (ix3 0 k j) = ∑ k : Fin 256, T X G U D e r (f k) j := by
  pointwise [k0_pay3, T]
  simp only [silu, h0, h1, h2, h3]

variable (m : (ℓ : Loc nD τ sig) → Buf (Elt Ideal) ℓ)

/-- After the point of step `f < 42` of a run the block holds the sum of the run's tiles so far. -/
theorem run_sum (c : Dev nD) (q : ℕ) (i : Fin 1024) (j : Fin 4096) (hq : 43 * q + 42 < cfg0.N) :
    ∀ (f : ℕ) (hf : f < 42), outsAt0 m c (43 * q + f) (by omega) (ix2 i j)
      = ∑ s : Fin (f + 1), part m c ⟨43 * q + s.val, by have := s.isLt; omega⟩ i j
  | 0, hf => by
    rw [caseA m c ⟨43 * q + 0, by omega⟩ (by simp) (by simp)]
    simp
  | f + 1, hf => by
    rw [caseB m c ⟨43 * q + (f + 1), by omega⟩ (by simp only []; omega) (by simp only []; omega), Fin.sum_univ_castSucc]
    exact congrArg (· + _) (run_sum c q i j hq f (by omega))

/-- A run's last point leaves the sum of all its tiles, times the row's gate. -/
theorem run_last (c : Dev nD) (t : Fin cfg0.N) (ht : t.val % 43 = 42) (i : Fin 1024) (j : Fin 4096) :
    outsAt0 m c t.val t.isLt (ix2 i j)
      = (∑ s : Fin 43, part m c ⟨43 * (t.val / 43) + s.val, by have := s.isLt; have := t.isLt; omega⟩ i j)
        * (show Vec Ideal S1024x128 .f32 from iblk m c 4 t) (ix2 i 0) := by
  have hN := t.isLt
  rw [caseC m c t (by omega) ht, Fin.sum_univ_castSucc]
  have e : 43 * (t.val / 43) + 42 = t.val := by omega
  have key : ∀ (n : ℕ) (hn : n < cfg0.N), n = 43 * (t.val / 43) + 41 → outsAt0 m c n hn (ix2 i j)
      = ∑ s : Fin 42, part m c ⟨43 * (t.val / 43) + s.val, by have := s.isLt; omega⟩ i j := by
    rintro n hn rfl
    exact run_sum m c (t.val / 43) i j (by omega) 41 (by omega)
  rw [key _ _ (by omega)]
  have et : (⟨43 * (t.val / 43) + (Fin.last 42).val, by simp only [Fin.val_last]; omega⟩ : Fin cfg0.N) = t := Fin.ext e
  rw [et]
  rfl

theorem part_eq (c : Dev nD) (t : Fin cfg0.N) (i : Fin 1024) (j : Fin 4096) :
    part m c t i j = ∑ k : Fin 256, T (m ((c : Thread nD τ).loc main_arg0)) (m ((c : Thread nD τ).loc main_arg1))
      (m ((c : Thread nD τ).loc main_arg2)) (m ((c : Thread nD τ).loc main_arg3)) (ex t) (row t i) (col t k) j :=
  part_pure _ _ _ _ _ _ _ _ _ _ (col t) i j (blk0 m c t i) (blk1 m c t) (blk2 m c t) (fun k => blk3 m c t k j)

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have ht := (flush0_5 t).mp hf
  have hN := lt_of_lt_of_eq t.isLt N_0
  blk_simp
  rw [after0_5]
  idx_vars y
  have e : ((cfg0.win 5).blk t).view.emb (ix2 y0 y1) = ix2 (⟨t.val / 43 * 1024 + y0.val, by have := y0.isLt; omega⟩ : Fin 49152) y1 := by
    blk_ext [idx t]
  rw [run_last m c t ht]
  refine Eq.trans ?_ (((congrArg _ e).trans (ref_apply _ _ _ _ _ _ y1 (ex t) (row t y0) (by simp only [ex, row]; omega))).symm)
  refine congrArg₂ (· * ·) ?_ (blk4 m c t y0 0)
  simp only [part_eq]
  refine Fin.sum_mul_add_congr fun s k hl => ?_
  have e1 : ∀ h, ex (⟨43 * (t.val / 43) + s.val, h⟩ : Fin cfg0.N) = ex t := fun h => Fin.ext (by simp only [ex]; omega)
  have e2 : ∀ h, row (⟨43 * (t.val / 43) + s.val, h⟩ : Fin cfg0.N) y0 = row t y0 := fun h => Fin.ext (by simp only [row]; omega)
  have e3 : ∀ h, col (⟨43 * (t.val / 43) + s.val, h⟩ : Fin cfg0.N) k = ⟨s.val * 256 + k.val, hl⟩ := fun h => Fin.ext (by simp only [col]; omega)
  rw [e1, e2, e3]

end Cert.MoeIdeal.Value

end
-- ==== Proof.Moe.Claim.lean ====
/- The experts' kernel and the reference leave the same result over the extended reals. -/
module

public import proofs.«01_k».proof.Defs
public import proofs.«01_k».proof.Proof.Moe.Final

@[expose] public section

noncomputable section

open Idealize.ShloMosaic Idealize.ShloMosaic.TcCoe Idealize.SL.Sem

namespace Cert.Proof.MoeClaim

/-- The kernel's result array and the reference's are one function of arguments that agree. -/
theorem algebraic : Cert.algebraic_MoeIdeal_MoeRefIdeal := by
  intro m ρ m' ρ' _ hag
  refine ⟨fun c => (Cert.MoeIdeal.Gen.dats m 0 c).arrAt 5 (Cert.MoeIdeal.cfgs 0).N, Cert.MoeIdeal.Value.run_blocks m ρ,
    (θ_run Cert.MoeRefIdeal.defs _ _).mono (fun _ h c => ⟨(h c).1.trans ?_, (h c).2⟩) (Cert.MoeRefIdeal.Value.run m' ρ')⟩
  refine Eq.trans ?_ (Cert.MoeIdeal.Value.final m c).symm
  rw [(hag c).1, (hag c).2.1, (hag c).2.2.1, (hag c).2.2.2.1, (hag c).2.2.2.2]

end Cert.Proof.MoeClaim

end
-- ==== Proof.InProj.Cases.lean ====
/- What one grid point of the input projection's kernel leaves in its output block. -/
module

public import proofs.«01_k».proof.Proof.Gen.InProjIdeal.Value
public import proofs.«01_k».proof.Proof.Pieces
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- The product of the point's rows and columns. -/
def prod (c : Dev nD) (t : Fin cfg0.N) : Vec Ideal S1024x1024 .f32 := k0_pay1 (F := Ideal) (iblk m c 0 t) (iblk m c 1 t)

/-- A plain point leaves the product. -/
theorem caseA (c : Dev nD) (t : Fin cfg0.N) (h0 : ¬t.val % 12 = 1) (h1 : ¬(6 ≤ t.val % 12 ∧ t.val % 12 ≤ 7)) (h2 : ¬(8 ≤ t.val % 12 ∧ t.val % 12 ≤ 9)) :
    outsAt0 m c t.val t.isLt = prod m c t := by
  rw [outsAt0_A m c t h0 h1 h2]
  frame_out
  rfl

/-- The keys' point leaves the product times the scale. -/
theorem caseB (c : Dev nD) (t : Fin cfg0.N) (h0 : t.val % 12 = 1) (h1 : ¬(6 ≤ t.val % 12 ∧ t.val % 12 ≤ 7)) (h2 : ¬(8 ≤ t.val % 12 ∧ t.val % 12 ≤ 9)) :
    outsAt0 m c t.val t.isLt = k0_pay2 (prod m c t) := by
  rw [outsAt0_B m c t h0 h1 h2]
  frame_out
  rfl

/-- One head's columns: where column `j` of a block has its head's `l`-th column. -/
def hc (j : Fin 1024) (l : Fin 128) : Fin 1024 := ⟨j.val / 128 * 128 + l.val, by have := j.isLt; have := l.isLt; omega⟩

/-- A row's head, normalised, times a gain and a constant. -/
def head (z : Fin 1024 → EReal) (g : Fin 128 → EReal) (s : EReal) (j : Fin 1024) : EReal :=
  z j * Ideal.rsqrt (Ideal.div (∑ l : Fin 128, z (hc j l) * z (hc j l)) (Ideal.ofBits .f32 0x43000000#32) + Ideal.ofBits .f32 0x358637BD#32)
    * g ⟨j.val % 128, by omega⟩ * s

/-- A query head's point leaves each head normalised and scaled. -/
theorem caseC (c : Dev nD) (t : Fin cfg0.N) (h0 : ¬t.val % 12 = 1) (h1 : 6 ≤ t.val % 12 ∧ t.val % 12 ≤ 7) (h2 : ¬(8 ≤ t.val % 12 ∧ t.val % 12 ≤ 9))
    (i j : Fin 1024) : outsAt0 m c t.val t.isLt (ix2 i j)
      = head (fun j => prod m c t (ix2 i j)) (fun l => (show Vec Ideal S1x128 .f32 from iblk m c 2 t) (ix2 0 l)) (Ideal.ofBits .f32 0x3DB504F3#32) j := by
  rw [outsAt0_C m c t h0 h1 h2]
  frame_open
  simp (disch := decide) only [↓ View.readCov_skip, ↓ View.readCov_cons_toLoadRect, ↓ View.readCov_fill]
  frame_out
  clear h0 h1 h2
  refine (Cert.Pieces.canon_append_covered [_, _, _, _, _, _, _, _] [_] (ix2 i j) (View.cover_of_tiled_head _ _ _ (by rfl) _)).trans ?_
  rw [← prod]
  generalize prod m c t = Z
  canon_tiles x h
  all_goals
    idx_vars x
    obtain rfl : i = x0 := Fin.ext h0
    pointwise [k0_pay3, k0_pay4, k0_pay5, k0_pay6, k0_pay7, k0_pay8, k0_pay9, k0_pay10, k0_pay11, k0_pay12, k0_pay13, k0_pay14, head, hc]
    have e2 : j.val % 128 = x1.val := by omega
    have e1 : j.val / 128 * 128 = j.val - x1.val := by omega
    first
      | have e3 := e1.trans ((congrArg (· - x1.val) h1).trans (Nat.add_sub_cancel _ _))
        simp only [e2, e3, ← h1, Fin.eta]
      | have e3 : j.val / 128 * 128 = 0 := by omega
        simp only [e2, e3, zero_add, Fin.eta]
        simp only [← h1, Fin.eta]

/-- A key head's point leaves each head normalised. -/
theorem caseD (c : Dev nD) (t : Fin cfg0.N) (h0 : ¬t.val % 12 = 1) (h1 : ¬(6 ≤ t.val % 12 ∧ t.val % 12 ≤ 7)) (h2 : 8 ≤ t.val % 12 ∧ t.val % 12 ≤ 9)
    (i j : Fin 1024) : outsAt0 m c t.val t.isLt (ix2 i j)
      = head (fun j => prod m c t (ix2 i j)) (fun l => (show Vec Ideal S1x128 .f32 from iblk m c 3 t) (ix2 0 l)) 1 j := by
  rw [outsAt0_D m c t h0 h1 h2]
  frame_open
  simp (disch := decide) only [↓ View.readCov_skip, ↓ View.readCov_cons_toLoadRect, ↓ View.readCov_fill]
  frame_out
  clear h0 h1 h2
  refine (Cert.Pieces.canon_append_covered [_, _, _, _, _, _, _, _] [_] (ix2 i j) (View.cover_of_tiled_head _ _ _ (by rfl) _)).trans ?_
  rw [← prod]
  generalize prod m c t = Z
  canon_tiles x h
  all_goals
    idx_vars x
    obtain rfl : i = x0 := Fin.ext h0
    pointwise [k0_pay15, k0_pay16, k0_pay17, k0_pay18, k0_pay19, k0_pay20, k0_pay21, k0_pay22, k0_pay23, k0_pay24, k0_pay25, k0_pay26, head, hc]
    have e2 : j.val % 128 = x1.val := by omega
    have e1 : j.val / 128 * 128 = j.val - x1.val := by omega
    first
      | have e3 := e1.trans ((congrArg (· - x1.val) h1).trans (Nat.add_sub_cancel _ _))
        simp only [e2, e3, ← h1, Fin.eta]
      | have e3 : j.val / 128 * 128 = 0 := by omega
        simp only [e2, e3, zero_add, Fin.eta]
        simp only [← h1, Fin.eta]

end Cert.InProjIdeal.Value

end
-- ==== Proof.InProj.Spec.lean ====
/- What the input projection computes, at a row and a column, over its arguments. -/
module

public import proofs.«01_k».proof.Proof.InProj.Cases
public import proofs.«01_k».proof.Proof.Gen.InProjRefIdeal.Run

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal

/-- The projection of row `n` on column `e`. -/
def P (X : FVec Ideal S24576x4096 .f32) (W : FVec Ideal S4096x12288 .f32) (n : Fin 24576) (e : Fin 12288) : EReal :=
  ∑ d : Fin 4096, X (ix2 n d) * W (ix2 d e)

/-- The `l`-th column of the head that column `e` belongs to. -/
def hcol (e : Fin 12288) (l : Fin 128) : Fin 12288 := ⟨e.val / 128 * 128 + l.val, by have := e.isLt; have := l.isLt; omega⟩

/-- A head of the projection, normalised, times a gain and a constant. -/
def hnorm (X : FVec Ideal S24576x4096 .f32) (W : FVec Ideal S4096x12288 .f32) (g : FVec Ideal S128 .f32) (s : EReal)
    (n : Fin 24576) (e : Fin 12288) : EReal :=
  P X W n e * Ideal.rsqrt (Ideal.div (∑ l : Fin 128, P X W n (hcol e l) * P X W n (hcol e l)) (Ideal.ofBits .f32 0x43000000#32)
    + Ideal.ofBits .f32 0x358637BD#32) * g (ix1 ⟨e.val % 128, by omega⟩) * s

/-- The result at row `n` and column `e`. -/
def outv (X : FVec Ideal S24576x4096 .f32) (W : FVec Ideal S4096x12288 .f32) (gq gk : FVec Ideal S128 .f32)
    (n : Fin 24576) (e : Fin 12288) : EReal :=
  if 1024 ≤ e.val ∧ e.val < 2048 then P X W n e * Ideal.ofBits .f32 0x3DB504F3#32
  else if 6144 ≤ e.val ∧ e.val < 8192 then hnorm X W gq (Ideal.ofBits .f32 0x3DB504F3#32) n e
  else if 8192 ≤ e.val ∧ e.val < 10240 then hnorm X W gk 1 n e
  else P X W n e

end Cert.InProjIdeal.Value

end
-- ==== Proof.InProj.Blocks.lean ====
/- The blocks of the input projection's windows, read in the arguments. -/
module

public import proofs.«01_k».proof.Proof.InProj.Spec

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- Where each window's block sits at each point. -/
theorem idx : ∀ t : Fin cfg0.N, win0_0.index t = ![t.val / 12, 0] ∧ win0_1.index t = ![0, t.val % 12]
    ∧ win0_2.index t = ![0, 0] ∧ win0_3.index t = ![0, 0] ∧ win0_4.index t = ![t.val / 12, t.val % 12] :=
  (by decide +kernel : ∀ t : Fin grid0.N, _)

/-- The places a block's rows and columns have in the arguments. -/
def row (t : Fin cfg0.N) (i : Fin 1024) : Fin 24576 :=
  ⟨t.val / 12 * 1024 + i.val, by have := i.isLt; have := lt_of_lt_of_eq t.isLt N_0; omega⟩
def col (t : Fin cfg0.N) (j : Fin 1024) : Fin 12288 := ⟨t.val % 12 * 1024 + j.val, by have := j.isLt; omega⟩

theorem blk0 (c : Dev nD) (t : Fin cfg0.N) (i : Fin 1024) (d : Fin 4096) :
    (show Vec Ideal S1024x4096 .bf16 from iblk m c 0 t) (ix2 i d) = m ((c : Thread nD τ).loc main_arg0) (ix2 (row t i) d) := by
  blk_simp [iblk]
  entry_read
  pointwise
  blk_ext [idx t, row]
theorem blk1 (c : Dev nD) (t : Fin cfg0.N) (d : Fin 4096) (j : Fin 1024) :
    (show Vec Ideal S4096x1024 .bf16 from iblk m c 1 t) (ix2 d j) = m ((c : Thread nD τ).loc main_arg1) (ix2 d (col t j)) := by
  blk_simp [iblk]
  entry_read
  pointwise
  blk_ext [idx t, col]
theorem blk2 (c : Dev nD) (t : Fin cfg0.N) (l : Fin 128) :
    (show Vec Ideal S1x128 .f32 from iblk m c 2 t) (ix2 0 l) = m ((c : Thread nD τ).loc main_arg2) (ix1 l) := by
  blk_simp [iblk]
  entry_read
  pointwise
  blk_ext [idx t]
theorem blk3 (c : Dev nD) (t : Fin cfg0.N) (l : Fin 128) :
    (show Vec Ideal S1x128 .f32 from iblk m c 3 t) (ix2 0 l) = m ((c : Thread nD τ).loc main_arg3) (ix1 l) := by
  blk_simp [iblk]
  entry_read
  pointwise
  blk_ext [idx t]

theorem prod_pure (x : Vec Ideal S1024x4096 .bf16) (w : Vec Ideal S4096x1024 .bf16) (X : FVec Ideal S24576x4096 .f32)
    (W : FVec Ideal S4096x12288 .f32) (n : Fin 24576) (e : Fin 12288) (i j : Fin 1024)
    (h0 : ∀ d, x (ix2 i d) = X (ix2 n d)) (h1 : ∀ d, w (ix2 d j) = W (ix2 d e)) : k0_pay1 x w (ix2 i j) = P X W n e := by
  pointwise [k0_pay1, P]
  simp only [h0, h1]

/-- The block's product is the projection at the place of the entry. -/
theorem prod_eq (c : Dev nD) (t : Fin cfg0.N) (i j : Fin 1024) :
    prod m c t (ix2 i j) = P (m ((c : Thread nD τ).loc main_arg0)) (m ((c : Thread nD τ).loc main_arg1)) (row t i) (col t j) :=
  prod_pure _ _ _ _ _ _ i j (fun d => blk0 m c t i d) (fun d => blk1 m c t d j)

theorem pay2_apply (z : Vec Ideal S1024x1024 .f32) (i j : Fin 1024) :
    k0_pay2 z (ix2 i j) = z (ix2 i j) * Ideal.ofBits .f32 0x3DB504F3#32 := by
  pointwise [k0_pay2]

end Cert.InProjIdeal.Value

end
-- ==== Proof.InProj.Final.lean ====
/- The input projection's result array after the run. -/
module

public import proofs.«01_k».proof.Proof.InProj.Blocks

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- A normalised head of a block is the normalised head of the projection. -/
theorem head_eq (c : Dev nD) (t : Fin cfg0.N) (i j : Fin 1024) (g : Fin 128 → EReal) (G : FVec Ideal S128 .f32) (s : EReal)
    (hg : ∀ l, g l = G (ix1 l)) :
    head (fun j => prod m c t (ix2 i j)) g s j
      = hnorm (m ((c : Thread nD τ).loc main_arg0)) (m ((c : Thread nD τ).loc main_arg1)) G s (row t i) (col t j) := by
  have e1 : ∀ l, hcol (col t j) l = col t (hc j l) := fun l => Fin.ext (by simp only [hcol, col, hc]; omega)
  have e2 : (⟨(col t j).val % 128, by omega⟩ : Fin 128) = ⟨j.val % 128, by omega⟩ := Fin.ext (by simp only [col]; omega)
  simp only [head, hnorm, prod_eq, hg, e1, e2]

/-- What a point leaves in its output block. -/
theorem block_eq (c : Dev nD) (t : Fin cfg0.N) (i j : Fin 1024) :
    outsAt0 m c t.val t.isLt (ix2 i j)
      = outv (m ((c : Thread nD τ).loc main_arg0)) (m ((c : Thread nD τ).loc main_arg1))
          (m ((c : Thread nD τ).loc main_arg2)) (m ((c : Thread nD τ).loc main_arg3)) (row t i) (col t j) := by
  have hj := j.isLt
  by_cases h0 : t.val % 12 = 1
  · rw [caseB m c t h0 (by omega) (by omega), pay2_apply, prod_eq, outv, if_pos (by simp only [col]; omega)]
  by_cases h1 : 6 ≤ t.val % 12 ∧ t.val % 12 ≤ 7
  · rw [caseC m c t h0 h1 (by omega), head_eq m c t i j _ _ _ (blk2 m c t), outv, if_neg (by simp only [col]; omega),
      if_pos (by simp only [col]; omega)]
  by_cases h2 : 8 ≤ t.val % 12 ∧ t.val % 12 ≤ 9
  · rw [caseD m c t h0 h1 h2, head_eq m c t i j _ _ _ (blk3 m c t), outv, if_neg (by simp only [col]; omega),
      if_neg (by simp only [col]; omega), if_pos (by simp only [col]; omega)]
  · rw [caseA m c t h0 h1 h2, prod_eq, outv, if_neg (by simp only [col]; omega), if_neg (by simp only [col]; omega),
      if_neg (by simp only [col]; omega)]

/-- The result array after the run. -/
theorem final (c : Dev nD) (G : FVec Ideal S24576x12288 .f32)
    (hG : ∀ n e, G (ix2 n e) = outv (m ((c : Thread nD τ).loc main_arg0)) (m ((c : Thread nD τ).loc main_arg1))
      (m ((c : Thread nD τ).loc main_arg2)) (m ((c : Thread nD τ).loc main_arg3)) n e) :
    (dats m 0 c).arrAt 4 (cfgs 0).N = G := by
  refine (dats m 0 c).arrAt_eq_of_covers 4 _ (by decide +kernel) fun t hf y => ?_
  have hN := lt_of_lt_of_eq t.isLt N_0
  blk_simp
  rw [after0_4]
  idx_vars y
  have e : ((cfg0.win 4).blk t).view.emb (ix2 y0 y1) = ix2 (row t y0) (col t y1) := by
    blk_ext [idx t, row, col]
  exact (block_eq m c t y0 y1).trans ((congrArg G e).trans (hG _ _)).symm

end Cert.InProjIdeal.Value

end
-- ==== Proof.InProj.Ref.lean ====
/- The input projection's reference, read at a row and a column. -/
module

public import proofs.«01_k».proof.Proof.InProj.Spec

@[expose] public section

set_option maxRecDepth 16384

noncomputable section

open Idealize.ShloMosaic Idealize.ShloMosaic.TcCoe Idealize.SL.Sem
open Idealize.ShloMosaic.Pipeline (Dat)

namespace Cert.InProjRefIdeal.Value

open Cert.InProjRefIdeal Cert.InProjIdeal.Value

variable (m : (ℓ : Loc nD τ sig) → Buf (Elt Ideal) ℓ)

/-- The reference's product at row `n` and column `e`. -/
theorem dot_apply (X : FVec Ideal S24576x4096 .f32) (W : FVec Ideal S4096x12288 .f32) (n : Fin 24576) (e : Fin 12288) :
    (Host.dotGeneral dot_S24576x4096_S4096x12288_S24576x12288_1_0_0_1_n_n none X W : FVec Ideal S24576x12288 .f32) (ix2 n e)
      = P X W n e := by
  pointwise [P]

/-- The seven parts' columns, one part after another. -/
def pick (A B : FVec Ideal S24576x1024 .f32) (C D E F G : FVec Ideal S24576x2048 .f32) (n : Fin 24576) (e : Fin 12288) : EReal :=
  if h0 : e.val < 1024 then A (ix2 n ⟨e.val, h0⟩)
  else if h1 : e.val < 2048 then B (ix2 n ⟨e.val - 1024, by omega⟩)
  else if h2 : e.val < 4096 then C (ix2 n ⟨e.val - 2048, by omega⟩)
  else if h3 : e.val < 6144 then D (ix2 n ⟨e.val - 4096, by omega⟩)
  else if h4 : e.val < 8192 then E (ix2 n ⟨e.val - 6144, by omega⟩)
  else if h5 : e.val < 10240 then F (ix2 n ⟨e.val - 8192, by omega⟩)
  else G (ix2 n ⟨e.val - 10240, by have := e.isLt; omega⟩)

/-- The joined parts at a row and a column. -/
theorem cat_apply (A B : FVec Ideal S24576x1024 .f32) (C D E F G : FVec Ideal S24576x2048 .f32) (n : Fin 24576) (e : Fin 12288) :
    (concatenate S24576x12288 1 [⟨S24576x1024, A⟩, ⟨S24576x1024, B⟩, ⟨S24576x2048, C⟩, ⟨S24576x2048, D⟩, ⟨S24576x2048, E⟩,
        ⟨S24576x2048, F⟩, ⟨S24576x2048, G⟩]
      Gen.concatenates_S24576x1024_S24576x1024_S24576x2048_S24576x2048_S24576x2048_S24576x2048_S24576x2048_S24576x12288_d1
      : FVec Ideal S24576x12288 .f32) (ix2 n e) = pick A B C D E F G n e := by
  pointwise
  unfold pick
  by_cases h0 : e.val < 1024
  · simp (disch := omega) only [dif_pos, dif_neg]
  by_cases h1 : e.val < 2048
  · simp (disch := omega) only [dif_pos, dif_neg]
  by_cases h2 : e.val < 4096
  · simp (disch := omega) only [dif_pos, dif_neg]
    exact congrArg (fun z => C (ix2 n z)) (Fin.ext (by simp only []; omega))
  by_cases h3 : e.val < 6144
  · simp (disch := omega) only [dif_pos, dif_neg]
    exact congrArg (fun z => D (ix2 n z)) (Fin.ext (by simp only []; omega))
  by_cases h4 : e.val < 8192
  · simp (disch := omega) only [dif_pos, dif_neg]
    exact congrArg (fun z => E (ix2 n z)) (Fin.ext (by simp only []; omega))
  by_cases h5 : e.val < 10240
  · simp (disch := omega) only [dif_pos, dif_neg]
    exact congrArg (fun z => F (ix2 n z)) (Fin.ext (by simp only []; omega))
  · simp (disch := omega) only [dif_neg]
    exact congrArg (fun z => G (ix2 n z)) (Fin.ext (by simp only []; omega))

/-- The reference's result at row `n` and column `e`. -/
theorem ref_apply (c : Dev nD) (n : Fin 24576) (e : Fin 12288) :
    (res_main_v42 m c : FVec Ideal S24576x12288 .f32) (ix2 n e)
      = outv (m ((c.tc : Thread nD τ).loc main_arg0)) (m ((c.tc : Thread nD τ).loc main_arg1))
          (m ((c.tc : Thread nD τ).loc main_arg2)) (m ((c.tc : Thread nD τ).loc main_arg3)) n e := by
  unfold res_main_v42
  refine (cat_apply _ _ _ _ _ _ _ n e).trans ?_
  generalize (m ((c.tc : Thread nD τ).loc main_arg0) : FVec Ideal S24576x4096 .f32) = X
  generalize (m ((c.tc : Thread nD τ).loc main_arg1) : FVec Ideal S4096x12288 .f32) = W
  generalize (m ((c.tc : Thread nD τ).loc main_arg2) : FVec Ideal S128 .f32) = gq
  generalize (m ((c.tc : Thread nD τ).loc main_arg3) : FVec Ideal S128 .f32) = gk
  have hP := dot_apply X W
  unfold outv hnorm
  generalize (Host.dotGeneral dot_S24576x4096_S4096x12288_S24576x12288_1_0_0_1_n_n none X W : FVec Ideal S24576x12288 .f32) = Z at hP ⊢
  simp only [← hP]
  unfold pick
  by_cases h0 : e.val < 1024
  · simp (disch := omega) only [dif_pos, dif_neg, if_neg]
    pointwise
  have q : ∀ (a : ℕ) (h : a + (e.val - a) < 12288), a ≤ e.val → (⟨a + (e.val - a), h⟩ : Fin 12288) = e :=
    fun a h ha => Fin.ext (Nat.add_sub_cancel' ha)
  by_cases h1 : e.val < 2048
  · simp (disch := omega) only [dif_pos, dif_neg, if_pos]
    pointwise
    simp only [q 1024 _ (by omega)]
  by_cases h2 : e.val < 4096
  · simp (disch := omega) only [dif_pos, dif_neg, if_neg]
    pointwise
    simp only [q 2048 _ (by omega)]
  by_cases h3 : e.val < 6144
  · simp (disch := omega) only [dif_pos, dif_neg, if_neg]
    pointwise
    simp only [q 4096 _ (by omega)]
  by_cases h4 : e.val < 8192
  · simp (disch := omega) only [dif_pos, dif_neg, if_pos, if_neg]
    obtain ⟨x, hx⟩ : ∃ x : Fin 2048, (⟨e.val - 6144, by omega⟩ : Fin 2048) = x := ⟨_, rfl⟩
    have hv : e.val - 6144 = x.val := by rw [← hx]
    rw [hx]
    have q0 : ∀ h, (⟨6144 + x.val, h⟩ : Fin 12288) = e := fun h => Fin.ext (by simp only []; omega)
    have q1 : ∀ (l : Fin 128) (h : 6144 + (x.val / 128 * 128 + l.val) < 12288),
        (⟨6144 + (x.val / 128 * 128 + l.val), h⟩ : Fin 12288) = hcol e l := fun l h => Fin.ext (by simp only [hcol]; omega)
    have q2 : ∀ h, (⟨x.val % 128, h⟩ : Fin 128) = ⟨e.val % 128, by omega⟩ := fun h => Fin.ext (by simp only []; omega)
    clear hx
    pointwise
    simp only [q0, q1, q2]
  by_cases h5 : e.val < 10240
  · simp (disch := omega) only [dif_pos, dif_neg, if_pos, if_neg]
    obtain ⟨x, hx⟩ : ∃ x : Fin 2048, (⟨e.val - 8192, by omega⟩ : Fin 2048) = x := ⟨_, rfl⟩
    have hv : e.val - 8192 = x.val := by rw [← hx]
    rw [hx]
    have q0 : ∀ h, (⟨8192 + x.val, h⟩ : Fin 12288) = e := fun h => Fin.ext (by simp only []; omega)
    have q1 : ∀ (l : Fin 128) (h : 8192 + (x.val / 128 * 128 + l.val) < 12288),
        (⟨8192 + (x.val / 128 * 128 + l.val), h⟩ : Fin 12288) = hcol e l := fun l h => Fin.ext (by simp only [hcol]; omega)
    have q2 : ∀ h, (⟨x.val % 128, h⟩ : Fin 128) = ⟨e.val % 128, by omega⟩ := fun h => Fin.ext (by simp only []; omega)
    clear hx
    pointwise
    simp only [q0, q1, q2, mul_one]
  · simp (disch := omega) only [dif_neg, if_neg]
    pointwise
    simp only [q 10240 _ (by omega)]

end Cert.InProjRefIdeal.Value

end
-- ==== Proof.InProj.Claim.lean ====
/- The input projection's kernel and the reference leave the same result over the extended reals. -/
module

public import proofs.«01_k».proof.Defs
public import proofs.«01_k».proof.Proof.InProj.Final
public import proofs.«01_k».proof.Proof.InProj.Ref

@[expose] public section

noncomputable section

open Idealize.ShloMosaic Idealize.ShloMosaic.TcCoe Idealize.SL.Sem

namespace Cert.Proof.InProjClaim

/-- The kernel's result array and the reference's are one function of arguments that agree. -/
theorem algebraic : Cert.algebraic_InProjIdeal_InProjRefIdeal := by
  intro m ρ m' ρ' _ hag
  refine ⟨fun c => (Cert.InProjIdeal.Gen.dats m 0 c).arrAt 4 (Cert.InProjIdeal.cfgs 0).N, Cert.InProjIdeal.Value.run_blocks m ρ,
    (θ_run Cert.InProjRefIdeal.defs _ _).mono (fun _ h c => ⟨(h c).1.trans ?_, (h c).2⟩) (Cert.InProjRefIdeal.Value.run m' ρ')⟩
  refine (Cert.InProjIdeal.Value.final m c _ fun n e => ?_).symm
  refine (Cert.InProjRefIdeal.Value.ref_apply m' c n e).trans ?_
  rw [(hag c).1, (hag c).2.1, (hag c).2.2.1, (hag c).2.2.2]

end Cert.Proof.InProjClaim

end
-- ==== Proof.Norm.Cases.lean ====
/- What one grid point of the norm's kernel leaves in its output block, and the result array after the run. -/
module

public import proofs.«01_k».proof.Proof.Gen.NormIdeal.Value
public import proofs.«01_k».proof.Proof.Pieces
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- A row, normalised, times the gain. -/
def nrm (z : Fin 4096 → EReal) (g : Fin 4096 → EReal) (e : Fin 4096) : EReal :=
  z e * Ideal.rsqrt (Ideal.div (∑ l : Fin 4096, z l * z l) (Ideal.ofBits .f32 0x45800000#32) + Ideal.ofBits .f32 0x358637BD#32) * g e

theorem pay1_apply (x : Vec Ideal S512x4096 .f32) (g : Vec Ideal S1x4096 .f32) (i : Fin 512) (e : Fin 4096) :
    k0_pay1 x g (ix2 i e) = nrm (fun l => x (ix2 i l)) (fun l => g (ix2 0 l)) e := by
  pointwise [k0_pay1, nrm]

theorem pay2_apply (x : Vec Ideal S512x4096 .f32) (g : Vec Ideal S1x4096 .f32) (i : Fin 512) (e : Fin 4096) :
    k0_pay2 x g (ix2 i e) = nrm (fun l => x (ix2 i l)) (fun l => g (ix2 0 l)) e := by
  pointwise [k0_pay2, nrm]

/-- A point of the prompt's rows leaves them normalised. -/
theorem caseA (c : Dev nD) (t : Fin cfg0.N) (h0 : t.val < 32) (h1 : ¬32 ≤ t.val) :
    outsAt0 m c t.val t.isLt = k0_pay1 (F := Ideal) (iblk m c 0 t) (iblk m c 2 t) := by
  rw [outsAt0_A m c t h0 h1]
  frame_out

/-- A point of the samples' rows leaves them normalised. -/
theorem caseB (c : Dev nD) (t : Fin cfg0.N) (h0 : ¬t.val < 32) (h1 : 32 ≤ t.val) :
    outsAt0 m c t.val t.isLt = k0_pay2 (F := Ideal) (iblk m c 1 t) (iblk m c 2 t) := by
  rw [outsAt0_B m c t h0 h1]
  frame_out

/-- Where each window's block sits at each point. -/
theorem idx : ∀ t : Fin cfg0.N, win0_0.index t = ![min t.val 31, 0] ∧ win0_1.index t = ![t.val - 32, 0]
    ∧ win0_2.index t = ![0, 0] ∧ win0_3.index t = ![t.val, 0] :=
  (by decide +kernel : ∀ t : Fin grid0.N, _)

/-- The place a block's row has in the result. -/
def row (t : Fin cfg0.N) (i : Fin 512) : Fin 24576 :=
  ⟨t.val * 512 + i.val, by have := i.isLt; have := lt_of_lt_of_eq t.isLt N_0; omega⟩

/-- The result's rows: the prompt's, then each sample's. -/
def rows (X : FVec Ideal S1x16384x4096 .f32) (Y : FVec Ideal S2x4096x4096 .f32) (n : Fin 24576) (e : Fin 4096) : EReal :=
  if h : n.val < 16384 then X (ix3 0 ⟨n.val, h⟩ e)
  else Y (ix3 ⟨(n.val - 16384) / 4096, by have := n.isLt; omega⟩ ⟨(n.val - 16384) % 4096, by omega⟩ e)

theorem blk0 (c : Dev nD) (t : Fin cfg0.N) (h0 : t.val < 32) (i : Fin 512) (e : Fin 4096) :
    (show Vec Ideal S512x4096 .f32 from iblk m c 0 t) (ix2 i e)
      = rows (m ((c : Thread nD τ).loc main_arg0)) (m ((c : Thread nD τ).loc main_arg1)) (row t i) e := by
  have hi := i.isLt
  have hr : (row t i).val < 16384 := by simp only [row]; omega
  rw [rows, dif_pos hr]
  blk_simp [iblk]
  entry_read
  pointwise
  blk_ext [idx t, row]

theorem flat_apply (Y : FVec Ideal S2x4096x4096 .f32) (p : Fin 8192) (e : Fin 4096) :
    (shapeCast S8192x4096 Y shapeCasts_S2x4096x4096_S8192x4096 : FVec Ideal S8192x4096 .f32) (ix2 p e)
      = Y (ix3 ⟨p.val / 4096, by have := p.isLt; omega⟩ ⟨p.val % 4096, by omega⟩ e) := by
  pointwise

theorem blk1_flat (c : Dev nD) (t : Fin cfg0.N) (i : Fin 512) (e : Fin 4096) (p : Fin 8192) (hp : p.val = (t.val - 32) * 512 + i.val) :
    (show Vec Ideal S512x4096 .f32 from iblk m c 1 t) (ix2 i e)
      = (shapeCast S8192x4096 (m ((c : Thread nD τ).loc main_arg1) : FVec Ideal S2x4096x4096 .f32) shapeCasts_S2x4096x4096_S8192x4096
          : FVec Ideal S8192x4096 .f32) (ix2 p e) := by
  blk_simp [iblk]
  entry_read
  blk_ext [idx t, hp]

theorem blk1 (c : Dev nD) (t : Fin cfg0.N) (h0 : ¬t.val < 32) (i : Fin 512) (e : Fin 4096) :
    (show Vec Ideal S512x4096 .f32 from iblk m c 1 t) (ix2 i e)
      = rows (m ((c : Thread nD τ).loc main_arg0)) (m ((c : Thread nD τ).loc main_arg1)) (row t i) e := by
  have hi := i.isLt
  have hN := lt_of_lt_of_eq t.isLt N_0
  have hr : (row t i).val = t.val * 512 + i.val := rfl
  obtain ⟨p, hp⟩ : ∃ p : Fin 8192, p.val = (t.val - 32) * 512 + i.val := ⟨⟨(t.val - 32) * 512 + i.val, by omega⟩, rfl⟩
  rw [blk1_flat m c t i e p hp, flat_apply, rows, dif_neg (by omega)]
  have e1 : (row t i).val - 16384 = p.val := by omega
  simp only [e1]

theorem blk2 (c : Dev nD) (t : Fin cfg0.N) (e : Fin 4096) :
    (show Vec Ideal S1x4096 .f32 from iblk m c 2 t) (ix2 0 e) = m ((c : Thread nD τ).loc main_arg2) (ix1 e) := by
  blk_simp [iblk]
  entry_read
  pointwise
  blk_ext [idx t]

/-- What a point leaves in its output block. -/
theorem block_eq (c : Dev nD) (t : Fin cfg0.N) (i : Fin 512) (e : Fin 4096) :
    outsAt0 m c t.val t.isLt (ix2 i e)
      = nrm (rows (m ((c : Thread nD τ).loc main_arg0)) (m ((c : Thread nD τ).loc main_arg1)) (row t i))
          (fun l => m ((c : Thread nD τ).loc main_arg2) (ix1 l)) e := by
  by_cases h0 : t.val < 32
  · rw [caseA m c t h0 (by omega), pay1_apply]
    exact congrArg₂ (fun a b => nrm a b e) (funext fun l => blk0 m c t h0 i l) (funext fun l => blk2 m c t l)
  · rw [caseB m c t h0 (by omega), pay2_apply]
    exact congrArg₂ (fun a b => nrm a b e) (funext fun l => blk1 m c t h0 i l) (funext fun l => blk2 m c t l)

/-- The result array after the run. -/
theorem final (c : Dev nD) (G : FVec Ideal S24576x4096 .bf16)
    (hG : ∀ n e, G (ix2 n e) = nrm (rows (m ((c : Thread nD τ).loc main_arg0)) (m ((c : Thread nD τ).loc main_arg1)) n)
          (fun l => m ((c : Thread nD τ).loc main_arg2) (ix1 l)) e) :
    (dats m 0 c).arrAt 3 (cfgs 0).N = G := by
  refine (dats m 0 c).arrAt_eq_of_covers 3 _ (by decide +kernel) fun t hf y => ?_
  have hN := lt_of_lt_of_eq t.isLt N_0
  blk_simp
  rw [after0_3]
  idx_vars y
  have e : ((cfg0.win 3).blk t).view.emb (ix2 y0 y1) = ix2 (row t y0) y1 := by
    blk_ext [idx t, row]
  exact (block_eq m c t y0 y1).trans ((congrArg G e).trans (hG _ _)).symm

end Cert.NormIdeal.Value

end
-- ==== Proof.Norm.Ref.lean ====
/- The norm's reference, read at a row and a column. -/
module

public import proofs.«01_k».proof.Proof.Norm.Cases
public import proofs.«01_k».proof.Proof.Gen.NormRefIdeal.Run

@[expose] public section

set_option maxRecDepth 16384

noncomputable section

open Idealize.ShloMosaic Idealize.ShloMosaic.TcCoe Idealize.SL.Sem
open Idealize.ShloMosaic.Pipeline (Dat)

namespace Cert.NormRefIdeal.Value

open Cert.NormRefIdeal Cert.NormIdeal.Value

/-- The prompt's rows, normalised. -/
def partA (X : FVec Ideal S1x16384x4096 .f32) (g : FVec Ideal S4096 .f32) : FVec Ideal S16384x4096 .f32 :=
  shapeCast S16384x4096 (mulf (mulf X (broadcastInDim S1x16384x4096 ![0, 1, 2] Gen.bcast_S1x16384x1_S1x16384x4096_0_1_2 (Host.rsqrt (addf (Host.divf (broadcastInDim S1x16384x1 ![0, 1] Gen.bcast_S1x16384_S1x16384x1_0_1 (Host.reduceAdd (mulf X X) (constant S_ .f32 0x00000000#32) Gen.reducesTo_S1x16384x4096_S1x16384_d2 Gen.h_S_)) (broadcastInDim S1x16384x1 ![] Gen.bcast_S_S1x16384x1 (constant S_ .f32 0x45800000#32))) (broadcastInDim S1x16384x1 ![] Gen.bcast_S_S1x16384x1 (constant S_ .f32 0x358637BD#32)))))) (broadcastInDim S1x16384x4096 ![0, 1, 2] Gen.bcast_S1x1x4096_S1x16384x4096_0_1_2 (broadcastInDim S1x1x4096 ![2] Gen.bcast_S4096_S1x1x4096_2 g))) Gen.shapeCasts_S1x16384x4096_S16384x4096

/-- The samples' rows, normalised. -/
def partB (Y : FVec Ideal S2x4096x4096 .f32) (g : FVec Ideal S4096 .f32) : FVec Ideal S8192x4096 .f32 :=
  shapeCast S8192x4096 (mulf (mulf Y (broadcastInDim S2x4096x4096 ![0, 1, 2] Gen.bcast_S2x4096x1_S2x4096x4096_0_1_2 (Host.rsqrt (addf (Host.divf (broadcastInDim S2x4096x1 ![0, 1] Gen.bcast_S2x4096_S2x4096x1_0_1 (Host.reduceAdd (mulf Y Y) (constant S_ .f32 0x00000000#32) Gen.reducesTo_S2x4096x4096_S2x4096_d2 Gen.h_S_)) (broadcastInDim S2x4096x1 ![] Gen.bcast_S_S2x4096x1 (constant S_ .f32 0x45800000#32))) (broadcastInDim S2x4096x1 ![] Gen.bcast_S_S2x4096x1 (constant S_ .f32 0x358637BD#32)))))) (broadcastInDim S2x4096x4096 ![0, 1, 2] Gen.bcast_S1x1x4096_S2x4096x4096_0_1_2 (broadcastInDim S1x1x4096 ![2] Gen.bcast_S4096_S1x1x4096_2 g))) Gen.shapeCasts_S2x4096x4096_S8192x4096

theorem partA_apply (X : FVec Ideal S1x16384x4096 .f32) (g : FVec Ideal S4096 .f32) (n : Fin 16384) (e : Fin 4096) :
    partA X g (ix2 n e) = nrm (fun l => X (ix3 0 n l)) (fun l => g (ix1 l)) e := by
  pointwise [partA, nrm]

theorem partB_apply (Y : FVec Ideal S2x4096x4096 .f32) (g : FVec Ideal S4096 .f32) (n : Fin 8192) (e : Fin 4096) :
    partB Y g (ix2 n e) = nrm (fun l => Y (ix3 ⟨n.val / 4096, by have := n.isLt; omega⟩ ⟨n.val % 4096, by omega⟩ l)) (fun l => g (ix1 l)) e := by
  pointwise [partB, nrm]

/-- The reference's result at row `n` and column `e`. -/
theorem ref_apply (X : FVec Ideal S1x16384x4096 .f32) (Y : FVec Ideal S2x4096x4096 .f32) (g : FVec Ideal S4096 .f32)
    (n : Fin 24576) (e : Fin 4096) :
    (truncf .bf16 (concatenate S24576x4096 0 [⟨S16384x4096, partA X g⟩, ⟨S8192x4096, partB Y g⟩]
        Gen.concatenates_S16384x4096_S8192x4096_S24576x4096_d0 : FVec Ideal S24576x4096 .f32) Gen.bitsLt_bf16_f32
      : FVec Ideal S24576x4096 .bf16) (ix2 n e)
      = nrm (rows X Y n) (fun l => g (ix1 l)) e := by
  pointwise
  by_cases h0 : n.val < 16384
  · simp only [dif_pos h0, partA_apply]
    exact congrArg (fun a => nrm a _ e) (funext fun l => by rw [rows, dif_pos h0])
  · simp only [dif_neg h0, partB_apply]
    exact congrArg (fun a => nrm a _ e) (funext fun l => by rw [rows, dif_neg h0])

end Cert.NormRefIdeal.Value

end
-- ==== Proof.Norm.Claim.lean ====
/- The norm's kernel and the reference leave the same result over the extended reals. -/
module

public import proofs.«01_k».proof.Defs
public import proofs.«01_k».proof.Proof.Norm.Cases
public import proofs.«01_k».proof.Proof.Norm.Ref

@[expose] public section

noncomputable section

open Idealize.ShloMosaic Idealize.ShloMosaic.TcCoe Idealize.SL.Sem

namespace Cert.Proof.NormClaim

/-- The kernel's result array and the reference's are one function of arguments that agree. -/
theorem algebraic : Cert.algebraic_NormIdeal_NormRefIdeal := by
  intro m ρ m' ρ' _ hag
  refine ⟨fun c => (Cert.NormIdeal.Gen.dats m 0 c).arrAt 3 (Cert.NormIdeal.cfgs 0).N, Cert.NormIdeal.Value.run_blocks m ρ,
    (θ_run Cert.NormRefIdeal.defs _ _).mono (fun _ h c => ⟨(h c).1.trans ?_, (h c).2⟩) (Cert.NormRefIdeal.Value.run m' ρ')⟩
  refine (Cert.NormIdeal.Value.final m c _ fun n e => ?_).symm
  refine (Cert.NormRefIdeal.Value.ref_apply _ _ _ n e).trans ?_
  rw [(hag c).1, (hag c).2.1, (hag c).2.2]

end Cert.Proof.NormClaim

end
-- ==== Proof.OutProj.Body.lean ====
/- The body of the output projection's kernel at one grid point: what its stores leave in the output blocks and in the
   carried block of concatenated rows. -/
module

public import proofs.«01_k».proof.Proof.Gen.OutProjIdeal
public import proofs.«01_k».proof.Proof.Gen.OutProjIdeal.Skeleton
public import proofs.«01_k».proof.Proof.Gen.OutProjIdeal.Points
public import proofs.«01_k».proof.Proof.Gen.OutProjIdeal.Launch
public import proofs.«01_k».proof.Proof.Gen.OutProjIdeal.Frame
public import Idealize.ShloMosaic.Lib.VecWindow
public import Idealize.ShloMosaic.Lib.Claim

@[expose] public section

set_option maxRecDepth 16384

noncomputable section

namespace Cert.Proof.OutProjIdealRun

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run's assertions speak of. -/
abbrev MM (F : FTy → Type) [FloatOps F] := MT nD τ sig Unit (Elt F) ℕ (UR sig nD τ) ℕ

/-- The first branch is taken where the column step is the first. -/
abbrev condJ (i : grid0.Coords) : Prop :=
  (Scalar.cmpi .ne (Scalar.extui (Scalar.cmpi .eq (BitVec.ofNat 32 (i 1).val) 0#32) : BitVec 32) 0#32) = 1#1

/-- The two stores that fill the carried block. -/
abbrev catL (x0 : Vec F S512x2048 .bf16) (x1 : Vec F S512x2048 .f32) (x2 : Vec F S1x2048 .f32) : List (View.Piece (Elt F) S512x4096 .bf16) :=
  [⟨Rect.unit (s := S512x4096) ![0, 2048] S512x2048.size inb_S512x4096_S512x2048_0_2048, k0_pay2 x1 x2⟩,
   ⟨Rect.unit (s := S512x4096) ![0, 0] S512x2048.size inb_S512x4096_S512x2048_0_0, k0_pay1 x0⟩]

/-- They cover it. -/
theorem catL_cover (x0 : Vec F S512x2048 .bf16) (x1 : Vec F S512x2048 .f32) (x2 : Vec F S1x2048 .f32) (y : S512x4096.Idx) :
    ∃ p ∈ catL x0 x1 x2, y ∈ p.1.set :=
  View.cover_of_tiledL (catL x0 x1 x2) S512x2048.size (by sl_kernel_rfl) y

/-- The carried block: the rows of the first block beside the normed rows of the second. -/
def catOf (x0 : Vec F S512x2048 .bf16) (x1 : Vec F S512x2048 .f32) (x2 : Vec F S1x2048 .f32) : Vec F S512x4096 .bf16 :=
  View.canon (catL x0 x1 x2)

/-- A load of the whole carried block after the two stores reads the concatenation. -/
theorem readCov_catL (arg10 : Memref sig .tc .vmem S512x4096 .bf16) (x0 : Vec F S512x2048 .bf16) (x1 : Vec F S512x2048 .f32) (x2 : Vec F S1x2048 .f32) :
    arg10.view.readCov (catL x0 x1 x2) (Rect.unit (s := S512x4096) ![0, 0] S512x4096.size inb_S512x4096_S512x4096_0_0).toLoadRect
      = catOf x0 x1 x2 := by
  rw [View.readCov_eq_canon']
  funext y
  exact congrArg (View.canon (catL x0 x1 x2)) (funext fun a => Fin.ext (by
    show (![0, 0] : Fin 2 → ℕ) a + 1 * (y a).val = (y a).val
    have := inb_S512x4096_S512x4096_0_0 a; fin_cases a <;> simp))

set_option maxHeartbeats 1000000 in
/-- First column step, prompt rows: the carried block is filled and the first output's block is stored. -/
theorem run_A (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x4096 .bf16) (harg10 : arg10.IsWhole)
    (hJ : condJ i) (hA : k0_cond2 i = 1#1) (hB : ¬ k0_cond3 i = 1#1)
    (x0 : Vec F S512x2048 .bf16) (x1 : Vec F S512x2048 .f32) (x2 : Vec F S1x2048 .f32) (x3 : Vec F S4096x1024 .bf16)
    (x4 : Vec F S512x1024 .f32) (x5 : Vec F S512x1024 .f32) (E : Set ℕ) (K : PUnit → sProp (MM F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay4 (catOf x0 x1 x2) x3 x4)
            ∗ owns (c : Thread nD τ) arg10 fullShare (catOf x0 x1 x2)) -∗ K ⟨⟩))
      ⊢ wp Idealize.ShloMosaic.frame (wpE (defs₀ (F := F)) Variants.none c none) E
          (cc0_out_proj i arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hJ | sl_exact hA | sl_exact hB)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full]
    unfold run_A.sl.v3 run_A.sl.HS_2
    rw [View.readAt_full, View.readAt_full, View.readAt_full, View.readAt_full, View.readAt_full,
      harg2.read_unread, harg3.read_unread, harg4.read_unread, harg5.read_unread, harg6.read_unread]
    exact congrArg (fun z => k0_pay4 z x3 x4) (readCov_catL arg10 x0 x1 x2)
  iexists _; isplitr
  swap; · iexact HS
  ipureintro
  unfold run_A.sl.HS_2
  rw [View.readAt_full, View.readAt_full, View.readAt_full, harg2.read_unread, harg3.read_unread, harg4.read_unread]
  exact View.read_writes_eq_canon arg10.view fs (catL x0 x1 x2) (catL_cover x0 x1 x2)

set_option maxHeartbeats 1000000 in
/-- Later column steps, prompt rows: the first output's block is stored from the carried block. -/
theorem run_B (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x4096 .bf16) (harg10 : arg10.IsWhole)
    (hJ : ¬ condJ i) (hA : k0_cond2 i = 1#1) (hB : ¬ k0_cond3 i = 1#1)
    (x0 : Vec F S512x2048 .bf16) (x1 : Vec F S512x2048 .f32) (x2 : Vec F S1x2048 .f32) (x3 : Vec F S4096x1024 .bf16)
    (x4 : Vec F S512x1024 .f32) (x5 : Vec F S512x1024 .f32) (xs : Vec F S512x4096 .bf16) (E : Set ℕ) (K : PUnit → sProp (MM F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay4 xs x3 x4)
            ∗ owns (c : Thread nD τ) arg10 fullShare xs) -∗ K ⟨⟩))
      ⊢ wp Idealize.ShloMosaic.frame (wpE (defs₀ (F := F)) Variants.none c none) E
          (cc0_out_proj i arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs
  sl_exec (disch := first | sl_exact hJ | sl_exact hA | sl_exact hB)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full]
    rw [View.readAt_full, View.readAt_full, View.readAt_full, harg10.read_unread, harg5.read_unread, harg6.read_unread]
  iexists _; isplitr
  swap; · iexact HS
  ipureintro
  exact harg10.read_unread _

set_option maxHeartbeats 1000000 in
/-- First column step, batch rows: the carried block is filled and the second output's block is stored. -/
theorem run_C (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x4096 .bf16) (harg10 : arg10.IsWhole)
    (hJ : condJ i) (hA : ¬ k0_cond2 i = 1#1) (hB : k0_cond3 i = 1#1)
    (x0 : Vec F S512x2048 .bf16) (x1 : Vec F S512x2048 .f32) (x2 : Vec F S1x2048 .f32) (x3 : Vec F S4096x1024 .bf16)
    (x4 : Vec F S512x1024 .f32) (x5 : Vec F S512x1024 .f32) (E : Set ℕ) (K : PUnit → sProp (MM F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg9 fullShare (k0_pay5 (catOf x0 x1 x2) x3 x5)
            ∗ owns (c : Thread nD τ) arg10 fullShare (catOf x0 x1 x2)) -∗ K ⟨⟩))
      ⊢ wp Idealize.ShloMosaic.frame (wpE (defs₀ (F := F)) Variants.none c none) E
          (cc0_out_proj i arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hJ | sl_exact hA | sl_exact hB)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full]
    unfold run_C.sl.v3 run_C.sl.HS_2
    rw [View.readAt_full, View.readAt_full, View.readAt_full, View.readAt_full, View.readAt_full,
      harg2.read_unread, harg3.read_unread, harg4.read_unread, harg5.read_unread, harg7.read_unread]
    exact congrArg (fun z => k0_pay5 z x3 x5) (readCov_catL arg10 x0 x1 x2)
  iexists _; isplitr
  swap; · iexact HS
  ipureintro
  unfold run_C.sl.HS_2
  rw [View.readAt_full, View.readAt_full, View.readAt_full, harg2.read_unread, harg3.read_unread, harg4.read_unread]
  exact View.read_writes_eq_canon arg10.view fs (catL x0 x1 x2) (catL_cover x0 x1 x2)

set_option maxHeartbeats 1000000 in
/-- Later column steps, batch rows: the second output's block is stored from the carried block. -/
theorem run_D (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x4096 .bf16) (harg10 : arg10.IsWhole)
    (hJ : ¬ condJ i) (hA : ¬ k0_cond2 i = 1#1) (hB : k0_cond3 i = 1#1)
    (x0 : Vec F S512x2048 .bf16) (x1 : Vec F S512x2048 .f32) (x2 : Vec F S1x2048 .f32) (x3 : Vec F S4096x1024 .bf16)
    (x4 : Vec F S512x1024 .f32) (x5 : Vec F S512x1024 .f32) (xs : Vec F S512x4096 .bf16) (E : Set ℕ) (K : PUnit → sProp (MM F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg9 fullShare (k0_pay5 xs x3 x5)
            ∗ owns (c : Thread nD τ) arg10 fullShare xs) -∗ K ⟨⟩))
      ⊢ wp Idealize.ShloMosaic.frame (wpE (defs₀ (F := F)) Variants.none c none) E
          (cc0_out_proj i arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs
  sl_exec (disch := first | sl_exact hJ | sl_exact hA | sl_exact hB)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full]
    rw [View.readAt_full, View.readAt_full, View.readAt_full, harg10.read_unread, harg5.read_unread, harg7.read_unread]
  iexists _; isplitr
  swap; · iexact HS
  ipureintro
  exact harg10.read_unread _

end Cert.Proof.OutProjIdealRun

end
-- ==== Proof.OutProj.Frame.lean ====
/- The run of the output projection's program: what the output blocks and the carried block hold after every grid point,
   the body's obligation there, and the frame. -/
module

public import proofs.«01_k».proof.Proof.OutProj.Body

@[expose] public section

set_option maxRecDepth 16384

noncomputable section

namespace Cert.Proof.OutProjIdealRun

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The branches and the schedule, in closed form -/

theorem condJ_iff : ∀ t : Fin cfg0.N, condJ (grid0.coords t) ↔ t.val % 4 = 0 :=
  (by decide +kernel : ∀ t : Fin grid0.N, condJ (grid0.coords t) ↔ t.val % 4 = 0)
theorem cond2_iff : ∀ t : Fin cfg0.N, k0_cond2 (grid0.coords t) = 1#1 ↔ t.val < 128 :=
  (by decide +kernel : ∀ t : Fin grid0.N, k0_cond2 (grid0.coords t) = 1#1 ↔ t.val < 128)
theorem cond3_iff : ∀ t : Fin cfg0.N, k0_cond3 (grid0.coords t) = 1#1 ↔ 128 ≤ t.val :=
  (by decide +kernel : ∀ t : Fin grid0.N, k0_cond3 (grid0.coords t) = 1#1 ↔ 128 ≤ t.val)

/-- The first output is idle at the batch rows' points, -/
theorem idle6 : ∀ t : Fin cfg0.N, cfg0.idle 6 (cfg0.grid.coords t) = decide (128 ≤ t.val) :=
  (by decide +kernel : ∀ t : Fin grid0.N, idle0 6 (grid0.coords t) = decide (128 ≤ t.val))
/-- the second at the prompt rows'. -/
theorem idle7 : ∀ t : Fin cfg0.N, cfg0.idle 7 (cfg0.grid.coords t) = decide (t.val < 128) :=
  (by decide +kernel : ∀ t : Fin grid0.N, idle0 7 (grid0.coords t) = decide (t.val < 128))
/-- The first output's block is written back after every prompt point but the last, and after the last point of all. -/
theorem flush6 : ∀ t : Fin cfg0.N, (cfg0.win 6).flush t = decide (t.val < 127 ∨ t.val = 191) :=
  (by decide +kernel : ∀ t : Fin grid0.N, Pipeline.Window.flushOf grid0 true cc0_transform_6 t = decide (t.val < 127 ∨ t.val = 191))
/-- The second output's block is written back after every batch point. -/
theorem flush7 : ∀ t : Fin cfg0.N, (cfg0.win 7).flush t = decide (128 ≤ t.val) :=
  (by decide +kernel : ∀ t : Fin grid0.N, Pipeline.Window.flushOf grid0 true cc0_transform_7 t = decide (128 ≤ t.val))

theorem N192 : cfg0.N = 192 := N_0

/-! ## What the carried block and the outputs hold -/

/-- The carried block after point `n`: filled at the first column step of a row block, kept through the others. -/
def catAt (c : Dev nD) : (n : ℕ) → n < cfg0.N → Vec F S512x4096 .bf16
  | 0, hn => catOf (iblk m c 0 ⟨0, hn⟩) (iblk m c 1 ⟨0, hn⟩) (iblk m c 2 ⟨0, hn⟩)
  | n + 1, hn =>
    if (n + 1) % 4 = 0 then catOf (iblk m c 0 ⟨n + 1, hn⟩) (iblk m c 1 ⟨n + 1, hn⟩) (iblk m c 2 ⟨n + 1, hn⟩)
    else catAt c n (Nat.lt_of_succ_lt hn)

theorem catAt_first (c : Dev nD) (t : Fin cfg0.N) (h : t.val % 4 = 0) :
    catAt m c t.val t.isLt = catOf (iblk m c 0 t) (iblk m c 1 t) (iblk m c 2 t) := by
  obtain ⟨n, hn⟩ := t
  cases n with
  | zero => rfl
  | succ n => exact if_pos h

theorem catAt_next (c : Dev nD) (t : Fin cfg0.N) (h : ¬ t.val % 4 = 0) :
    catAt m c t.val t.isLt = catAt m c (t.val - 1) (Nat.lt_of_le_of_lt (Nat.sub_le _ _) t.isLt) := by
  obtain ⟨n, hn⟩ := t
  cases n with
  | zero => exact absurd rfl h
  | succ n => exact if_neg h

/-- The first output's block as the body stores it at a prompt point. -/
def oaAt (c : Dev nD) (t : Fin cfg0.N) : Vec F S512x1024 .f32 :=
  k0_pay4 (catAt m c t.val t.isLt) (iblk m c 3 t) (iblk m c 4 t)
/-- The second output's block as the body stores it at a batch point. -/
def obAt (c : Dev nD) (t : Fin cfg0.N) : Vec F S512x1024 .f32 :=
  k0_pay5 (catAt m c t.val t.isLt) (iblk m c 3 t) (iblk m c 5 t)
/-- The point whose first output block is still held at `t`: `t` itself or the last prompt point. -/
def lastA (t : Fin cfg0.N) : Fin cfg0.N := ⟨min t.val 127, Nat.lt_of_le_of_lt (Nat.min_le_left _ _) t.isLt⟩

/-- Each window's current staging block, as the body is called with it. -/
abbrev ms (w : Fin cfg0.W) (t : Fin cfg0.N) := (cfg0.win w).stage (cfg0.slots t w)
/-- The carried block's buffer. -/
abbrev scM : Memref sig .tc .vmem S512x4096 .bf16 := Memref.whole cc0_scratch0

theorem PhiA0_eq (c : Dev nD) :
    (Pipeline.ΦA spec0 c : sProp (MM F))
      = iprop(iprop((∃ d, owns (c : Thread nD τ) scM fullShare d)) ∗ (∃ r, prngReg c r)) := by
  unfold Pipeline.ΦA; rw [scopedRest0_eq]; simp only [scM, owns_whole]; try rfl

/-- The invariant before point `n`: the carried block at what the point before left, at anything at the first. -/
def PhiS (c : Dev nD) : (n : ℕ) → n ≤ cfg0.N → sProp (MM F)
  | 0, _ => Pipeline.ΦA spec0 c
  | n + 1, hn => iprop(iprop(owns (c : Thread nD τ) scM fullShare (catAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (catAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (catAt m c (n - 1) (by omega))) ∗ (∃ r, prngReg c r)) := by
  cases n with
  | zero => exact absurd rfl hz
  | succ n => rfl

/-- Before any point the invariant holds the carried block at some contents. -/
theorem PhiS_any (c : Dev nD) (n : ℕ) (h : n ≤ cfg0.N) : PhiS m c n h ⊢ Pipeline.ΦA spec0 c := by
  by_cases hz : n = 0
  · rw [PhiS_zero m c n h hz]; try exact Idealize.SL.BI.Entails.refl _
  · rw [PhiS_pos m c n h hz, PhiA0_eq]
    iintro ⟨HS0, Hg⟩
    isplitl [HS0]
    · iexists _; iexact HS0
    iexact Hg

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oaAt m c (lastA t)
    | ⟨7, _⟩ => obAt m c t
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = oaAt m c (lastA t) := by dsimp only [dats]
theorem after0_7 (c : Dev nD) (t : Fin cfg0.N) : (dats m 0 c).after 7 t = obAt m c t := by dsimp only [dats]

theorem lastA_of_lt (t : Fin cfg0.N) (h : t.val < 128) : lastA t = t := Fin.ext (by simp only [lastA]; omega)

/-- At every batch point the first output's buffer holds the last prompt point's block. -/
theorem before6_ge (c : Dev nD) : ∀ (k : ℕ) (h : 128 + k < cfg0.N) (d), (dats m 0 c).before 6 ⟨128 + k, h⟩ d = oaAt m c ⟨127, by rw [N192]; omega⟩
  | 0, h, d => by
    rw [(dats m 0 c).before_of_pos 6 _ (by simp) rfl, if_neg (by rw [flush6]; simp)]
    unfold Dat.left
    rw [idle6]
    simp only [show decide (128 ≤ 128 + 0 - 1) = false from rfl]
    unfold Dat.kept
    rw [after0_6]
    exact rfl
  | k + 1, h, d => by
    rw [(dats m 0 c).before_of_pos 6 _ (by simp) rfl, if_neg (by rw [flush6]; have := N192; simp; omega)]
    unfold Dat.left
    rw [idle6]
    simp only [show decide (128 ≤ 128 + (k + 1) - 1) = true from by simp]
    exact before6_ge c k (by omega) d

/-! ## The body obligation -/

/-- What the body is called with at point `t`, -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- and what it returns. -/
def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) : (dats m 0 c).leavesExact 0 t = owns (c : Thread nD τ) (st0_0 t) fullShare (iblk m c 0 t) := by
  rw [← after0_0 m c t]
theorem leaves_1 (c : Dev nD) (t : Fin cfg0.N) : (dats m 0 c).leavesExact 1 t = owns (c : Thread nD τ) (st0_1 t) fullShare (iblk m c 1 t) := by
  rw [← after0_1 m c t]
theorem leaves_2 (c : Dev nD) (t : Fin cfg0.N) : (dats m 0 c).leavesExact 2 t = owns (c : Thread nD τ) (st0_2 t) fullShare (iblk m c 2 t) := by
  rw [← after0_2 m c t]
theorem leaves_3 (c : Dev nD) (t : Fin cfg0.N) : (dats m 0 c).leavesExact 3 t = owns (c : Thread nD τ) (st0_3 t) fullShare (iblk m c 3 t) := by
  rw [← after0_3 m c t]
theorem leaves_4 (c : Dev nD) (t : Fin cfg0.N) : (dats m 0 c).leavesExact 4 t = owns (c : Thread nD τ) (st0_4 t) fullShare (iblk m c 4 t) := by
  rw [← after0_4 m c t]
theorem leaves_5 (c : Dev nD) (t : Fin cfg0.N) : (dats m 0 c).leavesExact 5 t = owns (c : Thread nD τ) (st0_5 t) fullShare (iblk m c 5 t) := by
  rw [← after0_5 m c t]
theorem leaves_6_live (c : Dev nD) (t : Fin cfg0.N) (h : t.val < 128) :
    (dats m 0 c).leavesExact 6 t = owns (c : Thread nD τ) (st0_6 t) fullShare (oaAt m c t) := by
  unfold Dat.leavesExact; rw [idle6, decide_eq_false (by omega), after0_6, lastA_of_lt t h]
theorem leaves_6_idle (c : Dev nD) (t : Fin cfg0.N) (h : ¬ t.val < 128) :
    iprop(∃ d, owns (c : Thread nD τ) (st0_6 t) fullShare ((dats m 0 c).before 6 t d)) ⊢ (dats m 0 c).leavesExact 6 t := by
  have hN := N192
  have ht := t.isLt
  by_cases h1 : t.val = 191
  · unfold Dat.leavesExact
    rw [idle6, decide_eq_true (by omega), flush6, decide_eq_true (Or.inr h1), after0_6]
    iintro ⟨%d, H⟩
    have e : (dats m 0 c).before 6 t d = oaAt m c (lastA t) := by
      have e1 : t = ⟨128 + 63, by omega⟩ := Fin.ext (by simp; omega)
      have e2 : lastA t = ⟨127, by omega⟩ := Fin.ext (by simp only [lastA]; omega)
      rw [e2, e1]; exact before6_ge m c 63 (by omega) d
    rw [e]
    iexact H
  · rw [Dat.leavesExact_idle (dats m 0 c) 6 t (by rw [idle6]; exact decide_eq_true (by omega)) (by rw [flush6]; exact decide_eq_false (by omega))]
    try exact Idealize.SL.BI.Entails.refl _
theorem leaves_7_live (c : Dev nD) (t : Fin cfg0.N) (h : ¬ t.val < 128) :
    (dats m 0 c).leavesExact 7 t = owns (c : Thread nD τ) (st0_7 t) fullShare (obAt m c t) := by
  unfold Dat.leavesExact; rw [idle7, decide_eq_false h, after0_7]
theorem leaves_7_idle (c : Dev nD) (t : Fin cfg0.N) (h : t.val < 128) :
    iprop(∃ d, owns (c : Thread nD τ) (st0_7 t) fullShare ((dats m 0 c).before 7 t d)) ⊢ (dats m 0 c).leavesExact 7 t := by
  rw [Dat.leavesExact_idle (dats m 0 c) 7 t (by rw [idle7]; exact decide_eq_true h) (by rw [flush7]; exact decide_eq_false (by omega))]
  try exact Idealize.SL.BI.Entails.refl _

set_option maxHeartbeats 6400000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    leaves_0, leaves_1, leaves_2, leaves_3, leaves_4, leaves_5]
  rw [show (dats m 0 c).Φ t.succ = PhiS m c (t.val + 1) t.isLt from rfl, PhiS_succ, PhiS_castSucc]
  have hN : t.val < 192 := lt_of_lt_of_eq t.isLt N192
  by_cases hA : t.val < 128
  · by_cases hJ : t.val % 4 = 0
    · by_cases hz : t.val = 0
      · rw [PhiS_zero m c _ _ hz, PhiA0_eq, catAt_first m c t hJ]
        rw [leaves_6_live m c t hA]
        unfold oaAt
        rw [catAt_first m c t hJ]
        iintro ⟨⟨HS0, Hg⟩, Ho, ⟨%d0, H0⟩, ⟨%d1, H1⟩, ⟨%d2, H2⟩, ⟨%d3, H3⟩, ⟨%d4, H4⟩, ⟨%d5, H5⟩, H6, H7⟩
        icases H6 with ⟨%d6, H6⟩
        iapply (run_A c (grid0.coords t) _ _ _ _ _ _ _ _ _ _ _ _ _ _ _ _ _ _ ((condJ_iff t).mpr hJ) ((cond2_iff t).mpr hA) (fun h => absurd ((cond3_iff t).mp h) (by omega)) (iblk m c 0 t) (iblk m c 1 t) (iblk m c 2 t) (iblk m c 3 t) (iblk m c 4 t) (iblk m c 5 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, H6, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (leaves_7_idle m c t hA); iexact H7
      · rw [PhiS_pos m c _ _ (by omega), catAt_first m c t hJ]
        rw [leaves_6_live m c t hA]
        unfold oaAt
        rw [catAt_first m c t hJ]
        iintro ⟨⟨HS0, Hg⟩, Ho, ⟨%d0, H0⟩, ⟨%d1, H1⟩, ⟨%d2, H2⟩, ⟨%d3, H3⟩, ⟨%d4, H4⟩, ⟨%d5, H5⟩, H6, H7⟩
        icases H6 with ⟨%d6, H6⟩
        iapply (run_A c (grid0.coords t) _ _ _ _ _ _ _ _ _ _ _ _ _ _ _ _ _ _ ((condJ_iff t).mpr hJ) ((cond2_iff t).mpr hA) (fun h => absurd ((cond3_iff t).mp h) (by omega)) (iblk m c 0 t) (iblk m c 1 t) (iblk m c 2 t) (iblk m c 3 t) (iblk m c 4 t) (iblk m c 5 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        iintro ⟨H0, H1, H2, H3, H4, H5, H6, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (leaves_7_idle m c t hA); iexact H7
    · rw [PhiS_pos m c _ _ (by omega), catAt_next m c t hJ]
      rw [leaves_6_live m c t hA]
      unfold oaAt
      rw [catAt_next m c t hJ]
      iintro ⟨⟨HS0, Hg⟩, Ho, ⟨%d0, H0⟩, ⟨%d1, H1⟩, ⟨%d2, H2⟩, ⟨%d3, H3⟩, ⟨%d4, H4⟩, ⟨%d5, H5⟩, H6, H7⟩
      icases H6 with ⟨%d6, H6⟩
      iapply (run_B c (grid0.coords t) _ _ _ _ _ _ _ _ _ _ _ _ _ _ _ _ _ _ (fun h => hJ ((condJ_iff t).mp h)) ((cond2_iff t).mpr hA) (fun h => absurd ((cond3_iff t).mp h) (by omega)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_7_idle m c t hA); iexact H7
  · by_cases hJ : t.val % 4 = 0
    · rw [PhiS_pos m c _ _ (by omega), catAt_first m c t hJ]
      rw [leaves_7_live m c t hA]
      unfold obAt
      rw [catAt_first m c t hJ]
      iintro ⟨⟨HS0, Hg⟩, Ho, ⟨%d0, H0⟩, ⟨%d1, H1⟩, ⟨%d2, H2⟩, ⟨%d3, H3⟩, ⟨%d4, H4⟩, ⟨%d5, H5⟩, H6, H7⟩
      icases H7 with ⟨%d7, H7⟩
      iapply (run_C c (grid0.coords t) _ _ _ _ _ _ _ _ _ _ _ _ _ _ _ _ _ _ ((condJ_iff t).mpr hJ) (fun h => hA ((cond2_iff t).mp h)) ((cond3_iff t).mpr (by omega)) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H7]; · iexists _; iexact H7
      isplitl [HS0]; · iexists _; iexact HS0
      iintro ⟨H0, H1, H2, H3, H4, H5, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leaves_6_idle m c t hA); iexact H6
      iexact H7
    · rw [PhiS_pos m c _ _ (by omega), catAt_next m c t hJ]
      rw [leaves_7_live m c t hA]
      unfold obAt
      rw [catAt_next m c t hJ]
      iintro ⟨⟨HS0, Hg⟩, Ho, ⟨%d0, H0⟩, ⟨%d1, H1⟩, ⟨%d2, H2⟩, ⟨%d3, H3⟩, ⟨%d4, H4⟩, ⟨%d5, H5⟩, H6, H7⟩
      icases H7 with ⟨%d7, H7⟩
      iapply (run_D c (grid0.coords t) _ _ _ _ _ _ _ _ _ _ _ _ _ _ _ _ _ _ (fun h => hJ ((condJ_iff t).mp h)) (fun h => hA ((cond2_iff t).mp h)) ((cond3_iff t).mpr (by omega)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H7]; · iexists _; iexact H7
      isplitl [HS0]; · iexact HS0
      iintro ⟨H0, H1, H2, H3, H4, H5, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leaves_6_idle m c t hA); iexact H6
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  PhiS_any m c cfg0.N (le_refl _)

set_option backward.isDefEq.respectTransparency.types false in
/-- The run, every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Proof.OutProjIdealRun

end
-- ==== Proof.OutProj.Cases.lean ====
/- What one grid point of the output projection's kernel stores, and its result arrays after the run. -/
module

public import proofs.«01_k».proof.Proof.OutProj.Frame
public import Idealize.ShloMosaic.Lib.Pipeline.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.OutProjIdealRun

open Cert.OutProjIdeal Cert.OutProjIdeal.Gen

variable (m : (ℓ : Loc nD τ sig) → Buf (Elt Ideal) ℓ)

/-! ## The mathematics, at a row and a column -/

/-- A row, normalised, times the gain. -/
def nrm (z : Fin 2048 → EReal) (g : Fin 2048 → EReal) (e : Fin 2048) : EReal :=
  z e * Ideal.rsqrt (Ideal.div (∑ l : Fin 2048, z l * z l) (Ideal.ofBits .f32 0x45000000#32) + Ideal.ofBits .f32 0x358637BD#32) * g e

/-- A row of the first array beside the normalised row of the second. -/
def both (r a g : Fin 2048 → EReal) (d : Fin 4096) : EReal :=
  if h : d.val < 2048 then r ⟨d.val, h⟩ else nrm a g ⟨d.val - 2048, by have := d.isLt; omega⟩

/-- The projection of row `n` on column `e`. -/
def prj (R A : FVec Ideal S24576x2048 .f32) (g : FVec Ideal S2048 .f32) (W : FVec Ideal S4096x4096 .f32) (n : Fin 24576) (e : Fin 4096) : EReal :=
  ∑ d : Fin 4096, both (fun l => R (ix2 n l)) (fun l => A (ix2 n l)) (fun l => g (ix1 l)) d * W (ix2 d e)

/-! ## The payloads -/

theorem pay1_apply (x : Vec Ideal S512x2048 .bf16) (i : Fin 512) (l : Fin 2048) : k0_pay1 x (ix2 i l) = x (ix2 i l) := by
  pointwise [k0_pay1]

theorem pay2_apply (x : Vec Ideal S512x2048 .f32) (g : Vec Ideal S1x2048 .f32) (i : Fin 512) (l : Fin 2048) :
    k0_pay2 x g (ix2 i l) = nrm (fun l => x (ix2 i l)) (fun l => g (ix2 0 l)) l := by
  pointwise [k0_pay2, nrm]

theorem pay4_apply (z : Vec Ideal S512x4096 .bf16) (w : Vec Ideal S4096x1024 .bf16) (x : Vec Ideal S512x1024 .f32) (i : Fin 512) (j : Fin 1024) :
    k0_pay4 z w x (ix2 i j) = x (ix2 i j) + ∑ d : Fin 4096, z (ix2 i d) * w (ix2 d j) := by
  pointwise [k0_pay4, k0_pay3]

theorem pay5_apply (z : Vec Ideal S512x4096 .bf16) (w : Vec Ideal S4096x1024 .bf16) (x : Vec Ideal S512x1024 .f32) (i : Fin 512) (j : Fin 1024) :
    k0_pay5 z w x (ix2 i j) = x (ix2 i j) + ∑ d : Fin 4096, z (ix2 i d) * w (ix2 d j) := by
  pointwise [k0_pay5, k0_pay3]

theorem catOf_apply (r : Vec Ideal S512x2048 .bf16) (a : Vec Ideal S512x2048 .f32) (g : Vec Ideal S1x2048 .f32) (i : Fin 512) (d : Fin 4096) :
    catOf r a g (ix2 i d) = both (fun l => r (ix2 i l)) (fun l => a (ix2 i l)) (fun l => g (ix2 0 l)) d := by
  unfold catOf
  canon_tiles x h
  · idx_vars x
    obtain rfl : i = x0 := Fin.ext h0
    have e : ∀ h, (⟨d.val - 2048, h⟩ : Fin 2048) = x1 := fun h => Fin.ext (by simp only []; omega)
    rw [both, dif_neg (by omega), pay2_apply, e]
  · idx_vars x
    obtain rfl : i = x0 := Fin.ext h0
    have e : ∀ h, (⟨d.val, h⟩ : Fin 2048) = x1 := fun h => Fin.ext h1
    rw [both, dif_pos (by omega), pay1_apply, e]

/-! ## Where each window's block sits -/

theorem idx : ∀ t : Fin cfg0.N, win0_0.index t = ![t.val / 4, 0] ∧ win0_1.index t = ![t.val / 4, 0]
    ∧ win0_2.index t = ![0, 0] ∧ win0_3.index t = ![0, t.val % 4] :=
  (by decide +kernel : ∀ t : Fin grid0.N, _)
theorem idxA : ∀ t : Fin cfg0.N, t.val < 128 → win0_4.index t = ![t.val / 4, t.val % 4] ∧ win0_6.index t = ![t.val / 4, t.val % 4] :=
  (by decide +kernel : ∀ t : Fin grid0.N, t.val < 128 → _)
theorem idxB : ∀ t : Fin cfg0.N, 128 ≤ t.val → win0_5.index t = ![t.val / 4 - 32, t.val % 4] ∧ win0_7.index t = ![t.val / 4 - 32, t.val % 4]
    ∧ win0_6.index t = ![31, 3] :=
  (by decide +kernel : ∀ t : Fin grid0.N, 128 ≤ t.val → _)

/-- The places a block's rows and columns have in the arguments. -/
def row (t : Fin cfg0.N) (i : Fin 512) : Fin 24576 :=
  ⟨t.val / 4 * 512 + i.val, by have := i.isLt; have := lt_of_lt_of_eq t.isLt N_0; omega⟩
def col (t : Fin cfg0.N) (j : Fin 1024) : Fin 4096 := ⟨t.val % 4 * 1024 + j.val, by have := j.isLt; omega⟩

theorem blk0 (c : Dev nD) (t : Fin cfg0.N) (i : Fin 512) (l : Fin 2048) :
    (show Vec Ideal S512x2048 .bf16 from iblk m c 0 t) (ix2 i l) = m ((c : Thread nD τ).loc main_arg0) (ix2 (row t i) l) := by
  blk_simp [iblk]
  entry_read
  pointwise
  blk_ext [idx t, row]
theorem blk1 (c : Dev nD) (t : Fin cfg0.N) (i : Fin 512) (l : Fin 2048) :
    (show Vec Ideal S512x2048 .f32 from iblk m c 1 t) (ix2 i l) = m ((c : Thread nD τ).loc main_arg1) (ix2 (row t i) l) := by
  blk_simp [iblk]
  entry_read
  pointwise
  blk_ext [idx t, row]
theorem blk2 (c : Dev nD) (t : Fin cfg0.N) (l : Fin 2048) :
    (show Vec Ideal S1x2048 .f32 from iblk m c 2 t) (ix2 0 l) = m ((c : Thread nD τ).loc main_arg2) (ix1 l) := by
  blk_simp [iblk]
  entry_read
  pointwise
  blk_ext [idx t]
theorem blk3 (c : Dev nD) (t : Fin cfg0.N) (d : Fin 4096) (j : Fin 1024) :
    (show Vec Ideal S4096x1024 .bf16 from iblk m c 3 t) (ix2 d j) = m ((c : Thread nD τ).loc main_arg3) (ix2 d (col t j)) := by
  blk_simp [iblk]
  entry_read
  pointwise
  blk_ext [idx t, col]

/-- The prompt's rows and the samples', as plain rows. -/
def flatA (X : FVec Ideal S1x16384x4096 .f32) (n : Fin 16384) (e : Fin 4096) : EReal := X (ix3 0 n e)
def flatB (Y : FVec Ideal S2x4096x4096 .f32) (n : Fin 8192) (e : Fin 4096) : EReal :=
  Y (ix3 ⟨n.val / 4096, by have := n.isLt; omega⟩ ⟨n.val % 4096, by omega⟩ e)

def rowA (t : Fin cfg0.N) (h : t.val < 128) (i : Fin 512) : Fin 16384 := ⟨t.val / 4 * 512 + i.val, by have := i.isLt; omega⟩
def rowB (t : Fin cfg0.N) (i : Fin 512) : Fin 8192 :=
  ⟨(t.val / 4 - 32) * 512 + i.val, by have := i.isLt; have := lt_of_lt_of_eq t.isLt N_0; omega⟩

theorem blk4 (c : Dev nD) (t : Fin cfg0.N) (h : t.val < 128) (i : Fin 512) (j : Fin 1024) :
    (show Vec Ideal S512x1024 .f32 from iblk m c 4 t) (ix2 i j) = flatA (m ((c : Thread nD τ).loc main_arg4)) (rowA t h i) (col t j) := by
  unfold flatA
  blk_simp [iblk]
  entry_read
  pointwise
  blk_ext [idxA t h, rowA, col]

theorem flat_apply (Y : FVec Ideal S2x4096x4096 .f32) (p : Fin 8192) (e : Fin 4096) :
    (shapeCast S8192x4096 Y shapeCasts_S2x4096x4096_S8192x4096 : FVec Ideal S8192x4096 .f32) (ix2 p e) = flatB Y p e := by
  unfold flatB
  pointwise

theorem blk5_flat (c : Dev nD) (t : Fin cfg0.N) (h : 128 ≤ t.val) (i : Fin 512) (j : Fin 1024) (p : Fin 8192) (hp : p.val = (t.val / 4 - 32) * 512 + i.val)
    (e : Fin 4096) (he : e.val = t.val % 4 * 1024 + j.val) :
    (show Vec Ideal S512x1024 .f32 from iblk m c 5 t) (ix2 i j)
      = (shapeCast S8192x4096 (m ((c : Thread nD τ).loc main_arg5) : FVec Ideal S2x4096x4096 .f32) shapeCasts_S2x4096x4096_S8192x4096
          : FVec Ideal S8192x4096 .f32) (ix2 p e) := by
  blk_simp [iblk]
  entry_read
  blk_ext [idxB t h, hp, he]

theorem blk5 (c : Dev nD) (t : Fin cfg0.N) (h : 128 ≤ t.val) (i : Fin 512) (j : Fin 1024) :
    (show Vec Ideal S512x1024 .f32 from iblk m c 5 t) (ix2 i j) = flatB (m ((c : Thread nD τ).loc main_arg5)) (rowB t i) (col t j) := by
  rw [blk5_flat m c t h i j (rowB t i) rfl (col t j) rfl, flat_apply]

/-! ## The carried block and the outputs -/

/-- After any point the carried block holds its row block's joined rows. -/
theorem catAt_apply (c : Dev nD) (i : Fin 512) (d : Fin 4096) : ∀ (n : ℕ) (hn : n < cfg0.N),
    catAt m c n hn (ix2 i d)
      = both (fun l => m ((c : Thread nD τ).loc main_arg0) (ix2 (row ⟨n, hn⟩ i) l)) (fun l => m ((c : Thread nD τ).loc main_arg1) (ix2 (row ⟨n, hn⟩ i) l))
          (fun l => m ((c : Thread nD τ).loc main_arg2) (ix1 l)) d := by
  have first : ∀ (t : Fin cfg0.N), catOf (F := Ideal) (iblk m c 0 t) (iblk m c 1 t) (iblk m c 2 t) (ix2 i d)
      = both (fun l => m ((c : Thread nD τ).loc main_arg0) (ix2 (row t i) l)) (fun l => m ((c : Thread nD τ).loc main_arg1) (ix2 (row t i) l))
          (fun l => m ((c : Thread nD τ).loc main_arg2) (ix1 l)) d := fun t => by
    rw [catOf_apply]
    rw [show (fun l => (show Vec Ideal S512x2048 .bf16 from iblk m c 0 t) (ix2 i l)) = _ from funext fun l => blk0 m c t i l,
      show (fun l => (show Vec Ideal S512x2048 .f32 from iblk m c 1 t) (ix2 i l)) = _ from funext fun l => blk1 m c t i l,
      show (fun l => (show Vec Ideal S1x2048 .f32 from iblk m c 2 t) (ix2 0 l)) = _ from funext fun l => blk2 m c t l]
  intro n
  induction n with
  | zero => intro hn; exact first ⟨0, hn⟩
  | succ n ih =>
    intro hn
    by_cases h : (n + 1) % 4 = 0
    · exact (congrFun (catAt_first m c ⟨n + 1, hn⟩ h) _).trans (first ⟨n + 1, hn⟩)
    · refine (congrFun (catAt_next m c ⟨n + 1, hn⟩ h) _).trans ((ih (Nat.lt_of_succ_lt hn)).trans ?_)
      rw [show row ⟨n, Nat.lt_of_succ_lt hn⟩ i = row ⟨n + 1, hn⟩ i from Fin.ext (by simp only [row]; omega)]

theorem oaAt_apply (c : Dev nD) (t : Fin cfg0.N) (h : t.val < 128) (i : Fin 512) (j : Fin 1024) :
    oaAt m c t (ix2 i j) = flatA (m ((c : Thread nD τ).loc main_arg4)) (rowA t h i) (col t j)
      + prj (m ((c : Thread nD τ).loc main_arg0)) (m ((c : Thread nD τ).loc main_arg1)) (m ((c : Thread nD τ).loc main_arg2))
          (m ((c : Thread nD τ).loc main_arg3)) (row t i) (col t j) := by
  unfold oaAt prj
  refine (pay4_apply _ _ _ i j).trans (congrArg₂ (fun x y : EReal => x + y) (blk4 m c t h i j) ?_)
  exact Finset.sum_congr rfl fun d _ => congrArg₂ (fun x y : EReal => x * y) (catAt_apply m c i d t.val t.isLt) (blk3 m c t d j)

theorem obAt_apply (c : Dev nD) (t : Fin cfg0.N) (h : 128 ≤ t.val) (i : Fin 512) (j : Fin 1024) :
    obAt m c t (ix2 i j) = flatB (m ((c : Thread nD τ).loc main_arg5)) (rowB t i) (col t j)
      + prj (m ((c : Thread nD τ).loc main_arg0)) (m ((c : Thread nD τ).loc main_arg1)) (m ((c : Thread nD τ).loc main_arg2))
          (m ((c : Thread nD τ).loc main_arg3)) (row t i) (col t j) := by
  unfold obAt prj
  refine (pay5_apply _ _ _ i j).trans (congrArg₂ (fun x y : EReal => x + y) (blk5 m c t h i j) ?_)
  exact Finset.sum_congr rfl fun d _ => congrArg₂ (fun x y : EReal => x * y) (catAt_apply m c i d t.val t.isLt) (blk3 m c t d j)

/-! ## The result arrays -/

/-- The prompt's result array after the run. -/
theorem finalA (c : Dev nD) (G : FVec Ideal S16384x4096 .f32)
    (hG : ∀ (n : Fin 16384) e, G (ix2 n e) = flatA (m ((c : Thread nD τ).loc main_arg4)) n e
      + prj (m ((c : Thread nD τ).loc main_arg0)) (m ((c : Thread nD τ).loc main_arg1)) (m ((c : Thread nD τ).loc main_arg2))
          (m ((c : Thread nD τ).loc main_arg3)) ⟨n.val, by have := n.isLt; omega⟩ e) :
    (dats m 0 c).arrAt 6 (cfgs 0).N = G := by
  refine (dats m 0 c).arrAt_eq_of_covers 6 _ (by decide +kernel) fun t hf y => ?_
  have hN := lt_of_lt_of_eq t.isLt N_0
  have ht : t.val < 127 ∨ t.val = 191 := of_decide_eq_true ((flush6 t).symm.trans hf)
  have hs : (lastA t).val < 128 := by simp only [lastA]; omega
  blk_simp
  rw [after0_6]
  idx_vars y
  have e : ((cfg0.win 6).blk t).view.emb (ix2 y0 y1) = ix2 (rowA (lastA t) hs y0) (col (lastA t) y1) := by
    rcases ht with ht | ht
    · have e1 : (lastA t).val = t.val := by simp only [lastA]; omega
      blk_ext [idxA t (by omega), rowA, col, e1]
    · have e1 : (lastA t).val = 127 := by simp only [lastA]; omega
      blk_ext [idxB t (by omega), rowA, col, e1]
  exact (oaAt_apply m c (lastA t) hs y0 y1).trans ((congrArg G e).trans (hG _ _)).symm

/-- The samples' result array after the run. -/
theorem finalB (c : Dev nD) (G : FVec Ideal S8192x4096 .f32)
    (hG : ∀ (n : Fin 8192) e, G (ix2 n e) = flatB (m ((c : Thread nD τ).loc main_arg5)) n e
      + prj (m ((c : Thread nD τ).loc main_arg0)) (m ((c : Thread nD τ).loc main_arg1)) (m ((c : Thread nD τ).loc main_arg2))
          (m ((c : Thread nD τ).loc main_arg3)) ⟨16384 + n.val, by have := n.isLt; omega⟩ e) :
    (dats m 0 c).arrAt 7 (cfgs 0).N = G := by
  refine (dats m 0 c).arrAt_eq_of_covers 7 _ (by decide +kernel) fun t hf y => ?_
  have hN := lt_of_lt_of_eq t.isLt N_0
  have ht : 128 ≤ t.val := of_decide_eq_true ((flush7 t).symm.trans hf)
  blk_simp
  rw [after0_7]
  idx_vars y
  have e : ((cfg0.win 7).blk t).view.emb (ix2 y0 y1) = ix2 (rowB t y0) (col t y1) := by
    blk_ext [idxB t ht, rowB, col]
  have e2 : row t y0 = ⟨16384 + (rowB t y0).val, by have := (rowB t y0).isLt; omega⟩ := Fin.ext (by simp only [row, rowB]; omega)
  exact (obAt_apply m c t ht y0 y1).trans (((congrArg G e).trans (hG _ _)).trans (by rw [e2])).symm

end Cert.Proof.OutProjIdealRun

end
-- ==== Proof.OutProj.Ref.lean ====
/- The output projection's reference, read at a row and a column. -/
module

public import proofs.«01_k».proof.Proof.OutProj.Cases
public import proofs.«01_k».proof.Proof.Gen.OutProjRefIdeal.Run

@[expose] public section

set_option maxRecDepth 16384

noncomputable section

open Idealize.ShloMosaic Idealize.ShloMosaic.TcCoe Idealize.SL.Sem
open Idealize.ShloMosaic.Pipeline (Dat)

namespace Cert.OutProjRefIdeal.Value

open Cert.OutProjRefIdeal Cert.OutProjRefIdeal.Gen Cert.Proof.OutProjIdealRun

/-- The second array's rows, normalised. -/
abbrev normT (A : FVec Ideal S24576x2048 .f32) (g : FVec Ideal S2048 .f32) : FVec Ideal S24576x2048 .f32 :=
  mulf (mulf A (broadcastInDim S24576x2048 ![0, 1] bcast_S24576x1_S24576x2048_0_1 (Host.rsqrt (addf (Host.divf (broadcastInDim S24576x1 ![0] bcast_S24576_S24576x1_0 (Host.reduceAdd (mulf A A) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))

/-- The joined rows. -/
abbrev catT (R A : FVec Ideal S24576x2048 .f32) (g : FVec Ideal S2048 .f32) : FVec Ideal S24576x4096 .f32 :=
  concatenate S24576x4096 1 [⟨S24576x2048, R⟩, ⟨S24576x2048, normT A g⟩] concatenates_S24576x2048_S24576x2048_S24576x4096_d1

/-- The product. -/
abbrev dotT (R A : FVec Ideal S24576x2048 .f32) (g : FVec Ideal S2048 .f32) (W : FVec Ideal S4096x4096 .f32) : FVec Ideal S24576x4096 .f32 :=
  Host.dotGeneral dot_S24576x4096_S4096x4096_S24576x4096_1_0_0_1_n_n none (catT R A g) W

theorem normT_apply (A : FVec Ideal S24576x2048 .f32) (g : FVec Ideal S2048 .f32) (n : Fin 24576) (l : Fin 2048) :
    normT A g (ix2 n l) = nrm (fun l => A (ix2 n l)) (fun l => g (ix1 l)) l := by
  pointwise [nrm]

theorem catT_apply (R A : FVec Ideal S24576x2048 .f32) (g : FVec Ideal S2048 .f32) (n : Fin 24576) (d : Fin 4096) :
    catT R A g (ix2 n d) = both (fun l => R (ix2 n l)) (fun l => A (ix2 n l)) (fun l => g (ix1 l)) d := by
  unfold both
  simp only [← normT_apply]
  unfold catT
  generalize normT A g = B
  pointwise

theorem dotT_apply (R A : FVec Ideal S24576x2048 .f32) (g : FVec Ideal S2048 .f32) (W : FVec Ideal S4096x4096 .f32) (n : Fin 24576) (e : Fin 4096) :
    dotT R A g W (ix2 n e) = prj R A g W n e := by
  unfold prj
  simp only [← catT_apply]
  unfold dotT
  generalize catT R A g = B
  pointwise

/-- The reference's first result at row `n` and column `e`. -/
theorem ref_applyA (R A : FVec Ideal S24576x2048 .f32) (g : FVec Ideal S2048 .f32) (W : FVec Ideal S4096x4096 .f32) (X : FVec Ideal S1x16384x4096 .f32)
    (n : Fin 16384) (e : Fin 4096) :
    (addf (shapeCast S16384x4096 X shapeCasts_S1x16384x4096_S16384x4096) (extractStridedSlice S16384x4096 ![0, 0] (dotT R A g W)
        slices_S24576x4096_S16384x4096_0_0) : FVec Ideal S16384x4096 .f32) (ix2 n e)
      = flatA X n e + prj R A g W ⟨n.val, by have := n.isLt; omega⟩ e := by
  rw [← dotT_apply]
  generalize dotT R A g W = B
  unfold flatA
  pointwise

/-- The reference's second result at row `n` and column `e`. -/
theorem ref_applyB (R A : FVec Ideal S24576x2048 .f32) (g : FVec Ideal S2048 .f32) (W : FVec Ideal S4096x4096 .f32) (Y : FVec Ideal S2x4096x4096 .f32)
    (n : Fin 8192) (e : Fin 4096) :
    (addf (shapeCast S8192x4096 Y shapeCasts_S2x4096x4096_S8192x4096) (extractStridedSlice S8192x4096 ![16384, 0] (dotT R A g W)
        slices_S24576x4096_S8192x4096_16384_0) : FVec Ideal S8192x4096 .f32) (ix2 n e)
      = flatB Y n e + prj R A g W ⟨16384 + n.val, by have := n.isLt; omega⟩ e := by
  rw [← dotT_apply]
  generalize dotT R A g W = B
  unfold flatB
  pointwise

end Cert.OutProjRefIdeal.Value

end
-- ==== Proof.OutProj.Claim.lean ====
/- The output projection's kernel and the reference leave the same results over the extended reals; the three programs'
   runs end, leave the arguments as they were and every semaphore at zero. -/
module

public import proofs.«01_k».proof.Defs
public import proofs.«01_k».proof.Proof.Gen.OutProj
public import proofs.«01_k».proof.Proof.OutProj.Frame
public import proofs.«01_k».proof.Proof.OutProj.Cases
public import proofs.«01_k».proof.Proof.OutProj.Ref
public import Idealize.ShloMosaic.Lib.Quiescent

@[expose] public section

noncomputable section

open Idealize.ShloMosaic Idealize.ShloMosaic.TcCoe Idealize.SL.Sem

namespace Cert.Proof.OutProjClaim

/-- The kernel and its idealization have the same text, so the same body table, -/
theorem bodies_eq : Cert.OutProj.defs₀ (F := Bits) = Cert.OutProjIdeal.defs₀ (F := Bits) := by
  unfold Cert.OutProj.defs₀ Cert.OutProjIdeal.defs₀
  refine congrArg Defs.onTc (funext fun l => ?_)
  match l with
  | 0 => rfl
/-- with each call's region beside it. -/
theorem defs_eq : Cert.OutProj.defs (F := Bits) = Cert.OutProjIdeal.defs (F := Bits) :=
  congrArg (Pipeline.defs Cert.OutProj.pcfgs) bodies_eq

/-- The kernel's run ends, with the arguments unchanged and every semaphore at zero: it is the idealization's run, which
    is stated over any float values. -/
theorem OutProj_frame : Cert.quiescent_OutProj := fun m ρ _ => by
  rw [defs_eq]
  exact Cert.Proof.OutProjIdealRun.frame_run (F := Bits) m ρ
/-- The same over the extended reals. -/
theorem OutProj_ideal_frame : Cert.quiescent_OutProjIdeal := fun m ρ _ => Cert.Proof.OutProjIdealRun.frame_run m ρ
/-- The reference's run ends, with the arguments unchanged; it has no semaphore. -/
theorem OutProj_ref_frame : Cert.quiescent_OutProjRefIdeal := fun m ρ _ =>
  (θ_run Cert.OutProjRefIdeal.defs _ _).mono (fun r h => ⟨fun c => (h c).2.2,
      Idealize.ShloMosaic.sem_eq_zero_of_no_sems (by decide) r.2⟩)
    (Cert.OutProjRefIdeal.Value.run (F := Ideal) m ρ)

/-- The kernel's run with both result arrays named. -/
theorem run_blocks (m : (ℓ : Loc Cert.OutProjIdeal.nD Cert.OutProjIdeal.τ Cert.OutProjIdeal.sig) → Buf (Elt Ideal) ℓ)
    (ρ : Dev Cert.OutProjIdeal.nD → PrngReg) :
    θ_run (Cert.OutProjIdeal.defs (F := Ideal)) (onTc (τ := Cert.OutProjIdeal.τ) (Cert.OutProjIdeal.main (F := Ideal))) ⟨m, fun _ => 0, ρ⟩ fun r =>
      ∀ c : Dev Cert.OutProjIdeal.nD,
        (r.2.mem ((c.tc : Thread Cert.OutProjIdeal.nD Cert.OutProjIdeal.τ).loc Cert.OutProjIdeal.main_v5_0)
            = (Cert.Proof.OutProjIdealRun.dats m 0 c).arrAt 6 (Cert.OutProjIdeal.cfgs 0).N
          ∧ r.2.mem ((c.tc : Thread Cert.OutProjIdeal.nD Cert.OutProjIdeal.τ).loc Cert.OutProjIdeal.main_v5_1)
            = (Cert.Proof.OutProjIdealRun.dats m 0 c).arrAt 7 (Cert.OutProjIdeal.cfgs 0).N) :=
  (θ_run Cert.OutProjIdeal.defs _ _).mono (fun r h c => ⟨(h c).1 6, (h c).1 7⟩) (Cert.Proof.OutProjIdealRun.run_main m ρ)

/-- The kernel's result arrays and the reference's are the same functions of arguments that agree. -/
theorem algebraic : Cert.algebraic_OutProjIdeal_OutProjRefIdeal := by
  intro m ρ m' ρ' _ hag
  refine ⟨fun c => (Cert.Proof.OutProjIdealRun.dats m 0 c).arrAt 6 (Cert.OutProjIdeal.cfgs 0).N,
    fun c => (Cert.Proof.OutProjIdealRun.dats m 0 c).arrAt 7 (Cert.OutProjIdeal.cfgs 0).N,
    (θ_run Cert.OutProjIdeal.defs _ _).mono (fun r h c => ⟨(h.1 c).1, (h.1 c).2, h.2.1 c⟩)
      (θ_run_and (run_blocks m ρ) (Cert.Proof.OutProjIdealRun.frame_run m ρ)),
    (θ_run Cert.OutProjRefIdeal.defs _ _).mono (fun _ h c => ⟨(h c).1.trans ?_, (h c).2.1.trans ?_, (h c).2.2⟩) (Cert.OutProjRefIdeal.Value.run m' ρ')⟩
  · refine (Cert.Proof.OutProjIdealRun.finalA m c _ fun n e => ?_).symm
    refine (Cert.OutProjRefIdeal.Value.ref_applyA _ _ _ _ _ n e).trans ?_
    rw [(hag c).1, (hag c).2.1, (hag c).2.2.1, (hag c).2.2.2.1, (hag c).2.2.2.2.1]
  · refine (Cert.Proof.OutProjIdealRun.finalB m c _ fun n e => ?_).symm
    refine (Cert.OutProjRefIdeal.Value.ref_applyB _ _ _ _ _ n e).trans ?_
    rw [(hag c).1, (hag c).2.1, (hag c).2.2.1, (hag c).2.2.2.1, (hag c).2.2.2.2.2]

end Cert.Proof.OutProjClaim

end
-- ==== Proof.Router.Split.lean ====
/- The router's kernel splits its two operands in halves. Of finite operands the low halves are zero over the extended
   reals, so what the kernel adds to the product of the high halves is zero. A normalised row is finite. -/
module

public import proofs.«01_k».proof.Proof.Norm.Cases

@[expose] public section

noncomputable section

open Idealize.ShloMosaic

namespace Cert.RouterSplit

open Cert.NormIdeal.Value (nrm)

/-- An extended real that is a real number. -/
def IsReal (x : EReal) : Prop := x ≠ ⊤ ∧ x ≠ ⊥

theorem fin_coe {x : EReal} (h : IsReal x) : ∃ r : ℝ, x = r := ⟨x.toReal, (EReal.coe_toReal h.1 h.2).symm⟩

theorem fin_real (r : ℝ) : IsReal (r : EReal) := ⟨EReal.coe_ne_top r, EReal.coe_ne_bot r⟩

theorem sub_self_fin {x : EReal} (h : IsReal x) : x - x = 0 := EReal.sub_self h.1 h.2

theorem fin_mul {x y : EReal} (hx : IsReal x) (hy : IsReal y) : IsReal (x * y) := by
  obtain ⟨a, rfl⟩ := fin_coe hx
  obtain ⟨b, rfl⟩ := fin_coe hy
  rw [← EReal.coe_mul]
  exact fin_real _

/-- A number below infinity in absolute value is a real number. -/
theorem fin_of_abs {x : EReal} (h : max x (-x) < ⊤) : IsReal x := by
  refine ⟨fun e => ?_, fun e => ?_⟩
  · rw [e] at h; simp at h
  · rw [e] at h; simp at h

/-- The norm's small constant is a positive real. -/
theorem eps_pos : ∃ r : ℝ, 0 < r ∧ Ideal.ofBits .f32 0x358637BD#32 = (r : EReal) := by
  refine ⟨_, ?_, by simp [Ideal.ofBits, Ideal.ieee, -EReal.coe_mul]; rfl⟩
  positivity

/-- The row's length is a positive real. -/
theorem width_pos : ∃ r : ℝ, 0 < r ∧ Ideal.ofBits .f32 0x45800000#32 = (r : EReal) := by
  refine ⟨_, ?_, by simp [Ideal.ofBits, Ideal.ieee, -EReal.coe_mul]; rfl⟩
  positivity

/-- The reciprocal root of a number above a positive real is a real. -/
theorem fin_rsqrt {v : EReal} {e : ℝ} (he : 0 < e) (h : (e : EReal) ≤ v) : IsReal (Ideal.rsqrt v) := by
  induction v with
  | bot => exact absurd h (by simp)
  | top => rw [Ideal.rsqrt_top]; exact fin_real 0
  | coe r =>
    have hr : 0 < r := lt_of_lt_of_le he (EReal.coe_le_coe_iff.mp h)
    rw [Ideal.rsqrt_coe, if_neg (not_lt.mpr hr.le), if_neg hr.ne']
    exact fin_real _

theorem sq_nonneg' (x : EReal) : 0 ≤ x * x := by
  induction x with
  | bot => simp
  | top => simp
  | coe r => rw [← EReal.coe_mul]; exact_mod_cast mul_self_nonneg r

/-- A normalised row times finite gains is finite, whatever the row is: a row with an infinity has the reciprocal root zero. -/
theorem fin_nrm (z g : Fin 4096 → EReal) (hg : ∀ l, IsReal (g l)) (e : Fin 4096) : IsReal (nrm z g e) := by
  obtain ⟨r, hr, er⟩ := eps_pos
  obtain ⟨w, hw, ew⟩ := width_pos
  have hS : (0 : EReal) ≤ ∑ l : Fin 4096, z l * z l := Finset.sum_nonneg fun l _ => sq_nonneg' (z l)
  have hle : z e * z e ≤ ∑ l : Fin 4096, z l * z l :=
    Finset.single_le_sum (f := fun l => z l * z l) (fun l _ => sq_nonneg' (z l)) (Finset.mem_univ e)
  rw [nrm, er, ew]
  generalize (∑ l : Fin 4096, z l * z l) = S at hS hle
  rw [Ideal.div_coe hw.ne']
  refine fin_mul ?_ (hg e)
  have hq : (0 : EReal) ≤ ((1 / w : ℝ) : EReal) := by exact_mod_cast (by positivity : (0 : ℝ) ≤ 1 / w)
  have hv : (r : EReal) ≤ S * ((1 / w : ℝ) : EReal) + (r : EReal) := le_add_of_nonneg_left (mul_nonneg hS hq)
  by_cases hz : IsReal (z e)
  · exact fin_mul hz (fin_rsqrt hr hv)
  · have hzz : z e * z e = ⊤ := by
      by_cases h1 : z e = ⊤
      · rw [h1]; rfl
      · have h2 : z e = ⊥ := by by_contra h2; exact hz ⟨h1, h2⟩
        rw [h2]; rfl
    have hT : S = ⊤ := top_le_iff.mp (hzz ▸ hle)
    have hT' : S * ((1 / w : ℝ) : EReal) + (r : EReal) = ⊤ := by
      rw [hT, EReal.top_mul_coe_of_pos (by positivity), EReal.top_add_coe]
    rw [hT', Ideal.rsqrt_top, mul_zero]
    exact fin_real 0

/-- The three products of the halves of finite numbers add up to the one product. -/
theorem split_sum (h w : Fin 4096 → EReal) (hh : ∀ l, IsReal (h l)) (hw : ∀ l, IsReal (w l)) :
    (∑ l, h l * w l) + ((∑ l, h l * (w l - w l)) + ∑ l, (h l - h l) * w l) = ∑ l, h l * w l := by
  have e1 : (∑ l, h l * (w l - w l)) = 0 := Finset.sum_eq_zero fun l _ => by rw [sub_self_fin (hw l), mul_zero]
  have e2 : (∑ l, (h l - h l) * w l) = 0 := Finset.sum_eq_zero fun l _ => by rw [sub_self_fin (hh l), zero_mul]
  rw [e1, e2, add_zero, add_zero]

end Cert.RouterSplit

end
-- ==== Proof.Router.Cases.lean ====
/- What one grid point of the router's kernel leaves in its output block, and the result array after the run. -/
module

public import proofs.«01_k».proof.Proof.Gen.RouterIdeal.Value
public import proofs.«01_k».proof.Proof.Router.Split
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RouterIdeal.Value

open Cert.RouterIdeal Cert.RouterIdeal.Gen Cert.RouterSplit
open Cert.NormIdeal.Value (nrm)

variable (m : (ℓ : Loc nD τ sig) → Buf (Elt Ideal) ℓ)

theorem pay1_apply (x : Vec Ideal S512x4096 .f32) (g : Vec Ideal S1x4096 .f32) (w : Vec Ideal S4096x16 .f32) (i : Fin 512) (e : Fin 16)
    (hg : ∀ l : Fin 4096, IsReal (g (ix2 0 l))) (hw : ∀ (l : Fin 4096) (e : Fin 16), IsReal (w (ix2 l e))) :
    k0_pay1 x g w (ix2 i e) = ∑ k : Fin 4096, nrm (fun l => x (ix2 i l)) (fun l => g (ix2 0 l)) k * w (ix2 k e) := by
  refine Eq.trans ?_ (split_sum (fun k => nrm (fun l => x (ix2 i l)) (fun l => g (ix2 0 l)) k) (fun k => w (ix2 k e))
    (fun k => fin_nrm _ _ hg k) (fun k => hw k e))
  pointwise [k0_pay1, nrm]

/-- A point leaves its rows' logits. -/
theorem caseA (c : Dev nD) (t : Fin cfg0.N) :
    out0_3 (iblk m c 0 t) (iblk m c 1 t) (iblk m c 2 t) = k0_pay1 (F := Ideal) (iblk m c 0 t) (iblk m c 1 t) (iblk m c 2 t) := by
  frame_out

/-- Where each window's block sits at each point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The place a block's row has in the result. -/
def row (t : Fin cfg0.N) (i : Fin 512) : Fin 16384 :=
  ⟨t.val * 512 + i.val, by have := i.isLt; have := lt_of_lt_of_eq t.isLt N_0; omega⟩

theorem blk0 (c : Dev nD) (t : Fin cfg0.N) (i : Fin 512) (e : Fin 4096) :
    (show Vec Ideal S512x4096 .f32 from iblk m c 0 t) (ix2 i e) = m ((c : Thread nD τ).loc main_arg0) (ix2 (row t i) e) := by
  blk_simp [iblk]
  entry_read
  blk_ext [idx t, row]

theorem blk1 (c : Dev nD) (t : Fin cfg0.N) (e : Fin 4096) :
    (show Vec Ideal S1x4096 .f32 from iblk m c 1 t) (ix2 0 e) = m ((c : Thread nD τ).loc main_arg1) (ix1 e) := by
  blk_simp [iblk]
  entry_read
  pointwise
  blk_ext [idx t]

theorem blk2 (c : Dev nD) (t : Fin cfg0.N) (l : Fin 4096) (e : Fin 16) :
    (show Vec Ideal S4096x16 .f32 from iblk m c 2 t) (ix2 l e) = m ((c : Thread nD τ).loc main_arg2) (ix2 l e) := by
  blk_simp [iblk]
  entry_read
  blk_ext [idx t]

/-- The logits of row `n`: its normalised entries against column `e` of the router's weights. -/
def logit (X : FVec Ideal S16384x4096 .f32) (g : FVec Ideal S4096 .f32) (W : FVec Ideal S4096x16 .f32) (n : Fin 16384) (e : Fin 16) : EReal :=
  ∑ k : Fin 4096, nrm (fun l => X (ix2 n l)) (fun l => g (ix1 l)) k * W (ix2 k e)

/-- What a point leaves in its output block. -/
theorem block_eq (c : Dev nD) (t : Fin cfg0.N) (i : Fin 512) (e : Fin 16)
    (hg : ∀ l : Fin 4096, IsReal (m ((c : Thread nD τ).loc main_arg1) (ix1 l)))
    (hw : ∀ (l : Fin 4096) (e : Fin 16), IsReal (m ((c : Thread nD τ).loc main_arg2) (ix2 l e))) :
    out0_3 (iblk m c 0 t) (iblk m c 1 t) (iblk m c 2 t) (ix2 i e)
      = logit (m ((c : Thread nD τ).loc main_arg0)) (m ((c : Thread nD τ).loc main_arg1)) (m ((c : Thread nD τ).loc main_arg2)) (row t i) e := by
  rw [caseA m c t, pay1_apply _ _ _ i e (fun l => (congrArg IsReal (blk1 m c t l)).mpr (hg l))
    (fun l e => (congrArg IsReal (blk2 m c t l e)).mpr (hw l e))]
  refine Finset.sum_congr rfl fun k _ => congrArg₂ (· * ·) ?_ (blk2 m c t k e)
  exact congrArg₂ (fun a b => nrm a b k) (funext fun l => blk0 m c t i l) (funext fun l => blk1 m c t l)

/-- The result array after the run. -/
theorem final (c : Dev nD) (G : FVec Ideal S16384x16 .f32)
    (hg : ∀ l : Fin 4096, IsReal (m ((c : Thread nD τ).loc main_arg1) (ix1 l)))
    (hw : ∀ (l : Fin 4096) (e : Fin 16), IsReal (m ((c : Thread nD τ).loc main_arg2) (ix2 l e)))
    (hG : ∀ n e, G (ix2 n e) = logit (m ((c : Thread nD τ).loc main_arg0)) (m ((c : Thread nD τ).loc main_arg1))
      (m ((c : Thread nD τ).loc main_arg2)) n e) :
    (dats m 0 c).arrAt 3 (cfgs 0).N = G := by
  refine (dats m 0 c).arrAt_eq_of_covers 3 _ (by decide +kernel) fun t hf y => ?_
  have hN := lt_of_lt_of_eq t.isLt N_0
  blk_simp
  rw [after0_3]
  idx_vars y
  have e : ((cfg0.win 3).blk t).view.emb (ix2 y0 y1) = ix2 (row t y0) y1 := by
    blk_ext [idx t, row]
  exact (block_eq m c t y0 y1 hg hw).trans ((congrArg G e).trans (hG _ _)).symm

end Cert.RouterIdeal.Value

end
-- ==== Proof.Router.Ref.lean ====
/- The router's reference, read at a row and a column. -/
module

public import proofs.«01_k».proof.Proof.Router.Cases
public import proofs.«01_k».proof.Proof.Gen.RouterRefIdeal.Run

@[expose] public section

set_option maxRecDepth 16384

noncomputable section

open Idealize.ShloMosaic Idealize.ShloMosaic.TcCoe Idealize.SL.Sem

namespace Cert.RouterRefIdeal.Value

open Cert.RouterRefIdeal Cert.RouterRefIdeal.Gen Cert.RouterIdeal.Value
open Cert.NormIdeal.Value (nrm)

/-- The rows, normalised. -/
def normT (X : FVec Ideal S16384x4096 .f32) (g : FVec Ideal S4096 .f32) : FVec Ideal S16384x4096 .f32 :=
  mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))

theorem normT_apply (X : FVec Ideal S16384x4096 .f32) (g : FVec Ideal S4096 .f32) (n : Fin 16384) (e : Fin 4096) :
    normT X g (ix2 n e) = nrm (fun l => X (ix2 n l)) (fun l => g (ix1 l)) e := by
  pointwise [normT, nrm]

/-- The reference's result at row `n` and column `e`. -/
theorem ref_apply (X : FVec Ideal S16384x4096 .f32) (g : FVec Ideal S4096 .f32) (W : FVec Ideal S4096x16 .f32) (n : Fin 16384) (e : Fin 16) :
    (Host.dotGeneral dot_S16384x4096_S4096x16_S16384x16_1_0_0_1_n_n none (normT X g) W : FVec Ideal S16384x16 .f32) (ix2 n e) = logit X g W n e := by
  pointwise
  simp only [normT_apply, logit]

end Cert.RouterRefIdeal.Value

end
-- ==== Proof.Router.Claim.lean ====
/- The router's kernel and the reference leave the same result over the extended reals, where the gains and the weights
   are finite. The frames of the three programs. -/
module

public import proofs.«01_k».proof.Defs
public import proofs.«01_k».proof.Proof.Router.Cases
public import proofs.«01_k».proof.Proof.Router.Ref
public import proofs.«01_k».proof.Proof.Gen.Router.Frame
public import proofs.«01_k».proof.Proof.Gen.Pre_gains_and_weights_finite
public import Idealize.ShloMosaic.Lib.Quiescent

@[expose] public section

noncomputable section

open Idealize.ShloMosaic Idealize.ShloMosaic.TcCoe Idealize.SL.Sem

namespace Cert.Proof.RouterClaim

open Cert.RouterSplit

/-- The kernel's run ends, with the arguments unchanged and every semaphore at zero. -/
theorem Router_frame : Cert.quiescent_Router := fun m ρ _ => Cert.Router.Gen.frame m ρ
/-- The same over the extended reals. -/
theorem Router_ideal_frame : Cert.quiescent_RouterIdeal := fun m ρ _ => Cert.RouterIdeal.Gen.frame m ρ
/-- The same where the gains and the weights are finite. -/
theorem Router_ideal_frame_pre : Cert.quiescent_RouterIdeal_pre_gains_and_weights_finite := fun m ρ _ => Cert.RouterIdeal.Gen.frame m ρ
/-- The reference's run ends, with the arguments unchanged; it has no semaphore. -/
theorem Router_ref_frame : Cert.quiescent_RouterRefIdeal := fun m ρ _ =>
  (θ_run Cert.RouterRefIdeal.defs _ _).mono (fun r h => ⟨fun c => (h c).2,
      Idealize.ShloMosaic.sem_eq_zero_of_no_sems (by decide) r.2⟩)
    (Cert.RouterRefIdeal.Value.run (F := Ideal) m ρ)
/-- The same where the gains and the weights are finite. -/
theorem Router_ref_frame_pre : Cert.quiescent_RouterRefIdeal_pre_gains_and_weights_finite := fun m ρ _ =>
  Router_ref_frame m ρ trivial

theorem inf_word : Ideal.ofBits .f32 0x7F800000#32 = ⊤ := by simp [Ideal.ofBits, Ideal.ieee]

/-- A comparison with infinity that holds says that the value is a real number. -/
theorem real_of_cmp {x : EReal} (h : Ideal.cmp .olt (max x (-x)) (Ideal.ofBits .f32 0x7F800000#32) = 1#1) : IsReal x := by
  rw [inf_word] at h
  refine fin_of_abs ?_
  by_contra hn
  simp [Ideal.cmp, hn] at h

/-- The kernel's result array and the reference's are one function of arguments that agree. -/
theorem algebraic : Cert.algebraic_RouterIdeal_RouterRefIdeal_pre_gains_and_weights_finite := by
  intro m ρ m' ρ' hpre hag
  refine ⟨fun c => (Cert.RouterIdeal.Gen.dats m 0 c).arrAt 3 (Cert.RouterIdeal.cfgs 0).N, Cert.RouterIdeal.Value.run_blocks m ρ,
    (θ_run Cert.RouterRefIdeal.defs _ _).mono (fun _ h c => ⟨(h c).1.trans ?_, (h c).2⟩) (Cert.RouterRefIdeal.Value.run m' ρ')⟩
  refine (Cert.RouterIdeal.Value.final m c _ (fun l => real_of_cmp (congrFun (hpre c).1 (ix1 l)))
    (fun l e => real_of_cmp (congrFun (hpre c).2 (ix2 l e))) fun n e => ?_).symm
  refine (Cert.RouterRefIdeal.Value.ref_apply _ _ _ n e).trans ?_
  rw [(hag c).1, (hag c).2.1, (hag c).2.2]

end Cert.Proof.RouterClaim

end
-- ==== Proof.lean ====
/- Every claim of the certificate: the frames from `Frames`, each value claim from its own module. -/
module

public import proofs.«01_k».proof.Proof.Frames
public import proofs.«01_k».proof.Proof.RetFwd.Claim
public import proofs.«01_k».proof.Proof.RetBwd.Claim
public import proofs.«01_k».proof.Proof.Moe.Claim
public import proofs.«01_k».proof.Proof.InProj.Claim
public import proofs.«01_k».proof.Proof.Norm.Claim
public import proofs.«01_k».proof.Proof.OutProj.Claim
public import proofs.«01_k».proof.Proof.Router.Claim
public import proofs.«01_k».proof.Proof.Gen.RetFwd
public import proofs.«01_k».proof.Proof.Gen.RetFwdIdeal
public import proofs.«01_k».proof.Proof.Gen.RetFwdRefIdeal
public import proofs.«01_k».proof.Proof.Gen.RetBwd
public import proofs.«01_k».proof.Proof.Gen.RetBwdIdeal
public import proofs.«01_k».proof.Proof.Gen.RetBwdRefIdeal
public import proofs.«01_k».proof.Proof.Gen.Moe
public import proofs.«01_k».proof.Proof.Gen.MoeIdeal
public import proofs.«01_k».proof.Proof.Gen.MoeRefIdeal
public import proofs.«01_k».proof.Proof.Gen.InProj
public import proofs.«01_k».proof.Proof.Gen.InProjIdeal
public import proofs.«01_k».proof.Proof.Gen.InProjRefIdeal
public import proofs.«01_k».proof.Proof.Gen.Norm
public import proofs.«01_k».proof.Proof.Gen.NormIdeal
public import proofs.«01_k».proof.Proof.Gen.NormRefIdeal
public import proofs.«01_k».proof.Proof.Gen.OutProj
public import proofs.«01_k».proof.Proof.Gen.OutProjIdeal
public import proofs.«01_k».proof.Proof.Gen.OutProjRefIdeal
public import proofs.«01_k».proof.Proof.Gen.Router
public import proofs.«01_k».proof.Proof.Gen.RouterIdeal
public import proofs.«01_k».proof.Proof.Gen.RouterRefIdeal

@[expose] public section

noncomputable section

namespace Cert.Proof

open Cert.Proof.Frames Cert.Proof.OutProjClaim Cert.Proof.RouterClaim

/-- The certificate's claims, in its order. -/
theorem claim : Cert.Claim := ⟨Cert.RetFwd.Gen.facts,
  Cert.RetFwdIdeal.Gen.facts,
  Cert.RetFwdRefIdeal.Gen.facts,
  Cert.RetBwd.Gen.facts,
  Cert.RetBwdIdeal.Gen.facts,
  Cert.RetBwdRefIdeal.Gen.facts,
  Cert.Moe.Gen.facts,
  Cert.MoeIdeal.Gen.facts,
  Cert.MoeRefIdeal.Gen.facts,
  Cert.InProj.Gen.facts,
  Cert.InProjIdeal.Gen.facts,
  Cert.InProjRefIdeal.Gen.facts,
  Cert.Norm.Gen.facts,
  Cert.NormIdeal.Gen.facts,
  Cert.NormRefIdeal.Gen.facts,
  Cert.OutProj.Gen.facts,
  Cert.OutProjIdeal.Gen.facts,
  Cert.OutProjRefIdeal.Gen.facts,
  Cert.Router.Gen.facts,
  Cert.RouterIdeal.Gen.facts,
  Cert.RouterRefIdeal.Gen.facts,
  Cert.Pre_gains_and_weights_finite.Gen.facts,
  RetFwd_frame,
  RetFwd_ideal_frame,
  RetFwd_ref_frame,
  RetBwd_frame,
  RetBwd_ideal_frame,
  RetBwd_ref_frame,
  Moe_frame,
  Moe_ideal_frame,
  Moe_ref_frame,
  InProj_frame,
  InProj_ideal_frame,
  InProj_ref_frame,
  Norm_frame,
  Norm_ideal_frame,
  Norm_ref_frame,
  OutProj_frame,
  OutProj_ideal_frame,
  OutProj_ref_frame,
  Router_frame,
  Router_ideal_frame,
  Router_ideal_frame_pre,
  Router_ref_frame,
  Router_ref_frame_pre,
  trivial,
  Cert.Proof.RetFwdClaim.algebraic,
  trivial,
  Cert.Proof.RetBwdClaim.algebraic,
  trivial,
  Cert.Proof.MoeClaim.algebraic,
  trivial,
  Cert.Proof.InProjClaim.algebraic,
  trivial,
  Cert.Proof.NormClaim.algebraic,
  trivial,
  Cert.Proof.OutProjClaim.algebraic,
  trivial,
  Cert.Proof.RouterClaim.algebraic⟩

end Cert.Proof

end
